-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnRef (m : (ℓ : Loc Cert.FfnRef.nD Cert.FfnRef.τ Cert.FfnRef.sig) → Buf (Elt Bits) ℓ) : Prop :=
  True

def Pre_Ln1 (m : (ℓ : Loc Cert.Ln1.nD Cert.Ln1.τ Cert.Ln1.sig) → Buf (Elt Bits) ℓ) : Prop :=
  True

def Pre_Ln1Ideal (m : (ℓ : Loc Cert.Ln1Ideal.nD Cert.Ln1Ideal.τ Cert.Ln1Ideal.sig) → Buf (Elt Ideal) ℓ) : Prop :=
  True

def Pre_Ln1RefIdeal (m : (ℓ : Loc Cert.Ln1RefIdeal.nD Cert.Ln1RefIdeal.τ Cert.Ln1RefIdeal.sig) → Buf (Elt Ideal) ℓ) : Prop :=
  True

def Pre_Ln1Ref (m : (ℓ : Loc Cert.Ln1Ref.nD Cert.Ln1Ref.τ Cert.Ln1Ref.sig) → Buf (Elt Bits) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11))
      ∧ r.2.sem = fun _ => 0)

def quiescent_FfnRef [hFfnRef : Cert.FfnRef.Facts] : Prop :=
  ∀ (m : (ℓ : Loc Cert.FfnRef.nD Cert.FfnRef.τ Cert.FfnRef.sig) → Buf (Elt Bits) ℓ) (g : Dev Cert.FfnRef.nD → PrngReg), Pre_FfnRef m →
    θ_run (Cert.FfnRef.defs (F := Bits)) (onTc (τ := Cert.FfnRef.τ) (Cert.FfnRef.main (F := Bits))) ⟨m, fun _ => 0, g⟩ (fun r => (∀ c : Dev Cert.FfnRef.nD,
      r.2.mem ((c.tc : Thread Cert.FfnRef.nD Cert.FfnRef.τ).loc Cert.FfnRef.main_arg0) = m ((c.tc : Thread Cert.FfnRef.nD Cert.FfnRef.τ).loc Cert.FfnRef.main_arg0)
      ∧ r.2.mem ((c.tc : Thread Cert.FfnRef.nD Cert.FfnRef.τ).loc Cert.FfnRef.main_arg1) = m ((c.tc : Thread Cert.FfnRef.nD Cert.FfnRef.τ).loc Cert.FfnRef.main_arg1)
      ∧ r.2.mem ((c.tc : Thread Cert.FfnRef.nD Cert.FfnRef.τ).loc Cert.FfnRef.main_arg2) = m ((c.tc : Thread Cert.FfnRef.nD Cert.FfnRef.τ).loc Cert.FfnRef.main_arg2)
      ∧ r.2.mem ((c.tc : Thread Cert.FfnRef.nD Cert.FfnRef.τ).loc Cert.FfnRef.main_arg3) = m ((c.tc : Thread Cert.FfnRef.nD Cert.FfnRef.τ).loc Cert.FfnRef.main_arg3)
      ∧ r.2.mem ((c.tc : Thread Cert.FfnRef.nD Cert.FfnRef.τ).loc Cert.FfnRef.main_arg4) = m ((c.tc : Thread Cert.FfnRef.nD Cert.FfnRef.τ).loc Cert.FfnRef.main_arg4)
      ∧ r.2.mem ((c.tc : Thread Cert.FfnRef.nD Cert.FfnRef.τ).loc Cert.FfnRef.main_arg5) = m ((c.tc : Thread Cert.FfnRef.nD Cert.FfnRef.τ).loc Cert.FfnRef.main_arg5)
      ∧ r.2.mem ((c.tc : Thread Cert.FfnRef.nD Cert.FfnRef.τ).loc Cert.FfnRef.main_arg6) = m ((c.tc : Thread Cert.FfnRef.nD Cert.FfnRef.τ).loc Cert.FfnRef.main_arg6)
      ∧ r.2.mem ((c.tc : Thread Cert.FfnRef.nD Cert.FfnRef.τ).loc Cert.FfnRef.main_arg7) = m ((c.tc : Thread Cert.FfnRef.nD Cert.FfnRef.τ).loc Cert.FfnRef.main_arg7)
      ∧ r.2.mem ((c.tc : Thread Cert.FfnRef.nD Cert.FfnRef.τ).loc Cert.FfnRef.main_arg8) = m ((c.tc : Thread Cert.FfnRef.nD Cert.FfnRef.τ).loc Cert.FfnRef.main_arg8)
      ∧ r.2.mem ((c.tc : Thread Cert.FfnRef.nD Cert.FfnRef.τ).loc Cert.FfnRef.main_arg9) = m ((c.tc : Thread Cert.FfnRef.nD Cert.FfnRef.τ).loc Cert.FfnRef.main_arg9)
      ∧ r.2.mem ((c.tc : Thread Cert.FfnRef.nD Cert.FfnRef.τ).loc Cert.FfnRef.main_arg10) = m ((c.tc : Thread Cert.FfnRef.nD Cert.FfnRef.τ).loc Cert.FfnRef.main_arg10)
      ∧ r.2.mem ((c.tc : Thread Cert.FfnRef.nD Cert.FfnRef.τ).loc Cert.FfnRef.main_arg11) = m ((c.tc : Thread Cert.FfnRef.nD Cert.FfnRef.τ).loc Cert.FfnRef.main_arg11))
      ∧ r.2.sem = fun _ => 0)

def quiescent_Ln1 [hLn1 : Cert.Ln1.Facts] : Prop :=
  ∀ (m : (ℓ : Loc Cert.Ln1.nD Cert.Ln1.τ Cert.Ln1.sig) → Buf (Elt Bits) ℓ) (g : Dev Cert.Ln1.nD → PrngReg), Pre_Ln1 m →
    θ_run (Cert.Ln1.defs (F := Bits)) (onTc (τ := Cert.Ln1.τ) (Cert.Ln1.main (F := Bits))) ⟨m, fun _ => 0, g⟩ (fun r => (∀ c : Dev Cert.Ln1.nD,
      r.2.mem ((c.tc : Thread Cert.Ln1.nD Cert.Ln1.τ).loc Cert.Ln1.main_arg0) = m ((c.tc : Thread Cert.Ln1.nD Cert.Ln1.τ).loc Cert.Ln1.main_arg0)
      ∧ r.2.mem ((c.tc : Thread Cert.Ln1.nD Cert.Ln1.τ).loc Cert.Ln1.main_arg1) = m ((c.tc : Thread Cert.Ln1.nD Cert.Ln1.τ).loc Cert.Ln1.main_arg1))
      ∧ r.2.sem = fun _ => 0)

def quiescent_Ln1Ideal [hLn1Ideal : Cert.Ln1Ideal.Facts] : Prop :=
  ∀ (m : (ℓ : Loc Cert.Ln1Ideal.nD Cert.Ln1Ideal.τ Cert.Ln1Ideal.sig) → Buf (Elt Ideal) ℓ) (g : Dev Cert.Ln1Ideal.nD → PrngReg), Pre_Ln1Ideal m →
    θ_run (Cert.Ln1Ideal.defs (F := Ideal)) (onTc (τ := Cert.Ln1Ideal.τ) (Cert.Ln1Ideal.main (F := Ideal))) ⟨m, fun _ => 0, g⟩ (fun r => (∀ c : Dev Cert.Ln1Ideal.nD,
      r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
      ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1))
      ∧ r.2.sem = fun _ => 0)

def quiescent_Ln1RefIdeal [hLn1RefIdeal : Cert.Ln1RefIdeal.Facts] : Prop :=
  ∀ (m : (ℓ : Loc Cert.Ln1RefIdeal.nD Cert.Ln1RefIdeal.τ Cert.Ln1RefIdeal.sig) → Buf (Elt Ideal) ℓ) (g : Dev Cert.Ln1RefIdeal.nD → PrngReg), Pre_Ln1RefIdeal m →
    θ_run (Cert.Ln1RefIdeal.defs (F := Ideal)) (onTc (τ := Cert.Ln1RefIdeal.τ) (Cert.Ln1RefIdeal.main (F := Ideal))) ⟨m, fun _ => 0, g⟩ (fun r => (∀ c : Dev Cert.Ln1RefIdeal.nD,
      r.2.mem ((c.tc : Thread Cert.Ln1RefIdeal.nD Cert.Ln1RefIdeal.τ).loc Cert.Ln1RefIdeal.main_arg0) = m ((c.tc : Thread Cert.Ln1RefIdeal.nD Cert.Ln1RefIdeal.τ).loc Cert.Ln1RefIdeal.main_arg0)
      ∧ r.2.mem ((c.tc : Thread Cert.Ln1RefIdeal.nD Cert.Ln1RefIdeal.τ).loc Cert.Ln1RefIdeal.main_arg1) = m ((c.tc : Thread Cert.Ln1RefIdeal.nD Cert.Ln1RefIdeal.τ).loc Cert.Ln1RefIdeal.main_arg1))
      ∧ r.2.sem = fun _ => 0)

def quiescent_Ln1Ref [hLn1Ref : Cert.Ln1Ref.Facts] : Prop :=
  ∀ (m : (ℓ : Loc Cert.Ln1Ref.nD Cert.Ln1Ref.τ Cert.Ln1Ref.sig) → Buf (Elt Bits) ℓ) (g : Dev Cert.Ln1Ref.nD → PrngReg), Pre_Ln1Ref m →
    θ_run (Cert.Ln1Ref.defs (F := Bits)) (onTc (τ := Cert.Ln1Ref.τ) (Cert.Ln1Ref.main (F := Bits))) ⟨m, fun _ => 0, g⟩ (fun r => (∀ c : Dev Cert.Ln1Ref.nD,
      r.2.mem ((c.tc : Thread Cert.Ln1Ref.nD Cert.Ln1Ref.τ).loc Cert.Ln1Ref.main_arg0) = m ((c.tc : Thread Cert.Ln1Ref.nD Cert.Ln1Ref.τ).loc Cert.Ln1Ref.main_arg0)
      ∧ r.2.mem ((c.tc : Thread Cert.Ln1Ref.nD Cert.Ln1Ref.τ).loc Cert.Ln1Ref.main_arg1) = m ((c.tc : Thread Cert.Ln1Ref.nD Cert.Ln1Ref.τ).loc Cert.Ln1Ref.main_arg1))
      ∧ r.2.sem = fun _ => 0)

def preserves_Ffn_FfnIdeal : Prop :=
  IdealRules.named_const.Statement Cert.FfnIdeal.κ "inv448" .f32 0x3B124925#32 ((1 / 448 : ℝ) : EReal)
  ∧ IdealRules.named_const.Statement Cert.FfnIdeal.κ "inv1920" .f32 0x3A088889#32 ((1 / 1920 : ℝ) : EReal)
  ∧ IdealRules.named_const.Statement Cert.FfnIdeal.κ "rcube" .f32 0x3D122279#32 (((Real.sqrt (2 * Real.pi⁻¹)) * (8943 / 200000) : ℝ) : EReal)
  ∧ IdealRules.named_const.Statement Cert.FfnIdeal.κ "root" .f32 0x3F4C422A#32 ((Real.sqrt (2 * Real.pi⁻¹) : ℝ) : EReal)

def preserves_FfnRef_FfnRefIdeal : Prop :=
  IdealRules.named_const.Statement Cert.FfnRefIdeal.κ "cube" .f32 0x3D372713#32 ((8943 / 200000 : ℝ) : EReal)
  ∧ IdealRules.named_const.Statement Cert.FfnRefIdeal.κ "root" .f32 0x3F4C422A#32 ((Real.sqrt (2 * Real.pi⁻¹) : ℝ) : EReal)

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)
      ∧ m' ((c.tc : Thread Cert.FfnRefIdeal.nD Cert.FfnRefIdeal.τ).loc Cert.FfnRefIdeal.main_arg11) = m ((c.tc : Thread Cert.FfnIdeal.nD Cert.FfnIdeal.τ).loc Cert.FfnIdeal.main_arg11)) →
    ∃ (v0 : (c : Dev Cert.FfnIdeal.nD) → Buf (Elt Ideal) ((c.tc : Thread Cert.FfnIdeal.nD Cert.FfnIdeal.τ).loc Cert.FfnIdeal.main_v8_0)) (v1 : (c : Dev Cert.FfnIdeal.nD) → Buf (Elt Ideal) ((c.tc : Thread Cert.FfnIdeal.nD Cert.FfnIdeal.τ).loc Cert.FfnIdeal.main_v8_1)) (v2 : (c : Dev Cert.FfnIdeal.nD) → Buf (Elt Ideal) ((c.tc : Thread Cert.FfnIdeal.nD Cert.FfnIdeal.τ).loc Cert.FfnIdeal.main_v8_2)) (v3 : (c : Dev Cert.FfnIdeal.nD) → Buf (Elt Ideal) ((c.tc : Thread Cert.FfnIdeal.nD Cert.FfnIdeal.τ).loc Cert.FfnIdeal.main_v8_3)) (v4 : (c : Dev Cert.FfnIdeal.nD) → Buf (Elt Ideal) ((c.tc : Thread Cert.FfnIdeal.nD Cert.FfnIdeal.τ).loc Cert.FfnIdeal.main_v8_4)) (v5 : (c : Dev Cert.FfnIdeal.nD) → Buf (Elt Ideal) ((c.tc : Thread Cert.FfnIdeal.nD Cert.FfnIdeal.τ).loc Cert.FfnIdeal.main_v8_5)) (v6 : (c : Dev Cert.FfnIdeal.nD) → Buf (Elt Ideal) ((c.tc : Thread Cert.FfnIdeal.nD Cert.FfnIdeal.τ).loc Cert.FfnIdeal.main_v8_6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8_0) = v0 c
          ∧ r.2.mem ((c.tc : Thread Cert.FfnIdeal.nD Cert.FfnIdeal.τ).loc Cert.FfnIdeal.main_v8_1) = v1 c
          ∧ r.2.mem ((c.tc : Thread Cert.FfnIdeal.nD Cert.FfnIdeal.τ).loc Cert.FfnIdeal.main_v8_2) = v2 c
          ∧ r.2.mem ((c.tc : Thread Cert.FfnIdeal.nD Cert.FfnIdeal.τ).loc Cert.FfnIdeal.main_v8_3) = v3 c
          ∧ r.2.mem ((c.tc : Thread Cert.FfnIdeal.nD Cert.FfnIdeal.τ).loc Cert.FfnIdeal.main_v8_4) = v4 c
          ∧ r.2.mem ((c.tc : Thread Cert.FfnIdeal.nD Cert.FfnIdeal.τ).loc Cert.FfnIdeal.main_v8_5) = v5 c
          ∧ r.2.mem ((c.tc : Thread Cert.FfnIdeal.nD Cert.FfnIdeal.τ).loc Cert.FfnIdeal.main_v8_6) = v6 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v8_0) = v0 c
          ∧ r.2.mem ((c.tc : Thread Cert.FfnRefIdeal.nD Cert.FfnRefIdeal.τ).loc Cert.FfnRefIdeal.main_v8_1) = v1 c
          ∧ r.2.mem ((c.tc : Thread Cert.FfnRefIdeal.nD Cert.FfnRefIdeal.τ).loc Cert.FfnRefIdeal.main_v8_2) = v2 c
          ∧ r.2.mem ((c.tc : Thread Cert.FfnRefIdeal.nD Cert.FfnRefIdeal.τ).loc Cert.FfnRefIdeal.main_v8_3) = v3 c
          ∧ r.2.mem ((c.tc : Thread Cert.FfnRefIdeal.nD Cert.FfnRefIdeal.τ).loc Cert.FfnRefIdeal.main_v8_4) = v4 c
          ∧ r.2.mem ((c.tc : Thread Cert.FfnRefIdeal.nD Cert.FfnRefIdeal.τ).loc Cert.FfnRefIdeal.main_v8_5) = v5 c
          ∧ r.2.mem ((c.tc : Thread Cert.FfnRefIdeal.nD Cert.FfnRefIdeal.τ).loc Cert.FfnRefIdeal.main_v8_6) = v6 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10)
          ∧ r.2.mem ((c.tc : Thread Cert.FfnRefIdeal.nD Cert.FfnRefIdeal.τ).loc Cert.FfnRefIdeal.main_arg11) = m' ((c.tc : Thread Cert.FfnRefIdeal.nD Cert.FfnRefIdeal.τ).loc Cert.FfnRefIdeal.main_arg11))

def preserves_Ln1_Ln1Ideal : Prop :=
  IdealRules.named_const.Statement Cert.Ln1Ideal.κ "inv1920" .f32 0x3A088889#32 ((1 / 1920 : ℝ) : EReal)
  ∧ IdealRules.named_const.Statement Cert.Ln1Ideal.κ "inv448" .f32 0x3B124925#32 ((1 / 448 : ℝ) : EReal)

def preserves_Ln1Ref_Ln1RefIdeal : Prop :=
  True

def algebraic_Ln1Ideal_Ln1RefIdeal [hLn1Ideal : Cert.Ln1Ideal.Facts] [hLn1RefIdeal : Cert.Ln1RefIdeal.Facts] : Prop :=
  ∀ (m : (ℓ : Loc Cert.Ln1Ideal.nD Cert.Ln1Ideal.τ Cert.Ln1Ideal.sig) → Buf (Elt Ideal) ℓ) (g : Dev Cert.Ln1Ideal.nD → PrngReg)
    (m' : (ℓ : Loc Cert.Ln1RefIdeal.nD Cert.Ln1RefIdeal.τ Cert.Ln1RefIdeal.sig) → Buf (Elt Ideal) ℓ) (g' : Dev Cert.Ln1RefIdeal.nD → PrngReg), Pre_Ln1Ideal m →
    (∀ c : Dev Cert.Ln1Ideal.nD,
      m' ((c.tc : Thread Cert.Ln1RefIdeal.nD Cert.Ln1RefIdeal.τ).loc Cert.Ln1RefIdeal.main_arg0) = m ((c.tc : Thread Cert.Ln1Ideal.nD Cert.Ln1Ideal.τ).loc Cert.Ln1Ideal.main_arg0)
      ∧ m' ((c.tc : Thread Cert.Ln1RefIdeal.nD Cert.Ln1RefIdeal.τ).loc Cert.Ln1RefIdeal.main_arg1) = m ((c.tc : Thread Cert.Ln1Ideal.nD Cert.Ln1Ideal.τ).loc Cert.Ln1Ideal.main_arg1)) →
    ∃ (v0 : (c : Dev Cert.Ln1Ideal.nD) → Buf (Elt Ideal) ((c.tc : Thread Cert.Ln1Ideal.nD Cert.Ln1Ideal.τ).loc Cert.Ln1Ideal.main_v2_0)) (v1 : (c : Dev Cert.Ln1Ideal.nD) → Buf (Elt Ideal) ((c.tc : Thread Cert.Ln1Ideal.nD Cert.Ln1Ideal.τ).loc Cert.Ln1Ideal.main_v2_1)) (v2 : (c : Dev Cert.Ln1Ideal.nD) → Buf (Elt Ideal) ((c.tc : Thread Cert.Ln1Ideal.nD Cert.Ln1Ideal.τ).loc Cert.Ln1Ideal.main_v2_2)) (v3 : (c : Dev Cert.Ln1Ideal.nD) → Buf (Elt Ideal) ((c.tc : Thread Cert.Ln1Ideal.nD Cert.Ln1Ideal.τ).loc Cert.Ln1Ideal.main_v2_3)),
      θ_run (Cert.Ln1Ideal.defs (F := Ideal)) (onTc (τ := Cert.Ln1Ideal.τ) (Cert.Ln1Ideal.main (F := Ideal))) ⟨m, fun _ => 0, g⟩ (fun r => ∀ c : Dev Cert.Ln1Ideal.nD,
          r.2.mem ((c.tc : Thread Cert.Ln1Ideal.nD Cert.Ln1Ideal.τ).loc Cert.Ln1Ideal.main_v2_0) = v0 c
          ∧ r.2.mem ((c.tc : Thread Cert.Ln1Ideal.nD Cert.Ln1Ideal.τ).loc Cert.Ln1Ideal.main_v2_1) = v1 c
          ∧ r.2.mem ((c.tc : Thread Cert.Ln1Ideal.nD Cert.Ln1Ideal.τ).loc Cert.Ln1Ideal.main_v2_2) = v2 c
          ∧ r.2.mem ((c.tc : Thread Cert.Ln1Ideal.nD Cert.Ln1Ideal.τ).loc Cert.Ln1Ideal.main_v2_3) = v3 c
          ∧ r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
          ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1))
      ∧ θ_run (Cert.Ln1RefIdeal.defs (F := Ideal)) (onTc (τ := Cert.Ln1RefIdeal.τ) (Cert.Ln1RefIdeal.main (F := Ideal))) ⟨m', fun _ => 0, g'⟩ (fun r => ∀ c : Dev Cert.Ln1RefIdeal.nD,
          r.2.mem ((c.tc : Thread Cert.Ln1RefIdeal.nD Cert.Ln1RefIdeal.τ).loc Cert.Ln1RefIdeal.main_v2_0) = v0 c
          ∧ r.2.mem ((c.tc : Thread Cert.Ln1RefIdeal.nD Cert.Ln1RefIdeal.τ).loc Cert.Ln1RefIdeal.main_v2_1) = v1 c
          ∧ r.2.mem ((c.tc : Thread Cert.Ln1RefIdeal.nD Cert.Ln1RefIdeal.τ).loc Cert.Ln1RefIdeal.main_v2_2) = v2 c
          ∧ r.2.mem ((c.tc : Thread Cert.Ln1RefIdeal.nD Cert.Ln1RefIdeal.τ).loc Cert.Ln1RefIdeal.main_v2_3) = v3 c
          ∧ r.2.mem ((c.tc : Thread Cert.Ln1RefIdeal.nD Cert.Ln1RefIdeal.τ).loc Cert.Ln1RefIdeal.main_arg0) = m' ((c.tc : Thread Cert.Ln1RefIdeal.nD Cert.Ln1RefIdeal.τ).loc Cert.Ln1RefIdeal.main_arg0)
          ∧ r.2.mem ((c.tc : Thread Cert.Ln1RefIdeal.nD Cert.Ln1RefIdeal.τ).loc Cert.Ln1RefIdeal.main_arg1) = m' ((c.tc : Thread Cert.Ln1RefIdeal.nD Cert.Ln1RefIdeal.τ).loc Cert.Ln1RefIdeal.main_arg1))

def Claim : Prop :=
  ∃ (hFfn : Cert.Ffn.Facts) (hFfnIdeal : Cert.FfnIdeal.Facts) (hFfnRefIdeal : Cert.FfnRefIdeal.Facts) (hFfnRef : Cert.FfnRef.Facts) (hLn1 : Cert.Ln1.Facts) (hLn1Ideal : Cert.Ln1Ideal.Facts) (hLn1RefIdeal : Cert.Ln1RefIdeal.Facts) (hLn1Ref : Cert.Ln1Ref.Facts),
    quiescent_Ffn (hFfn := hFfn)
    ∧ quiescent_FfnIdeal (hFfnIdeal := hFfnIdeal)
    ∧ quiescent_FfnRefIdeal (hFfnRefIdeal := hFfnRefIdeal)
    ∧ quiescent_FfnRef (hFfnRef := hFfnRef)
    ∧ quiescent_Ln1 (hLn1 := hLn1)
    ∧ quiescent_Ln1Ideal (hLn1Ideal := hLn1Ideal)
    ∧ quiescent_Ln1RefIdeal (hLn1RefIdeal := hLn1RefIdeal)
    ∧ quiescent_Ln1Ref (hLn1Ref := hLn1Ref)
    ∧ preserves_Ffn_FfnIdeal
    ∧ preserves_FfnRef_FfnRefIdeal
    ∧ algebraic_FfnIdeal_FfnRefIdeal (hFfnIdeal := hFfnIdeal) (hFfnRefIdeal := hFfnRefIdeal)
    ∧ preserves_Ln1_Ln1Ideal
    ∧ preserves_Ln1Ref_Ln1RefIdeal
    ∧ algebraic_Ln1Ideal_Ln1RefIdeal (hLn1Ideal := hLn1Ideal) (hLn1RefIdeal := hLn1RefIdeal)
-- ==== Ffn.lean ====
abbrev S100x16x1920 : Shape := ⟨3, ![100, 16, 1920]⟩
abbrev S16x100x1920 : Shape := ⟨3, ![16, 100, 1920]⟩
abbrev S16x6x1920 : Shape := ⟨3, ![16, 6, 1920]⟩
abbrev S1920x1920 : Shape := ⟨2, ![1920, 1920]⟩
abbrev S1920 : Shape := ⟨1, ![1920]⟩
abbrev S1920x7680 : Shape := ⟨2, ![1920, 7680]⟩
abbrev S7680 : Shape := ⟨1, ![7680]⟩
abbrev S7680x1920 : Shape := ⟨2, ![7680, 1920]⟩
abbrev S6x16x1920 : Shape := ⟨3, ![6, 16, 1920]⟩
abbrev S1x1920 : Shape := ⟨2, ![1, 1920]⟩
abbrev S1x7680 : Shape := ⟨2, ![1, 7680]⟩
abbrev S16x100 : Shape := ⟨2, ![16, 100]⟩
abbrev S100x16x7680 : Shape := ⟨3, ![100, 16, 7680]⟩
abbrev S10x16x1920 : Shape := ⟨3, ![10, 16, 1920]⟩
abbrev S10x16x7680 : Shape := ⟨3, ![10, 16, 7680]⟩
abbrev S160x1920 : Shape := ⟨2, ![160, 1920]⟩
abbrev S160x128 : Shape := ⟨2, ![160, 128]⟩
abbrev S160x7680 : Shape := ⟨2, ![160, 7680]⟩
abbrev S2x16x1920 : Shape := ⟨3, ![2, 16, 1920]⟩
abbrev S2x16 : Shape := ⟨2, ![2, 16]⟩
abbrev S2x16x1 : Shape := ⟨3, ![2, 16, 1]⟩
abbrev S32x1920 : Shape := ⟨2, ![32, 1920]⟩
abbrev S32x1 : Shape := ⟨2, ![32, 1]⟩
abbrev S32x128 : Shape := ⟨2, ![32, 128]⟩
abbrev S1x16x1 : Shape := ⟨3, ![1, 16, 1]⟩
abbrev S16x1 : Shape := ⟨2, ![16, 1]⟩
abbrev S160x1 : Shape := ⟨2, ![160, 1]⟩
abbrev S1x16x1920 : Shape := ⟨3, ![1, 16, 1920]⟩
abbrev S16x1920 : Shape := ⟨2, ![16, 1920]⟩
abbrev S1920x512 : Shape := ⟨2, ![1920, 512]⟩
abbrev S160x512 : Shape := ⟨2, ![160, 512]⟩
abbrev S1x512 : Shape := ⟨2, ![1, 512]⟩
abbrev S160 : Shape := ⟨1, ![160]⟩
abbrev S10x16x1 : Shape := ⟨3, ![10, 16, 1]⟩
abbrev S10x16x512 : Shape := ⟨3, ![10, 16, 512]⟩

abbrev nBuf : Space → Nat
  | .hbm => 27
  | .vmem => 30
  | .smem => 0
  | _ => 0

abbrev bufTy : (tb : Table) → Fin (tcTables nBuf tb) → BufTy
  | .hbm, ⟨0, _⟩ => ⟨S100x16x1920, .f32⟩
  | .hbm, ⟨1, _⟩ => ⟨S16x100x1920, .bf16⟩
  | .hbm, ⟨2, _⟩ => ⟨S16x6x1920, .f32⟩
  | .hbm, ⟨3, _⟩ => ⟨S1920x1920, .fp8e4m3⟩
  | .hbm, ⟨4, _⟩ => ⟨S1920, .f32⟩
  | .hbm, ⟨5, _⟩ => ⟨S1920, .f32⟩
  | .hbm, ⟨6, _⟩ => ⟨S1920x7680, .fp8e4m3⟩
  | .hbm, ⟨7, _⟩ => ⟨S7680, .f32⟩
  | .hbm, ⟨8, _⟩ => ⟨S7680, .f32⟩
  | .hbm, ⟨9, _⟩ => ⟨S7680x1920, .fp8e4m3⟩
  | .hbm, ⟨10, _⟩ => ⟨S1920, .f32⟩
  | .hbm, ⟨11, _⟩ => ⟨S1920, .f32⟩
  | .hbm, ⟨12, _⟩ => ⟨S100x16x1920, .bf16⟩
  | .hbm, ⟨13, _⟩ => ⟨S6x16x1920, .f32⟩
  | .hbm, ⟨14, _⟩ => ⟨S1x1920, .f32⟩
  | .hbm, ⟨15, _⟩ => ⟨S1x1920, .f32⟩
  | .hbm, ⟨16, _⟩ => ⟨S1x7680, .f32⟩
  | .hbm, ⟨17, _⟩ => ⟨S1x7680, .f32⟩
  | .hbm, ⟨18, _⟩ => ⟨S1x1920, .f32⟩
  | .hbm, ⟨19, _⟩ => ⟨S1x1920, .f32⟩
  | .hbm, ⟨20, _⟩ => ⟨S100x16x1920, .bf16⟩
  | .hbm, ⟨21, _⟩ => ⟨S100x16x1920, .fp8e4m3⟩
  | .hbm, ⟨22, _⟩ => ⟨S16x100, .f32⟩
  | .hbm, ⟨23, _⟩ => ⟨S100x16x1920, .fp8e4m3⟩
  | .hbm, ⟨24, _⟩ => ⟨S16x100, .f32⟩
  | .hbm, ⟨25, _⟩ => ⟨S100x16x7680, .fp8e4m3⟩
  | .hbm, ⟨26, _⟩ => ⟨S16x100, .f32⟩
  | .local _ .vmem, ⟨0, _⟩ => ⟨S10x16x1920, .f32⟩
  | .local _ .vmem, ⟨1, _⟩ => ⟨S10x16x1920, .f32⟩
  | .local _ .vmem, ⟨2, _⟩ => ⟨S10x16x1920, .bf16⟩
  | .local _ .vmem, ⟨3, _⟩ => ⟨S10x16x1920, .bf16⟩
  | .local _ .vmem, ⟨4, _⟩ => ⟨S6x16x1920, .f32⟩
  | .local _ .vmem, ⟨5, _⟩ => ⟨S1920x1920, .fp8e4m3⟩
  | .local _ .vmem, ⟨6, _⟩ => ⟨S1x1920, .f32⟩
  | .local _ .vmem, ⟨7, _⟩ => ⟨S1x1920, .f32⟩
  | .local _ .vmem, ⟨8, _⟩ => ⟨S1920x7680, .fp8e4m3⟩
  | .local _ .vmem, ⟨9, _⟩ => ⟨S1x7680, .f32⟩
  | .local _ .vmem, ⟨10, _⟩ => ⟨S1x7680, .f32⟩
  | .local _ .vmem, ⟨11, _⟩ => ⟨S7680x1920, .fp8e4m3⟩
  | .local _ .vmem, ⟨12, _⟩ => ⟨S1x1920, .f32⟩
  | .local _ .vmem, ⟨13, _⟩ => ⟨S1x1920, .f32⟩
  | .local _ .vmem, ⟨14, _⟩ => ⟨S10x16x1920, .bf16⟩
  | .local _ .vmem, ⟨15, _⟩ => ⟨S10x16x1920, .bf16⟩
  | .local _ .vmem, ⟨16, _⟩ => ⟨S10x16x1920, .fp8e4m3⟩
  | .local _ .vmem, ⟨17, _⟩ => ⟨S10x16x1920, .fp8e4m3⟩
  | .local _ .vmem, ⟨18, _⟩ => ⟨S16x100, .f32⟩
  | .local _ .vmem, ⟨19, _⟩ => ⟨S10x16x1920, .fp8e4m3⟩
  | .local _ .vmem, ⟨20, _⟩ => ⟨S10x16x1920, .fp8e4m3⟩
  | .local _ .vmem, ⟨21, _⟩ => ⟨S16x100, .f32⟩
  | .local _ .vmem, ⟨22, _⟩ => ⟨S10x16x7680, .fp8e4m3⟩
  | .local _ .vmem, ⟨23, _⟩ => ⟨S10x16x7680, .fp8e4m3⟩
  | .local _ .vmem, ⟨24, _⟩ => ⟨S16x100, .f32⟩
  | .local _ .vmem, ⟨25, _⟩ => ⟨S160x1920, .fp8e4m3⟩
  | .local _ .vmem, ⟨26, _⟩ => ⟨S10x16x1920, .f32⟩
  | .local _ .vmem, ⟨27, _⟩ => ⟨S160x128, .f32⟩
  | .local _ .vmem, ⟨28, _⟩ => ⟨S160x7680, .f32⟩
  | .local _ .vmem, ⟨29, _⟩ => ⟨S160x7680, .fp8e4m3⟩
  | _, _ => ⟨S100x16x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev main_v8_5 : Ref sig .tc := ⟨.hbm, 25, rfl⟩
abbrev main_v8_6 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem17_0 : DmaSem sig := 22
abbrev cc0_sem17_1 : DmaSem sig := 23
abbrev cc0_sem18_0 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10x16x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10x16x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x16x1920 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1920x1920 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1920 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1920 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1920x7680 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x7680 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x7680 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S7680x1920 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1920 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1920 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S10x16x1920 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S10x16x1920 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S16x100 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S10x16x1920 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S16x100 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S10x16x7680 .fp8e4m3 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S16x100 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== FfnIdeal.lean ====
variable {F : FTy → Type} [FloatOps F] [Named F]
def κ : String → Option EReal := fun
  | "inv1920" => some ((1 / 1920 : ℝ) : EReal)
  | "inv448" => some ((1 / 448 : ℝ) : EReal)
  | "rcube" => some (((Real.sqrt (2 * Real.pi⁻¹)) * (8943 / 200000) : ℝ) : EReal)
  | "root" => some ((Real.sqrt (2 * Real.pi⁻¹) : ℝ) : EReal)
  | _ => none
-- ==== FfnRefIdeal.lean ====
variable {F : FTy → Type} [FloatOps F] [Named F]
def κ : String → Option EReal := fun
  | "cube" => some ((8943 / 200000 : ℝ) : EReal)
  | "root" => some ((Real.sqrt (2 * Real.pi⁻¹) : ℝ) : EReal)
  | _ => none
-- ==== FfnRef.lean ====
abbrev S100x16x1920 : Shape := ⟨3, ![100, 16, 1920]⟩
abbrev S16x100x1920 : Shape := ⟨3, ![16, 100, 1920]⟩
abbrev S16x6x1920 : Shape := ⟨3, ![16, 6, 1920]⟩
abbrev S1920x1920 : Shape := ⟨2, ![1920, 1920]⟩
abbrev S1920 : Shape := ⟨1, ![1920]⟩
abbrev S1920x7680 : Shape := ⟨2, ![1920, 7680]⟩
abbrev S7680 : Shape := ⟨1, ![7680]⟩
abbrev S7680x1920 : Shape := ⟨2, ![7680, 1920]⟩
abbrev S6x16x1920 : Shape := ⟨3, ![6, 16, 1920]⟩
abbrev S1x1920 : Shape := ⟨2, ![1, 1920]⟩
abbrev S1x7680 : Shape := ⟨2, ![1, 7680]⟩
abbrev S16x100 : Shape := ⟨2, ![16, 100]⟩
abbrev S100x16x7680 : Shape := ⟨3, ![100, 16, 7680]⟩
abbrev S1x16x1920 : Shape := ⟨3, ![1, 16, 1920]⟩
abbrev S16x1920 : Shape := ⟨2, ![16, 1920]⟩
abbrev S100x16 : Shape := ⟨2, ![100, 16]⟩
abbrev S100x16x1 : Shape := ⟨3, ![100, 16, 1]⟩
abbrev S1600x1920 : Shape := ⟨2, ![1600, 1920]⟩
abbrev S1x1x1920 : Shape := ⟨3, ![1, 1, 1920]⟩
abbrev S1600x7680 : Shape := ⟨2, ![1600, 7680]⟩
abbrev S1x1x7680 : Shape := ⟨3, ![1, 1, 7680]⟩

abbrev nBuf : Space → Nat
  | .hbm => 27
  | .vmem => 19
  | .smem => 0
  | _ => 0

abbrev bufTy : (tb : Table) → Fin (tcTables nBuf tb) → BufTy
  | .hbm, ⟨0, _⟩ => ⟨S100x16x1920, .f32⟩
  | .hbm, ⟨1, _⟩ => ⟨S16x100x1920, .bf16⟩
  | .hbm, ⟨2, _⟩ => ⟨S16x6x1920, .f32⟩
  | .hbm, ⟨3, _⟩ => ⟨S1920x1920, .fp8e4m3⟩
  | .hbm, ⟨4, _⟩ => ⟨S1920, .f32⟩
  | .hbm, ⟨5, _⟩ => ⟨S1920, .f32⟩
  | .hbm, ⟨6, _⟩ => ⟨S1920x7680, .fp8e4m3⟩
  | .hbm, ⟨7, _⟩ => ⟨S7680, .f32⟩
  | .hbm, ⟨8, _⟩ => ⟨S7680, .f32⟩
  | .hbm, ⟨9, _⟩ => ⟨S7680x1920, .fp8e4m3⟩
  | .hbm, ⟨10, _⟩ => ⟨S1920, .f32⟩
  | .hbm, ⟨11, _⟩ => ⟨S1920, .f32⟩
  | .hbm, ⟨12, _⟩ => ⟨S100x16x1920, .bf16⟩
  | .hbm, ⟨13, _⟩ => ⟨S6x16x1920, .f32⟩
  | .hbm, ⟨14, _⟩ => ⟨S1x1920, .f32⟩
  | .hbm, ⟨15, _⟩ => ⟨S1x1920, .f32⟩
  | .hbm, ⟨16, _⟩ => ⟨S1x7680, .f32⟩
  | .hbm, ⟨17, _⟩ => ⟨S1x7680, .f32⟩
  | .hbm, ⟨18, _⟩ => ⟨S1x1920, .f32⟩
  | .hbm, ⟨19, _⟩ => ⟨S1x1920, .f32⟩
  | .hbm, ⟨20, _⟩ => ⟨S100x16x1920, .bf16⟩
  | .hbm, ⟨21, _⟩ => ⟨S100x16x1920, .fp8e4m3⟩
  | .hbm, ⟨22, _⟩ => ⟨S16x100, .f32⟩
  | .hbm, ⟨23, _⟩ => ⟨S100x16x1920, .fp8e4m3⟩
  | .hbm, ⟨24, _⟩ => ⟨S16x100, .f32⟩
  | .hbm, ⟨25, _⟩ => ⟨S100x16x7680, .fp8e4m3⟩
  | .hbm, ⟨26, _⟩ => ⟨S16x100, .f32⟩
  | .local _ .vmem, ⟨0, _⟩ => ⟨S100x16x1920, .f32⟩
  | .local _ .vmem, ⟨1, _⟩ => ⟨S100x16x1920, .bf16⟩
  | .local _ .vmem, ⟨2, _⟩ => ⟨S6x16x1920, .f32⟩
  | .local _ .vmem, ⟨3, _⟩ => ⟨S1920x1920, .fp8e4m3⟩
  | .local _ .vmem, ⟨4, _⟩ => ⟨S1x1920, .f32⟩
  | .local _ .vmem, ⟨5, _⟩ => ⟨S1x1920, .f32⟩
  | .local _ .vmem, ⟨6, _⟩ => ⟨S1920x7680, .fp8e4m3⟩
  | .local _ .vmem, ⟨7, _⟩ => ⟨S1x7680, .f32⟩
  | .local _ .vmem, ⟨8, _⟩ => ⟨S1x7680, .f32⟩
  | .local _ .vmem, ⟨9, _⟩ => ⟨S7680x1920, .fp8e4m3⟩
  | .local _ .vmem, ⟨10, _⟩ => ⟨S1x1920, .f32⟩
  | .local _ .vmem, ⟨11, _⟩ => ⟨S1x1920, .f32⟩
  | .local _ .vmem, ⟨12, _⟩ => ⟨S100x16x1920, .bf16⟩
  | .local _ .vmem, ⟨13, _⟩ => ⟨S100x16x1920, .fp8e4m3⟩
  | .local _ .vmem, ⟨14, _⟩ => ⟨S16x100, .f32⟩
  | .local _ .vmem, ⟨15, _⟩ => ⟨S100x16x1920, .fp8e4m3⟩
  | .local _ .vmem, ⟨16, _⟩ => ⟨S16x100, .f32⟩
  | .local _ .vmem, ⟨17, _⟩ => ⟨S100x16x7680, .fp8e4m3⟩
  | .local _ .vmem, ⟨18, _⟩ => ⟨S16x100, .f32⟩
  | _, _ => ⟨S100x16x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev main_v8_5 : Ref sig .tc := ⟨.hbm, 25, rfl⟩
abbrev main_v8_6 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S100x16x1920 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S100x16x1920 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x16x1920 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x1920 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1920 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1920 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1920x7680 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x7680 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x7680 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7680x1920 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1920 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1920 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S100x16x1920 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S100x16x1920 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x100 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S100x16x1920 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S16x100 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S100x16x7680 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S16x100 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Ln1.lean ====
abbrev S16x100x1920 : Shape := ⟨3, ![16, 100, 1920]⟩
abbrev S16x6x1920 : Shape := ⟨3, ![16, 6, 1920]⟩
abbrev S100x16x1920 : Shape := ⟨3, ![100, 16, 1920]⟩
abbrev S6x16x1920 : Shape := ⟨3, ![6, 16, 1920]⟩
abbrev S1600x1920 : Shape := ⟨2, ![1600, 1920]⟩
abbrev S16x100 : Shape := ⟨2, ![16, 100]⟩
abbrev S1600x128 : Shape := ⟨2, ![1600, 128]⟩
abbrev S20x16x1920 : Shape := ⟨3, ![20, 16, 1920]⟩
abbrev S320x1920 : Shape := ⟨2, ![320, 1920]⟩
abbrev S320x128 : Shape := ⟨2, ![320, 128]⟩
abbrev S1x16x1920 : Shape := ⟨3, ![1, 16, 1920]⟩
abbrev S16x1920 : Shape := ⟨2, ![16, 1920]⟩
abbrev S2x16x1920 : Shape := ⟨3, ![2, 16, 1920]⟩
abbrev S2x16 : Shape := ⟨2, ![2, 16]⟩
abbrev S2x16x1 : Shape := ⟨3, ![2, 16, 1]⟩
abbrev S32x1920 : Shape := ⟨2, ![32, 1920]⟩
abbrev S32x1 : Shape := ⟨2, ![32, 1]⟩
abbrev S32x128 : Shape := ⟨2, ![32, 128]⟩
abbrev S1x16x1 : Shape := ⟨3, ![1, 16, 1]⟩
abbrev S16x1 : Shape := ⟨2, ![16, 1]⟩

abbrev nBuf : Space → Nat
  | .hbm => 8
  | .vmem => 10
  | .smem => 0
  | _ => 0

abbrev bufTy : (tb : Table) → Fin (tcTables nBuf tb) → BufTy
  | .hbm, ⟨0, _⟩ => ⟨S16x100x1920, .bf16⟩
  | .hbm, ⟨1, _⟩ => ⟨S16x6x1920, .f32⟩
  | .hbm, ⟨2, _⟩ => ⟨S100x16x1920, .bf16⟩
  | .hbm, ⟨3, _⟩ => ⟨S6x16x1920, .f32⟩
  | .hbm, ⟨4, _⟩ => ⟨S100x16x1920, .fp8e4m3⟩
  | .hbm, ⟨5, _⟩ => ⟨S1600x1920, .fp8e4m3⟩
  | .hbm, ⟨6, _⟩ => ⟨S16x100, .f32⟩
  | .hbm, ⟨7, _⟩ => ⟨S1600x128, .f32⟩
  | .local _ .vmem, ⟨0, _⟩ => ⟨S20x16x1920, .bf16⟩
  | .local _ .vmem, ⟨1, _⟩ => ⟨S20x16x1920, .bf16⟩
  | .local _ .vmem, ⟨2, _⟩ => ⟨S6x16x1920, .f32⟩
  | .local _ .vmem, ⟨3, _⟩ => ⟨S20x16x1920, .fp8e4m3⟩
  | .local _ .vmem, ⟨4, _⟩ => ⟨S20x16x1920, .fp8e4m3⟩
  | .local _ .vmem, ⟨5, _⟩ => ⟨S320x1920, .fp8e4m3⟩
  | .local _ .vmem, ⟨6, _⟩ => ⟨S320x1920, .fp8e4m3⟩
  | .local _ .vmem, ⟨7, _⟩ => ⟨S16x100, .f32⟩
  | .local _ .vmem, ⟨8, _⟩ => ⟨S320x128, .f32⟩
  | .local _ .vmem, ⟨9, _⟩ => ⟨S320x128, .f32⟩
  | _, _ => ⟨S16x100x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20x16x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x16x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20x16x1920 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x1920 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S320x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Ln1Ideal.lean ====
variable {F : FTy → Type} [FloatOps F] [Named F]
def κ : String → Option EReal := fun
  | "inv1920" => some ((1 / 1920 : ℝ) : EReal)
  | "inv448" => some ((1 / 448 : ℝ) : EReal)
  | _ => none
-- ==== Ln1Ref.lean ====
abbrev S16x100x1920 : Shape := ⟨3, ![16, 100, 1920]⟩
abbrev S16x6x1920 : Shape := ⟨3, ![16, 6, 1920]⟩
abbrev S100x16x1920 : Shape := ⟨3, ![100, 16, 1920]⟩
abbrev S6x16x1920 : Shape := ⟨3, ![6, 16, 1920]⟩
abbrev S1600x1920 : Shape := ⟨2, ![1600, 1920]⟩
abbrev S16x100 : Shape := ⟨2, ![16, 100]⟩
abbrev S1600x128 : Shape := ⟨2, ![1600, 128]⟩
abbrev S1x16x1920 : Shape := ⟨3, ![1, 16, 1920]⟩
abbrev S16x1920 : Shape := ⟨2, ![16, 1920]⟩
abbrev S100x16 : Shape := ⟨2, ![100, 16]⟩
abbrev S100x16x1 : Shape := ⟨3, ![100, 16, 1]⟩
abbrev S1600x1 : Shape := ⟨2, ![1600, 1]⟩

abbrev nBuf : Space → Nat
  | .hbm => 8
  | .vmem => 6
  | .smem => 0
  | _ => 0

abbrev bufTy : (tb : Table) → Fin (tcTables nBuf tb) → BufTy
  | .hbm, ⟨0, _⟩ => ⟨S16x100x1920, .bf16⟩
  | .hbm, ⟨1, _⟩ => ⟨S16x6x1920, .f32⟩
  | .hbm, ⟨2, _⟩ => ⟨S100x16x1920, .bf16⟩
  | .hbm, ⟨3, _⟩ => ⟨S6x16x1920, .f32⟩
  | .hbm, ⟨4, _⟩ => ⟨S100x16x1920, .fp8e4m3⟩
  | .hbm, ⟨5, _⟩ => ⟨S1600x1920, .fp8e4m3⟩
  | .hbm, ⟨6, _⟩ => ⟨S16x100, .f32⟩
  | .hbm, ⟨7, _⟩ => ⟨S1600x128, .f32⟩
  | .local _ .vmem, ⟨0, _⟩ => ⟨S100x16x1920, .bf16⟩
  | .local _ .vmem, ⟨1, _⟩ => ⟨S6x16x1920, .f32⟩
  | .local _ .vmem, ⟨2, _⟩ => ⟨S100x16x1920, .fp8e4m3⟩
  | .local _ .vmem, ⟨3, _⟩ => ⟨S1600x1920, .fp8e4m3⟩
  | .local _ .vmem, ⟨4, _⟩ => ⟨S16x100, .f32⟩
  | .local _ .vmem, ⟨5, _⟩ => ⟨S1600x128, .f32⟩
  | _, _ => ⟨S16x100x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S100x16x1920 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x16x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S100x16x1920 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1600x1920 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1600x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.RowMath.lean ====
module

public import Idealize.ShloMosaic.Lib.Pointwise
public import Idealize.ShloMosaic.PureOps.IdealRules

/-!
# The mathematics of one token

Everything the block computes about one token (one row of channels) over the extended reals: the token's quantiser, a
quantised linear map, the layer norm with its modulation, the activation, and their composition into the block. The two
programs spell some of these differently (a reciprocal multiplied in where the other divides, a row's maximum taken in
pieces, the activation's cubic term factored); the lemmas here say the spellings agree at every extended real.
-/

set_option maxRecDepth 16384

@[expose] public section

noncomputable section

open Idealize.ShloMosaic

namespace Cert.Row

/-- The absolute value of an extended real, as the programs' `absf` reads over the reals. -/
abbrev mag (x : EReal) : EReal := FloatOps.absf (F := Ideal) (φ := .f32) x

/-- The largest absolute value along a row (from −∞). -/
def amax {n : ℕ} (v : Fin n → EReal) : EReal :=
  Finset.univ.fold max (Ideal.ofBits .f32 0xFF800000#32) fun k => mag (v k)

/-- The token's scale from its largest absolute value: `1` for a zero row, else that value over 448. -/
def scaleOf (a : EReal) : EReal := if a = 0 then 1 else Ideal.div a (Ideal.ofBits .f32 0x43E00000#32)

/-- The scale of a row. -/
def scale {n : ℕ} (v : Fin n → EReal) : EReal := scaleOf (amax v)

/-- A value clipped to ±448. -/
def clip (x : EReal) : EReal := min (Ideal.ofBits .f32 0x43E00000#32) (max (Ideal.ofBits .f32 0xC3E00000#32) x)

/-- The codes of a row: each entry over the row's scale, clipped to ±448. -/
def code {n : ℕ} (v : Fin n → EReal) (k : Fin n) : EReal := clip (Ideal.div (v k) (scale v))

/-- A quantised linear map: codes times weights, summed, times the token's scale, times the column's scale, plus bias. -/
def linear {K N : ℕ} (c : Fin K → EReal) (s : EReal) (w : Fin K → Fin N → EReal) (ws b : Fin N → EReal) (n : Fin N) :
    EReal := (∑ k, c k * w k n) * s * ws n + b n

/-- The mean of a row of 1920 entries. -/
def mean (v : Fin 1920 → EReal) : EReal := Ideal.div (∑ k, v k) (Ideal.ofBits .f32 0x44F00000#32)

/-- The layer norm of a row, times `1 + gain`, plus `shift`. -/
def norm (v gain shift : Fin 1920 → EReal) (k : Fin 1920) : EReal :=
  Ideal.div (v k - mean v)
      (Ideal.sqrt (mean (fun l => (v l - mean v) * (v l - mean v)) + Ideal.ofBits .f32 0x358637BD#32))
    * (1 + gain k) + shift k

/-- `√(2/π)` as an extended real. -/
def root : EReal := ((Real.sqrt (2 * Real.pi⁻¹) : ℝ) : EReal)

/-- The cubic coefficient 0.044715. -/
def cube : EReal := ((8943 / 200000 : ℝ) : EReal)

/-- The tanh form of the Gaussian error linear unit. -/
def gelu (u : EReal) : EReal :=
  Ideal.ofBits .f32 0x3F000000#32 * u
    + Ideal.ofBits .f32 0x3F000000#32 * u * Ideal.tanh (root * (u + cube * (u * u * u)))

/-! ### Constants -/

theorem ofBits_448 : Ideal.ofBits .f32 0x43E00000#32 = ((448 : ℝ) : EReal) := by
  simp [Ideal.ofBits, Ideal.ieee]; norm_cast; norm_num

theorem ofBits_1920 : Ideal.ofBits .f32 0x44F00000#32 = ((1920 : ℝ) : EReal) := by
  simp [Ideal.ofBits, Ideal.ieee]; norm_cast; norm_num

theorem ofBits_bot : Ideal.ofBits .f32 0xFF800000#32 = (⊥ : EReal) := by
  simp [Ideal.ofBits, Ideal.ieee]

theorem ofBits_eps_pos : (0 : EReal) < Ideal.ofBits .f32 0x358637BD#32 := by
  simp [Ideal.ofBits, Ideal.ieee]
  exact_mod_cast (by positivity : (0 : ℝ) < 8796093 * (2 ^ 43)⁻¹)

/-! ### Dividing and multiplying by the reciprocal -/

/-- Dividing by a nonzero number is multiplying by one over it. -/
theorem mul_one_div {y : EReal} (hy : y ≠ 0) (x : EReal) : x * Ideal.div 1 y = Ideal.div x y := by
  simp [Ideal.div, hy]

theorem mul_inv448 (a : EReal) : a * ((1 / 448 : ℝ) : EReal) = Ideal.div a (Ideal.ofBits .f32 0x43E00000#32) := by
  rw [ofBits_448, Ideal.div_coe (by norm_num)]

theorem mul_inv1920 (a : EReal) : a * ((1 / 1920 : ℝ) : EReal) = Ideal.div a (Ideal.ofBits .f32 0x44F00000#32) := by
  rw [ofBits_1920, Ideal.div_coe (by norm_num)]

/-- A token's scale is never zero. -/
theorem scaleOf_ne_zero (a : EReal) : scaleOf a ≠ 0 := by
  unfold scaleOf
  split_ifs with h
  · exact one_ne_zero
  · rw [← mul_inv448]
    refine mul_ne_zero h ?_
    rw [EReal.coe_ne_zero]; norm_num

theorem scale_ne_zero {n : ℕ} (v : Fin n → EReal) : scale v ≠ 0 := scaleOf_ne_zero _

theorem mag_nonneg (x : EReal) : 0 ≤ mag x := by
  change 0 ≤ max x (-x)
  rcases le_total 0 x with h | h
  · exact le_max_of_le_left h
  · exact le_max_of_le_right (EReal.neg_nonneg.mpr h)

theorem mul_self_nonneg' (x : EReal) : 0 ≤ x * x := by
  induction x with
  | bot => simp
  | top => simp
  | coe r => exact_mod_cast mul_self_nonneg r

/-- The layer norm's divisor is never zero. -/
theorem sqrt_ne_zero (v : Fin 1920 → EReal) :
    Ideal.sqrt (mean (fun l => (v l - mean v) * (v l - mean v)) + Ideal.ofBits .f32 0x358637BD#32) ≠ 0 := by
  have h : 0 < mean (fun l => (v l - mean v) * (v l - mean v)) + Ideal.ofBits .f32 0x358637BD#32 := by
    refine lt_of_lt_of_le ofBits_eps_pos (le_add_of_nonneg_left ?_)
    unfold mean
    rw [← mul_inv1920]
    refine mul_nonneg (Finset.sum_nonneg fun k _ => mul_self_nonneg' _) ?_
    exact_mod_cast (by norm_num : (0 : ℝ) ≤ 1 / 1920)
  revert h
  generalize mean (fun l => (v l - mean v) * (v l - mean v)) + Ideal.ofBits .f32 0x358637BD#32 = z
  intro h
  induction z with
  | bot => simp at h
  | top => exact EReal.top_ne_zero
  | coe r =>
    have hr : 0 < r := by exact_mod_cast h
    have h2 : Ideal.sqrt (r : EReal) = ((Real.sqrt r : ℝ) : EReal) := if_neg (not_lt.mpr hr.le)
    rw [h2]
    exact_mod_cast (Real.sqrt_pos.mpr hr).ne'

/-! ### The activation's argument -/

/-- `u · (root + (root·cube)·u²) = root · (u + cube·u³)` at every extended real. -/
theorem gelu_arg (u : EReal) :
    u * (root + (((Real.sqrt (2 * Real.pi⁻¹)) * (8943 / 200000) : ℝ) : EReal) * (u * u))
      = root * (u + cube * (u * u * u)) := by
  have hr : (0 : ℝ) < Real.sqrt (2 * Real.pi⁻¹) := Real.sqrt_pos.mpr (by positivity)
  unfold root cube
  generalize Real.sqrt (2 * Real.pi⁻¹) = s at hr ⊢
  have hs : (0 : ℝ) < s * (8943 / 200000) := by positivity
  induction u with
  | bot =>
    rw [EReal.bot_mul_bot, EReal.coe_mul_top_of_pos hs, EReal.coe_add_top, EReal.bot_mul_top, EReal.top_mul_bot,
      EReal.coe_mul_bot_of_pos (by norm_num), EReal.bot_add, EReal.coe_mul_bot_of_pos hr]
  | top =>
    rw [EReal.top_mul_top, EReal.coe_mul_top_of_pos hs, EReal.coe_add_top, EReal.top_mul_top,
      EReal.coe_mul_top_of_pos (by norm_num), EReal.top_add_top, EReal.coe_mul_top_of_pos hr]
  | coe r =>
    norm_cast
    ring

/-! ### The largest absolute value, lane by lane -/

theorem amax_le {n : ℕ} (v : Fin n → EReal) (z : EReal) : amax v ≤ z ↔ ∀ k, mag (v k) ≤ z := by
  unfold amax
  rw [Finset.fold_max_le, ofBits_bot]
  simp

/-- `acc` holds, for each of the 128 lanes, the largest of zero and the absolute values seen in that lane among the first
    `512·c` entries of `v`. -/
def LaneMax (c : ℕ) (v : Fin 7680 → EReal) (acc : Fin 128 → EReal) : Prop :=
  ∀ l z, acc l ≤ z ↔ 0 ≤ z ∧ ∀ k : Fin 7680, (k : ℕ) % 128 = l → (k : ℕ) < 512 * c → mag (v k) ≤ z

theorem LaneMax.zero (v : Fin 7680 → EReal) : LaneMax 0 v fun _ => 0 := by
  intro l z
  constructor
  · exact fun h => ⟨h, fun k _ hk => absurd hk (by omega)⟩
  · exact fun h => h.1

/-- Taking in the four lane groups of the next 512 entries. -/
theorem LaneMax.step {c : ℕ} {v : Fin 7680 → EReal} {acc : Fin 128 → EReal} (h : LaneMax c v acc) (hc : c < 15)
    (w : Fin 512 → EReal) (hw : ∀ n : Fin 512, w n = v ⟨512 * c + n, by omega⟩) :
    LaneMax (c + 1) v fun l => max (max (max (max (acc l) (mag (w ⟨l, by omega⟩))) (mag (w ⟨128 + l, by omega⟩)))
      (mag (w ⟨256 + l, by omega⟩))) (mag (w ⟨384 + l, by omega⟩)) := by
  intro l z
  have hl := l.isLt
  simp only [max_le_iff, h l z, hw]
  constructor
  · rintro ⟨⟨⟨⟨⟨h0, hs⟩, h1⟩, h2⟩, h3⟩, h4⟩
    refine ⟨h0, fun k hk hb => ?_⟩
    by_cases hlt : (k : ℕ) < 512 * c
    · exact hs k hk hlt
    have h5 : (k : ℕ) = 512 * c + l ∨ (k : ℕ) = 512 * c + (128 + l) ∨ (k : ℕ) = 512 * c + (256 + l)
        ∨ (k : ℕ) = 512 * c + (384 + l) := by omega
    rcases h5 with h5 | h5 | h5 | h5
    · rw [show k = ⟨512 * c + l, by omega⟩ from Fin.ext h5]; exact h1
    · rw [show k = ⟨512 * c + (128 + l), by omega⟩ from Fin.ext h5]; exact h2
    · rw [show k = ⟨512 * c + (256 + l), by omega⟩ from Fin.ext h5]; exact h3
    · rw [show k = ⟨512 * c + (384 + l), by omega⟩ from Fin.ext h5]; exact h4
  · rintro ⟨h0, hs⟩
    refine ⟨⟨⟨⟨⟨h0, fun k hk hb => hs k hk (by omega)⟩, hs _ ?_ ?_⟩, hs _ ?_ ?_⟩, hs _ ?_ ?_⟩, hs _ ?_ ?_⟩ <;>
      simp only [] <;> omega

/-- The largest of the lanes' maxima is the row's largest absolute value. -/
theorem LaneMax.amax {v : Fin 7680 → EReal} {acc : Fin 128 → EReal} (h : LaneMax 15 v acc) :
    Finset.univ.fold max (Ideal.ofBits .f32 0xFF800000#32) acc = amax v := by
  refine eq_of_forall_ge_iff fun z => ?_
  rw [Finset.fold_max_le, amax_le, ofBits_bot]
  constructor
  · rintro ⟨-, hs⟩ k
    exact ((h ⟨k % 128, by omega⟩ z).1 (hs _ (Finset.mem_univ _))).2 k rfl (by omega)
  · refine fun hs => ⟨bot_le, fun l _ => (h l z).2 ⟨?_, fun k _ _ => hs k⟩⟩
    exact (mag_nonneg _).trans (hs 0)

/-! ### One token of the block -/

/-- The residual stream after the attention branch: `x + gate · (projection of the quantised attention row)`. -/
def mid (o x gate : Fin 1920 → EReal) (w : Fin 1920 → Fin 1920 → EReal) (ws b : Fin 1920 → EReal) (n : Fin 1920) : EReal :=
  x n + gate n * linear (code o) (scale o) w ws b n

/-- The hidden activations of a row: the activation of the quantised linear map. -/
def hidden (a : Fin 1920 → EReal) (w : Fin 1920 → Fin 7680 → EReal) (ws b : Fin 7680 → EReal) (n : Fin 7680) : EReal :=
  gelu (linear (code a) (scale a) w ws b n)

/-- The residual stream after the second branch: `x + gate · (linear map of the quantised hidden row)`. -/
def out (x : Fin 1920 → EReal) (h : Fin 7680 → EReal) (gate : Fin 1920 → EReal) (w : Fin 7680 → Fin 1920 → EReal) (ws b : Fin 1920 → EReal) (n : Fin 1920) : EReal :=
  x n + gate n * linear (code h) (scale h) w ws b n

end Cert.Row
-- ==== Proof.Codes.lean ====
module

public import proofs.«01_k».proof.Proof.Gen.FfnIdeal.Value
public import proofs.«01_k».proof.Proof.RowMath
public import Idealize.ShloMosaic.Lib.Pipeline.ValueKit
public import Idealize.ShloMosaic.Lib.Pipeline.ReadBack
public import Idealize.ShloMosaic.Lib.Pointwise

set_option maxRecDepth 65536

@[expose] public section

noncomputable section

open Idealize.ShloMosaic Idealize.ShloMosaic.TcCoe Idealize.SL.Sem

namespace Cert.FfnIdeal.Value

open Cert.FfnIdeal Cert.FfnIdeal.Gen

/-- The named reciprocal of 448 at the reals. -/
theorem named_inv448 : Named.named (F := Ideal) (φ := .f32) κ "inv448" 0x3B124925#32 = ((1 / 448 : ℝ) : EReal) := by
  simp [Named.named, κ]

/-- A load from a buffer whose stores all hold the values of `G` and together reach every index reads `G`. -/
theorem readCov_of_pieces {κ' : Kind} {sp : Space} {s : Shape} {e : EltTy} (v : View sig κ' sp s e)
    (L : List (View.Piece (Elt Ideal) s e)) (r : Rect s) (G : s.Idx → Elt Ideal e) (h : View.PiecesOf G L)
    (hc : ∀ y, ∃ p ∈ L, y ∈ p.1.set) (x : r.shape.Idx) :
    v.readCov L r.toLoadRect x = G (r.idx x) := by
  rw [View.readCov_eq_canon']
  exact View.canon_apply_of_pieces G L h.mem _ (hc _)

/-- The scale of each token of a chunk. -/
theorem chunk_scale (X : FVec Ideal S2x16x1920 .f32) (p : Fin 2) (r : Fin 16) (z : Fin 1) :
    k0_pay5 (F := Ideal) X (ix3 p r z) = Row.scale fun k => X (ix3 p r k) := by
  pointwise [k0_pay5]
  rw [named_inv448, Row.mul_inv448]
  rfl

/-- The codes of a chunk. -/
theorem chunk_code (X : FVec Ideal S2x16x1920 .f32) (p : Fin 2) (r : Fin 16) (k : Fin 1920) :
    k0_pay6 (F := Ideal) X (ix3 p r k) = Row.code (fun k => X (ix3 p r k)) k := by
  pointwise [k0_pay6, chunk_scale]
  rw [Row.mul_one_div (Row.scale_ne_zero _)]
  rfl

/-- The codes of a chunk, its two token groups laid out as 32 rows. -/
theorem chunk_code32 (X : FVec Ideal S2x16x1920 .f32) (q : Fin 32) (k : Fin 1920) :
    k0_pay7 (F := Ideal) X (ix2 q k) = Row.code (fun k => X (ix3 (⟨q / 16, by omega⟩ : Fin 2) (⟨q % 16, by omega⟩ : Fin 16) k)) k := by
  pointwise [k0_pay7, chunk_code]

/-- The scales of a chunk, one row per token, repeated along the lanes. -/
theorem chunk_scale32 (X : FVec Ideal S2x16x1920 .f32) (q : Fin 32) (l : Fin 128) :
    k0_pay8 (F := Ideal) X (ix2 q l) = Row.scale fun k => X (ix3 (⟨q / 16, by omega⟩ : Fin 2) (⟨q % 16, by omega⟩ : Fin 16) k) := by
  pointwise [k0_pay8, chunk_scale]

/-- The codes of every token of the block `X`. -/
def codes3 (X : FVec Ideal S10x16x1920 .f32) : S10x16x1920.Idx → EReal :=
  fun y => Row.code (fun k => X (ix3 (y 0) (y 1) k)) (y 2)

/-- The same, the tokens laid out as 160 rows. -/
def codes2 (X : FVec Ideal S10x16x1920 .f32) : S160x1920.Idx → EReal :=
  fun y => Row.code (fun k => X (ix3 (⟨(y 0).val / 16, by have := (y 0).isLt; change _ < 160 at this; omega⟩ : Fin 10) (⟨(y 0).val % 16, by omega⟩ : Fin 16) k)) (y 1)

/-- The scale of every token, one row per token, repeated along the lanes. -/
def scales2 (X : FVec Ideal S10x16x1920 .f32) : S160x128.Idx → EReal :=
  fun y => Row.scale fun k => X (ix3 (⟨(y 0).val / 16, by have := (y 0).isLt; change _ < 160 at this; omega⟩ : Fin 10) (⟨(y 0).val % 16, by omega⟩ : Fin 16) k)

/-- `X` holds the two token groups of the block `B` from group `o` on. -/
def Chunk (o : ℕ) (B : FVec Ideal S10x16x1920 .f32) (X : FVec Ideal S2x16x1920 .f32) : Prop :=
  ∀ (p : Fin 2) (r : Fin 16) (k : Fin 1920) (h : o + p < 10), X (ix3 p r k) = B (ix3 ⟨o + p, h⟩ r k)

/-- Where an index of a box of three-dimensional shape lies in the whole. -/
theorem emb3 {n0 n1 n2 m0 m1 m2 : ℕ} (o0 o1 o2 : ℕ) (inb) (a : Fin m0) (b : Fin m1) (c : Fin m2) (i : Fin n0) (j : Fin n1) (k : Fin n2)
    (hi : i.val = o0 + a) (hj : j.val = o1 + b) (hk : k.val = o2 + c) :
    (Rect.unit (s := (⟨3, ![n0, n1, n2]⟩ : Shape)) ![o0, o1, o2] ![m0, m1, m2] inb).idx (ix3 a b c) = ix3 i j k :=
  funext fun d => Fin.ext <| (Rect.idx_unit_val _ _ inb _ d).trans <| by
    fin_cases d
    · exact hi.symm
    · exact hj.symm
    · exact hk.symm

/-- Where an index of a box of two-dimensional shape lies in the whole. -/
theorem emb2 {n0 n1 m0 m1 : ℕ} (o0 o1 : ℕ) (inb) (a : Fin m0) (b : Fin m1) (i : Fin n0) (j : Fin n1)
    (hi : i.val = o0 + a) (hj : j.val = o1 + b) :
    (Rect.unit (s := (⟨2, ![n0, n1]⟩ : Shape)) ![o0, o1] ![m0, m1] inb).idx (ix2 a b) = ix2 i j :=
  funext fun d => Fin.ext <| (Rect.idx_unit_val _ _ inb _ d).trans <| by
    fin_cases d
    · exact hi.symm
    · exact hj.symm

theorem Chunk.code3 {o : ℕ} {B : FVec Ideal S10x16x1920 .f32} {X : FVec Ideal S2x16x1920 .f32} {P : FVec Ideal S2x16x1920 .fp8e4m3} (h : Chunk o B X)
    (hP : P = k0_pay6 (F := Ideal) X) (ho : o + 2 ≤ 10)
    (inb) (x : S2x16x1920.Idx) :
    P x = codes3 B ((Rect.unit (s := S10x16x1920) ![o, 0, 0] S2x16x1920.size inb).emb x) := by
  subst hP
  idx_vars x
  rw [chunk_code]
  have e := emb3 (n0 := 10) (n1 := 16) (n2 := 1920) o 0 0 inb x0 x1 x2 ⟨o + x0, by omega⟩ x1 x2 rfl (Nat.zero_add _).symm (Nat.zero_add _).symm
  refine Eq.trans ?_ (congrArg (codes3 B) e).symm
  unfold codes3
  simp only [h _ _ _ (show o + x0.val < 10 by omega)]
  rfl

theorem Chunk.code2 {o o' : ℕ} {B : FVec Ideal S10x16x1920 .f32} {X : FVec Ideal S2x16x1920 .f32} {P : FVec Ideal S32x1920 .fp8e4m3} (h : Chunk o B X)
    (hP : P = k0_pay7 (F := Ideal) X) (ho : o + 2 ≤ 10)
    (ho' : o' = 16 * o) (inb) (x : S32x1920.Idx) :
    P x = codes2 B ((Rect.unit (s := S160x1920) ![o', 0] S32x1920.size inb).emb x) := by
  subst hP
  idx_vars x
  rw [chunk_code32]
  have e := emb2 (n0 := 160) (n1 := 1920) o' 0 inb x0 x1 ⟨o' + x0, by omega⟩ x1 rfl (Nat.zero_add _).symm
  refine Eq.trans ?_ (congrArg (codes2 B) e).symm
  simp only [h _ _ _ (show o + (⟨x0 / 16, by omega⟩ : Fin 2).val < 10 by simp only []; omega)]
  subst ho'
  exact congrArg (fun f => Row.code f x1) (funext fun l =>
    congrArg₂ (fun a b => B (ix3 a b l)) (Fin.ext (show o + x0.val / 16 = (16 * o + x0.val) / 16 by omega))
      (Fin.ext (show x0.val % 16 = (16 * o + x0.val) % 16 by omega)))

theorem Chunk.scale2 {o o' : ℕ} {B : FVec Ideal S10x16x1920 .f32} {X : FVec Ideal S2x16x1920 .f32} {P : FVec Ideal S32x128 .f32} (h : Chunk o B X)
    (hP : P = k0_pay8 (F := Ideal) X) (ho : o + 2 ≤ 10)
    (ho' : o' = 16 * o) (inb) (x : S32x128.Idx) :
    P x = scales2 B ((Rect.unit (s := S160x128) ![o', 0] S32x128.size inb).emb x) := by
  subst hP
  idx_vars x
  rw [chunk_scale32]
  have e := emb2 (n0 := 160) (n1 := 128) o' 0 inb x0 x1 ⟨o' + x0, by omega⟩ x1 rfl (Nat.zero_add _).symm
  refine Eq.trans ?_ (congrArg (scales2 B) e).symm
  simp only [h _ _ _ (show o + (⟨x0 / 16, by omega⟩ : Fin 2).val < 10 by simp only []; omega)]
  subst ho'
  exact congrArg Row.scale (funext fun l =>
    congrArg₂ (fun a b => B (ix3 a b l)) (Fin.ext (show o + x0.val / 16 = (16 * o + x0.val) / 16 by omega))
      (Fin.ext (show x0.val % 16 = (16 * o + x0.val) % 16 by omega)))

/-! ### The stored codes and scales of the attention rows -/

variable {c : Dev nD} {arg1 : Memref sig .tc .vmem S10x16x1920 .f32} {harg1 : arg1.IsWhole} {arg20 : Memref sig .tc
  .vmem S160x1920 .fp8e4m3} {arg22 : Memref sig .tc .vmem S160x128 .f32} {x0 : FVec Ideal S10x16x1920 .f32}

/-- The two token groups loaded from group `o` on. -/
theorem chunk_load (o : ℕ) (inb : ∀ a, ![o, 0, 0] a + S2x16x1920.size a ≤ S10x16x1920.size a) :
    Chunk o x0 (View.readAt (Elt Ideal) arg1.view (Rect.unit (s := S10x16x1920) ![o, 0, 0] S2x16x1920.size inb).toLoadRect (harg1.unread x0)) := by
  intro p r k h
  rw [View.readAt_eq_ld, harg1.read_unread]
  exact congrArg x0 (emb3 (n0 := 10) (n1 := 16) (n2 := 1920) o 0 0 inb p r k ⟨o + p, h⟩ r k rfl (Nat.zero_add _).symm (Nat.zero_add _).symm)

/-- The block's stored codes, as 160 rows. -/
theorem pieces_codes2 : View.PiecesOf (Val := Elt Ideal) (e := .fp8e4m3) (codes2 x0) (kernelRun0_A.sl.HS0_5 (F := Ideal) c arg1 harg1 x0) :=
  ⟨(chunk_load 8 (by decide)).code2 (o' := 128) rfl (by decide) rfl (by decide), (chunk_load 6 (by decide)).code2 (o' := 96) rfl (by decide) rfl (by decide), (chunk_load 4 (by decide)).code2 (o' := 64) rfl (by decide) rfl (by decide),
    (chunk_load 2 (by decide)).code2 (o' := 32) rfl (by decide) rfl (by decide), (chunk_load 0 (by decide)).code2 (o' := 0) rfl (by decide) rfl (by decide), trivial⟩

/-- The block's stored scales. -/
theorem pieces_scales2 : View.PiecesOf (Val := Elt Ideal) (e := .f32) (scales2 x0) (kernelRun0_A.sl.HS2_5 (F := Ideal) c arg1 harg1 x0) :=
  ⟨(chunk_load 8 (by decide)).scale2 (o' := 128) rfl (by decide) rfl (by decide), (chunk_load 6 (by decide)).scale2 (o' := 96) rfl (by decide) rfl (by decide), (chunk_load 4 (by decide)).scale2 (o' := 64) rfl (by decide) rfl (by decide),
    (chunk_load 2 (by decide)).scale2 (o' := 32) rfl (by decide) rfl (by decide), (chunk_load 0 (by decide)).scale2 (o' := 0) rfl (by decide) rfl (by decide), trivial⟩

theorem cover_codes2 (y : S160x1920.Idx) : ∃ p ∈ (kernelRun0_A.sl.HS0_5 (F := Ideal) c arg1 harg1 x0), y ∈ p.1.set :=
  View.cover_of_tiledL (kernelRun0_A.sl.HS0_5 (F := Ideal) c arg1 harg1 x0) S32x1920.size (by sl_kernel_rfl) y

theorem cover_scales2 (y : S160x128.Idx) : ∃ p ∈ (kernelRun0_A.sl.HS2_5 (F := Ideal) c arg1 harg1 x0), y ∈ p.1.set :=
  View.cover_of_tiledL (kernelRun0_A.sl.HS2_5 (F := Ideal) c arg1 harg1 x0) S32x128.size (by sl_kernel_rfl) y

theorem load_codes2 (r : Fin 160) (k : Fin 1920) : (kernelRun0_A.sl.v (F := Ideal) c arg1 harg1 arg20 x0) (ix2 r k) = codes2 x0 (ix2 r k) := by
  refine (readCov_of_pieces _ _ _ _ pieces_codes2 cover_codes2 _).trans ?_
  exact congrArg (codes2 x0) (emb2 (n0 := 160) (n1 := 1920) 0 0 _ r k r k (Nat.zero_add _).symm (Nat.zero_add _).symm)

theorem load_scales2 (r : Fin 160) (z : Fin 1) : (kernelRun0_A.sl.v296 (F := Ideal) c arg1 harg1 arg22 x0) (ix2 r z) = scales2 x0 (ix2 r 0) := by
  refine (readCov_of_pieces _ _ _ _ pieces_scales2 cover_scales2 _).trans ?_
  exact congrArg (scales2 x0) (emb2 (n0 := 160) (n1 := 128) 0 0 _ r z r 0 (Nat.zero_add _).symm (by omega))

end Cert.FfnIdeal.Value
-- ==== Proof.Norm.lean ====
module

public import proofs.«01_k».proof.Proof.Codes
public import Idealize.ShloMosaic.Lib.Pipeline.ValueKit
public import Idealize.ShloMosaic.Lib.Pipeline.ReadBack
public import Idealize.ShloMosaic.Lib.Pointwise

/-!
# The residual stream, the layer norm and its codes

One block of ten tokens per group: the projection of the quantised attention rows added to the residual stream, the layer
norm of the result, and the codes and scales of the norm.
-/

set_option maxRecDepth 65536

@[expose] public section

noncomputable section

open Idealize.ShloMosaic Idealize.ShloMosaic.TcCoe Idealize.SL.Sem

namespace Cert.FfnIdeal.Value

open Cert.FfnIdeal Cert.FfnIdeal.Gen

/-! ### The two stages at an index -/

/-- The residual stream from the codes, scales and weights it is computed from. -/
theorem mid_at (a : FVec Ideal S160x1920 .fp8e4m3) (w : FVec Ideal S1920x1920 .fp8e4m3) (s : FVec Ideal S160x1 .f32) (ws b : FVec Ideal S1x1920 .f32)
    (x : FVec Ideal S10x16x1920 .bf16) (g : FVec Ideal S1x16x1920 .f32) (p : Fin 10) (r : Fin 16) (n : Fin 1920) :
    k0_pay40 (F := Ideal) a w s ws b x g (ix3 p r n)
      = x (ix3 p r n) + g (ix3 0 r n) * ((∑ k : Fin 1920, a (ix2 (⟨p * 16 + r, by omega⟩ : Fin 160) k) * w (ix2 k n)) * s (ix2 (⟨p * 16 + r, by omega⟩ : Fin 160) 0)
          * ws (ix2 0 n) + b (ix2 0 n)) := by
  pointwise [k0_pay40]

/-- The named reciprocal of 1920 at the reals. -/
theorem named_inv1920 : Named.named (F := Ideal) (φ := .f32) κ "inv1920" 0x3A088889#32 = ((1 / 1920 : ℝ) : EReal) := by
  simp [Named.named, κ]

/-- The layer norm of a chunk. -/
theorem norm_at (gain shift : FVec Ideal S1x16x1920 .f32) (X : FVec Ideal S2x16x1920 .f32) (p : Fin 2) (r : Fin 16) (k : Fin 1920) :
    k0_pay43 (F := Ideal) (k0_pay41 (F := Ideal) gain) (k0_pay42 (F := Ideal) shift) X (ix3 p r k)
      = Row.norm (fun k => X (ix3 p r k)) (fun k => gain (ix3 0 r k)) (fun k => shift (ix3 0 r k)) k := by
  pointwise [k0_pay43, k0_pay41, k0_pay42]
  simp only [named_inv1920, Row.mul_inv1920]
  have h := Row.mul_one_div (Row.sqrt_ne_zero fun k => X (ix3 p r k))
  unfold Row.norm
  rw [← h]
  rfl

/-! ### The stages over the block -/

variable (x0 : FVec Ideal S10x16x1920 .f32) (x1 : FVec Ideal S10x16x1920 .bf16) (x2 : FVec Ideal S6x16x1920 .f32) (x3
  : FVec Ideal S1920x1920 .fp8e4m3) (x4 : FVec Ideal S1x1920 .f32) (x5 : FVec Ideal S1x1920 .f32)

/-- The residual stream of the block. -/
def midB : S10x16x1920.Idx → EReal := fun y =>
  Row.mid (fun k => x0 (ix3 (y 0) (y 1) k)) (fun n => x1 (ix3 (y 0) (y 1) n)) (fun n => x2 (ix3 0 (y 1) n)) (fun k n => x3 (ix2 k n))
    (fun n => x4 (ix2 0 n)) (fun n => x5 (ix2 0 n)) (y 2)

/-- The layer norm of the block. -/
def normB : S10x16x1920.Idx → EReal := fun y =>
  Row.norm (fun k => midB x0 x1 x2 x3 x4 x5 (ix3 (y 0) (y 1) k)) (fun k => x2 (ix3 3 (y 1) k)) (fun k => x2 (ix3 5 (y 1) k)) (y 2)

variable {x0 x1 x2 x3 x4 x5}
variable {c : Dev nD} {arg1 : Memref sig .tc .vmem S10x16x1920 .f32} {harg1 : arg1.IsWhole} {arg2 : Memref sig .tc
  .vmem S10x16x1920 .bf16} {harg2 : arg2.IsWhole} {arg3 : Memref sig .tc .vmem S6x16x1920 .f32} {harg3 : arg3.IsWhole}
  {arg4 : Memref sig .tc .vmem S1920x1920 .fp8e4m3} {harg4 : arg4.IsWhole} {arg5 : Memref sig .tc .vmem S1x1920 .f32}
  {harg5 : arg5.IsWhole} {arg6 : Memref sig .tc .vmem S1x1920 .f32} {harg6 : arg6.IsWhole} {arg20 : Memref sig .tc
  .vmem S160x1920 .fp8e4m3} {arg21 : Memref sig .tc .vmem S10x16x1920 .f32} {arg22 : Memref sig .tc .vmem S160x128
  .f32} {arg17 : Memref sig .tc .vmem S16x100 .f32}

/-- A load of a whole window. -/
theorem load_whole {S : Shape} {e : EltTy} (a : Memref sig .tc .vmem S e) (ha : a.IsWhole) (X : S.Idx → Elt Ideal e) (off : Fin S.rank → ℕ)
    (h : ∀ d, off d = 0) (inb) :
    View.readAt (Elt Ideal) a.view (Rect.unit (s := S) off S.size inb).toLoadRect (ha.unread X) = X := by
  funext j
  rw [View.readAt_eq_ld, ha.read_unread]
  exact View.ld_unit_apply_of X off S.size inb j j fun d => by rw [h d, Nat.zero_add]

/-- One of the six rows of modulation, loaded. -/
theorem load_row (o : ℕ) (ho : o < 6) (inb : ∀ a, ![o, 0, 0] a + S1x16x1920.size a ≤ S6x16x1920.size a) (r : Fin 16) (k : Fin 1920) :
    View.readAt (Elt Ideal) arg3.view (Rect.unit (s := S6x16x1920) ![o, 0, 0] S1x16x1920.size inb).toLoadRect (harg3.unread x2) (ix3 0 r k) = x2 (ix3 ⟨o, ho⟩ r k) := by
  rw [View.readAt_eq_ld, harg3.read_unread]
  exact congrArg x2 (emb3 (n0 := 6) (n1 := 16) (n2 := 1920) o 0 0 inb 0 r k ⟨o, ho⟩ r k rfl (Nat.zero_add _).symm (Nat.zero_add _).symm)

/-- The stored residual stream. -/
theorem mid_word (p : Fin 10) (r : Fin 16) (n : Fin 1920) : (kernelRun0_A.sl.v319 (F := Ideal) c arg1 harg1 arg2 harg2 arg3 harg3 arg4 harg4 arg5 harg5 arg6 harg6 arg20 arg22 x0 x1 x2 x3 x4 x5) (ix3 p r n) = midB x0 x1 x2 x3 x4 x5 (ix3 p r n) := by
  refine (mid_at (kernelRun0_A.sl.v (F := Ideal) c arg1 harg1 arg20 x0) (View.readAt (Elt Ideal) arg4.view (Rect.unit (s := S1920x1920) ![0, 0] S1920x1920.size (by decide)).toLoadRect (harg4.unread x3))
    (kernelRun0_A.sl.v296 (F := Ideal) c arg1 harg1 arg22 x0) (View.readAt (Elt Ideal) arg5.view (Rect.unit (s := S1x1920) ![0, 0] S1x1920.size (by decide)).toLoadRect (harg5.unread x4))
    (View.readAt (Elt Ideal) arg6.view (Rect.unit (s := S1x1920) ![0, 0] S1x1920.size (by decide)).toLoadRect (harg6.unread x5))
    (View.readAt (Elt Ideal) arg2.view (Rect.unit (s := S10x16x1920) ![0, 0, 0] S10x16x1920.size (by decide)).toLoadRect (harg2.unread x1))
    (View.readAt (Elt Ideal) arg3.view (Rect.unit (s := S6x16x1920) ![0, 0, 0] S1x16x1920.size (by decide)).toLoadRect (harg3.unread x2)) p r n).trans ?_
  rw [load_row 0 (by decide), load_whole arg2 harg2 x1 _ (by decide), load_whole arg4 harg4 x3 _ (by decide), load_whole arg5 harg5 x4 _ (by decide),
    load_whole arg6 harg6 x5 _ (by decide)]
  simp only [load_codes2, load_scales2]
  have e1 : ∀ h, (⟨(p.val * 16 + r.val) / 16, h⟩ : Fin 10) = p := fun h => Fin.ext (by simp only []; omega)
  have e2 : ∀ h, (⟨(p.val * 16 + r.val) % 16, h⟩ : Fin 16) = r := fun h => Fin.ext (by simp only []; omega)
  unfold codes2 scales2 midB Row.mid Row.linear
  simp only [ix2_0, ix2_1, ix3_0, ix3_1, ix3_2, e1, e2]
  rfl

theorem mid_piece (inb) (j : S10x16x1920.Idx) :
    (kernelRun0_A.sl.v319 (F := Ideal) c arg1 harg1 arg2 harg2 arg3 harg3 arg4 harg4 arg5 harg5 arg6 harg6 arg20 arg22 x0 x1 x2 x3 x4 x5) j = midB x0 x1 x2 x3 x4 x5 ((Rect.unit (s := S10x16x1920) ![0, 0, 0] S10x16x1920.size inb).emb j) := by
  idx_vars j
  have e := emb3 (n0 := 10) (n1 := 16) (n2 := 1920) 0 0 0 inb j0 j1 j2 j0 j1 j2 (Nat.zero_add _).symm (Nat.zero_add _).symm (Nat.zero_add _).symm
  exact (mid_word j0 j1 j2).trans (congrArg (midB x0 x1 x2 x3 x4 x5) e.symm)

theorem pieces_mid : View.PiecesOf (Val := Elt Ideal) (e := .f32) (midB x0 x1 x2 x3 x4 x5) (kernelRun0_A.sl.HS1_1 (F := Ideal) c arg1 harg1 arg2 harg2 arg3 harg3 arg4 harg4 arg5 harg5 arg6 harg6 arg20 arg22 x0 x1 x2 x3 x4 x5) :=
  ⟨mid_piece (by decide), trivial⟩

theorem cover_mid (y : S10x16x1920.Idx) : ∃ p ∈ (kernelRun0_A.sl.HS1_1 (F := Ideal) c arg1 harg1 arg2 harg2 arg3 harg3 arg4 harg4 arg5 harg5 arg6 harg6 arg20 arg22 x0 x1 x2 x3 x4 x5), y ∈ p.1.set :=
  View.cover_of_tiledL (kernelRun0_A.sl.HS1_1 (F := Ideal) c arg1 harg1 arg2 harg2 arg3 harg3 arg4 harg4 arg5 harg5 arg6 harg6 arg20 arg22 x0 x1 x2 x3 x4 x5) S10x16x1920.size (by sl_kernel_rfl) y

/-- The residual stream loaded from group `o` on. -/
theorem chunk_mid (o : ℕ) (inb : ∀ a, ![o, 0, 0] a + S2x16x1920.size a ≤ S10x16x1920.size a) :
    Chunk o (midB x0 x1 x2 x3 x4 x5) (arg21.view.readCov (kernelRun0_A.sl.HS1_1 (F := Ideal) c arg1 harg1 arg2 harg2 arg3 harg3 arg4 harg4 arg5 harg5 arg6 harg6 arg20 arg22 x0 x1 x2 x3 x4 x5) (Rect.unit (s := S10x16x1920) ![o, 0, 0] S2x16x1920.size inb).toLoadRect) := by
  intro p r k h
  refine (readCov_of_pieces _ _ _ _ pieces_mid cover_mid _).trans ?_
  exact congrArg _ (emb3 (n0 := 10) (n1 := 16) (n2 := 1920) o 0 0 inb p r k ⟨o + p, h⟩ r k rfl (Nat.zero_add _).symm (Nat.zero_add _).symm)

theorem load_mid (p : Fin 10) (r : Fin 16) (n : Fin 1920) : (kernelRun0_A.sl.v1663 (F := Ideal) c arg1 harg1 arg2 harg2 arg3 harg3 arg4 harg4 arg5 harg5 arg6 harg6 arg20 arg21 arg22 x0 x1 x2 x3 x4 x5) (ix3 p r n) = midB x0 x1 x2 x3 x4 x5 (ix3 p r n) := by
  refine (readCov_of_pieces _ _ _ _ pieces_mid cover_mid _).trans ?_
  exact congrArg (midB x0 x1 x2 x3 x4 x5) (emb3 (n0 := 10) (n1 := 16) (n2 := 1920) 0 0 0 _ p r n p r n (Nat.zero_add _).symm (Nat.zero_add _).symm (Nat.zero_add _).symm)

/-- The layer norm of two token groups. -/
theorem chunk_norm {o : ℕ} {X : FVec Ideal S2x16x1920 .f32} (h : Chunk o (midB x0 x1 x2 x3 x4 x5) X) (ho : o + 2 ≤ 10) :
    Chunk o (normB x0 x1 x2 x3 x4 x5) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) X) := by
  intro p r k hp
  rw [norm_at]
  simp only [load_row 3 (by decide), load_row 5 (by decide), h _ _ _ hp]
  rfl

/-! ### The stored codes and scales of the norm -/

theorem pieces_normCodes : View.PiecesOf (Val := Elt Ideal) (e := .fp8e4m3) (codes2 (normB x0 x1 x2 x3 x4 x5)) ([⟨Rect.unit (s := S160x1920) ![128, 0] S32x1920.size (by decide), (kernelRun0_A.sl.v700 (F := Ideal) c arg1 harg1 arg2 harg2 arg3 harg3 arg4 harg4 arg5 harg5 arg6 harg6 arg20 arg21 arg22 x0 x1 x2 x3 x4 x5)⟩, ⟨Rect.unit (s := S160x1920) ![96, 0] S32x1920.size (by decide), (kernelRun0_A.sl.v618 (F := Ideal) c arg1 harg1 arg2 harg2 arg3 harg3 arg4 harg4 arg5 harg5 arg6 harg6 arg20 arg21 arg22 x0 x1 x2 x3 x4 x5)⟩, ⟨Rect.unit (s := S160x1920) ![64, 0] S32x1920.size (by decide), (kernelRun0_A.sl.v536 (F := Ideal) c arg1 harg1 arg2 harg2 arg3 harg3 arg4 harg4 arg5 harg5 arg6 harg6 arg20 arg21 arg22 x0 x1 x2 x3 x4 x5)⟩, ⟨Rect.unit (s := S160x1920) ![32, 0] S32x1920.size (by decide), (kernelRun0_A.sl.v454 (F := Ideal) c arg1 harg1 arg2 harg2 arg3 harg3 arg4 harg4 arg5 harg5 arg6 harg6 arg20 arg21 arg22 x0 x1 x2 x3 x4 x5)⟩, ⟨Rect.unit (s := S160x1920) ![0, 0] S32x1920.size (by decide), (kernelRun0_A.sl.v372 (F := Ideal) c arg1 harg1 arg2 harg2 arg3 harg3 arg4 harg4 arg5 harg5 arg6 harg6 arg20 arg21 arg22 x0 x1 x2 x3 x4 x5)⟩] : List (View.Piece (Elt Ideal) S160x1920 .fp8e4m3)) :=
  ⟨(chunk_norm (chunk_mid 8 (by decide)) (by decide)).code2 (o' := 128) rfl (by decide) rfl (by decide),
    (chunk_norm (chunk_mid 6 (by decide)) (by decide)).code2 (o' := 96) rfl (by decide) rfl (by decide),
    (chunk_norm (chunk_mid 4 (by decide)) (by decide)).code2 (o' := 64) rfl (by decide) rfl (by decide),
    (chunk_norm (chunk_mid 2 (by decide)) (by decide)).code2 (o' := 32) rfl (by decide) rfl (by decide),
    (chunk_norm (chunk_mid 0 (by decide)) (by decide)).code2 (o' := 0) rfl (by decide) rfl (by decide), trivial⟩

theorem pieces_normScales : View.PiecesOf (Val := Elt Ideal) (e := .f32) (scales2 (normB x0 x1 x2 x3 x4 x5)) ([⟨Rect.unit (s := S160x128) ![128, 0] S32x128.size (by decide), (kernelRun0_A.sl.v707 (F := Ideal) c arg1 harg1 arg2 harg2 arg3 harg3 arg4 harg4 arg5 harg5 arg6 harg6 arg20 arg21 arg22 x0 x1 x2 x3 x4 x5)⟩, ⟨Rect.unit (s := S160x128) ![96, 0] S32x128.size (by decide), (kernelRun0_A.sl.v625 (F := Ideal) c arg1 harg1 arg2 harg2 arg3 harg3 arg4 harg4 arg5 harg5 arg6 harg6 arg20 arg21 arg22 x0 x1 x2 x3 x4 x5)⟩, ⟨Rect.unit (s := S160x128) ![64, 0] S32x128.size (by decide), (kernelRun0_A.sl.v543 (F := Ideal) c arg1 harg1 arg2 harg2 arg3 harg3 arg4 harg4 arg5 harg5 arg6 harg6 arg20 arg21 arg22 x0 x1 x2 x3 x4 x5)⟩, ⟨Rect.unit (s := S160x128) ![32, 0] S32x128.size (by decide), (kernelRun0_A.sl.v461 (F := Ideal) c arg1 harg1 arg2 harg2 arg3 harg3 arg4 harg4 arg5 harg5 arg6 harg6 arg20 arg21 arg22 x0 x1 x2 x3 x4 x5)⟩, ⟨Rect.unit (s := S160x128) ![0, 0] S32x128.size (by decide), (kernelRun0_A.sl.v379 (F := Ideal) c arg1 harg1 arg2 harg2 arg3 harg3 arg4 harg4 arg5 harg5 arg6 harg6 arg20 arg21 arg22 x0 x1 x2 x3 x4 x5)⟩] : List (View.Piece (Elt Ideal) S160x128 .f32)) :=
  ⟨(chunk_norm (chunk_mid 8 (by decide)) (by decide)).scale2 (o' := 128) rfl (by decide) rfl (by decide),
    (chunk_norm (chunk_mid 6 (by decide)) (by decide)).scale2 (o' := 96) rfl (by decide) rfl (by decide),
    (chunk_norm (chunk_mid 4 (by decide)) (by decide)).scale2 (o' := 64) rfl (by decide) rfl (by decide),
    (chunk_norm (chunk_mid 2 (by decide)) (by decide)).scale2 (o' := 32) rfl (by decide) rfl (by decide),
    (chunk_norm (chunk_mid 0 (by decide)) (by decide)).scale2 (o' := 0) rfl (by decide) rfl (by decide), trivial⟩

theorem cover_normCodes (y : S160x1920.Idx) : ∃ p ∈ ([⟨Rect.unit (s := S160x1920) ![128, 0] S32x1920.size (by decide), (kernelRun0_A.sl.v700 (F := Ideal) c arg1 harg1 arg2 harg2 arg3 harg3 arg4 harg4 arg5 harg5 arg6 harg6 arg20 arg21 arg22 x0 x1 x2 x3 x4 x5)⟩, ⟨Rect.unit (s := S160x1920) ![96, 0] S32x1920.size (by decide), (kernelRun0_A.sl.v618 (F := Ideal) c arg1 harg1 arg2 harg2 arg3 harg3 arg4 harg4 arg5 harg5 arg6 harg6 arg20 arg21 arg22 x0 x1 x2 x3 x4 x5)⟩, ⟨Rect.unit (s := S160x1920) ![64, 0] S32x1920.size (by decide), (kernelRun0_A.sl.v536 (F := Ideal) c arg1 harg1 arg2 harg2 arg3 harg3 arg4 harg4 arg5 harg5 arg6 harg6 arg20 arg21 arg22 x0 x1 x2 x3 x4 x5)⟩, ⟨Rect.unit (s := S160x1920) ![32, 0] S32x1920.size (by decide), (kernelRun0_A.sl.v454 (F := Ideal) c arg1 harg1 arg2 harg2 arg3 harg3 arg4 harg4 arg5 harg5 arg6 harg6 arg20 arg21 arg22 x0 x1 x2 x3 x4 x5)⟩, ⟨Rect.unit (s := S160x1920) ![0, 0] S32x1920.size (by decide), (kernelRun0_A.sl.v372 (F := Ideal) c arg1 harg1 arg2 harg2 arg3 harg3 arg4 harg4 arg5 harg5 arg6 harg6 arg20 arg21 arg22 x0 x1 x2 x3 x4 x5)⟩] : List (View.Piece (Elt Ideal) S160x1920 .fp8e4m3)), y ∈ p.1.set :=
  View.cover_of_tiledL ([⟨Rect.unit (s := S160x1920) ![128, 0] S32x1920.size (by decide), (kernelRun0_A.sl.v700 (F := Ideal) c arg1 harg1 arg2 harg2 arg3 harg3 arg4 harg4 arg5 harg5 arg6 harg6 arg20 arg21 arg22 x0 x1 x2 x3 x4 x5)⟩, ⟨Rect.unit (s := S160x1920) ![96, 0] S32x1920.size (by decide), (kernelRun0_A.sl.v618 (F := Ideal) c arg1 harg1 arg2 harg2 arg3 harg3 arg4 harg4 arg5 harg5 arg6 harg6 arg20 arg21 arg22 x0 x1 x2 x3 x4 x5)⟩, ⟨Rect.unit (s := S160x1920) ![64, 0] S32x1920.size (by decide), (kernelRun0_A.sl.v536 (F := Ideal) c arg1 harg1 arg2 harg2 arg3 harg3 arg4 harg4 arg5 harg5 arg6 harg6 arg20 arg21 arg22 x0 x1 x2 x3 x4 x5)⟩, ⟨Rect.unit (s := S160x1920) ![32, 0] S32x1920.size (by decide), (kernelRun0_A.sl.v454 (F := Ideal) c arg1 harg1 arg2 harg2 arg3 harg3 arg4 harg4 arg5 harg5 arg6 harg6 arg20 arg21 arg22 x0 x1 x2 x3 x4 x5)⟩, ⟨Rect.unit (s := S160x1920) ![0, 0] S32x1920.size (by decide), (kernelRun0_A.sl.v372 (F := Ideal) c arg1 harg1 arg2 harg2 arg3 harg3 arg4 harg4 arg5 harg5 arg6 harg6 arg20 arg21 arg22 x0 x1 x2 x3 x4 x5)⟩] : List (View.Piece (Elt Ideal) S160x1920 .fp8e4m3)) S32x1920.size (by sl_kernel_rfl) y

theorem load_normCodes (r : Fin 160) (k : Fin 1920) : (kernelRun0_A.sl.v737 (F := Ideal) c arg1 harg1 arg2 harg2 arg3 harg3 arg4 harg4 arg5 harg5 arg6 harg6 arg20 arg21 arg22 x0 x1 x2 x3 x4 x5) (ix2 r k) = codes2 (normB x0 x1 x2 x3 x4 x5) (ix2 r k) := by
  refine (congrFun (View.readCov_eq_canon' _ _ _) _).trans ?_
  refine (View.canon_append_of_piecesOf (Val := Elt Ideal) (e := .fp8e4m3) (codes2 (normB x0 x1 x2 x3 x4 x5)) (kernelRun0_A.sl.HS0_5 (F := Ideal) c arg1 harg1 x0)
    ([⟨Rect.unit (s := S160x1920) ![128, 0] S32x1920.size (by decide), (kernelRun0_A.sl.v700 (F := Ideal) c arg1 harg1 arg2 harg2 arg3 harg3 arg4 harg4 arg5 harg5 arg6 harg6 arg20 arg21 arg22 x0 x1 x2 x3 x4 x5)⟩, ⟨Rect.unit (s := S160x1920) ![96, 0] S32x1920.size (by decide), (kernelRun0_A.sl.v618 (F := Ideal) c arg1 harg1 arg2 harg2 arg3 harg3 arg4 harg4 arg5 harg5 arg6 harg6 arg20 arg21 arg22 x0 x1 x2 x3 x4 x5)⟩, ⟨Rect.unit (s := S160x1920) ![64, 0] S32x1920.size (by decide), (kernelRun0_A.sl.v536 (F := Ideal) c arg1 harg1 arg2 harg2 arg3 harg3 arg4 harg4 arg5 harg5 arg6 harg6 arg20 arg21 arg22 x0 x1 x2 x3 x4 x5)⟩, ⟨Rect.unit (s := S160x1920) ![32, 0] S32x1920.size (by decide), (kernelRun0_A.sl.v454 (F := Ideal) c arg1 harg1 arg2 harg2 arg3 harg3 arg4 harg4 arg5 harg5 arg6 harg6 arg20 arg21 arg22 x0 x1 x2 x3 x4 x5)⟩, ⟨Rect.unit (s := S160x1920) ![0, 0] S32x1920.size (by decide), (kernelRun0_A.sl.v372 (F := Ideal) c arg1 harg1 arg2 harg2 arg3 harg3 arg4 harg4 arg5 harg5 arg6 harg6 arg20 arg21 arg22 x0 x1 x2 x3 x4 x5)⟩] : List (View.Piece (Elt Ideal) S160x1920 .fp8e4m3)) pieces_normCodes _ (cover_normCodes _)).trans ?_
  exact congrArg (codes2 (normB x0 x1 x2 x3 x4 x5)) (emb2 (n0 := 160) (n1 := 1920) 0 0 _ r k r k (Nat.zero_add _).symm (by omega))

theorem cover_normScales (y : S160x128.Idx) : ∃ p ∈ ([⟨Rect.unit (s := S160x128) ![128, 0] S32x128.size (by decide), (kernelRun0_A.sl.v707 (F := Ideal) c arg1 harg1 arg2 harg2 arg3 harg3 arg4 harg4 arg5 harg5 arg6 harg6 arg20 arg21 arg22 x0 x1 x2 x3 x4 x5)⟩, ⟨Rect.unit (s := S160x128) ![96, 0] S32x128.size (by decide), (kernelRun0_A.sl.v625 (F := Ideal) c arg1 harg1 arg2 harg2 arg3 harg3 arg4 harg4 arg5 harg5 arg6 harg6 arg20 arg21 arg22 x0 x1 x2 x3 x4 x5)⟩, ⟨Rect.unit (s := S160x128) ![64, 0] S32x128.size (by decide), (kernelRun0_A.sl.v543 (F := Ideal) c arg1 harg1 arg2 harg2 arg3 harg3 arg4 harg4 arg5 harg5 arg6 harg6 arg20 arg21 arg22 x0 x1 x2 x3 x4 x5)⟩, ⟨Rect.unit (s := S160x128) ![32, 0] S32x128.size (by decide), (kernelRun0_A.sl.v461 (F := Ideal) c arg1 harg1 arg2 harg2 arg3 harg3 arg4 harg4 arg5 harg5 arg6 harg6 arg20 arg21 arg22 x0 x1 x2 x3 x4 x5)⟩, ⟨Rect.unit (s := S160x128) ![0, 0] S32x128.size (by decide), (kernelRun0_A.sl.v379 (F := Ideal) c arg1 harg1 arg2 harg2 arg3 harg3 arg4 harg4 arg5 harg5 arg6 harg6 arg20 arg21 arg22 x0 x1 x2 x3 x4 x5)⟩] : List (View.Piece (Elt Ideal) S160x128 .f32)), y ∈ p.1.set :=
  View.cover_of_tiledL ([⟨Rect.unit (s := S160x128) ![128, 0] S32x128.size (by decide), (kernelRun0_A.sl.v707 (F := Ideal) c arg1 harg1 arg2 harg2 arg3 harg3 arg4 harg4 arg5 harg5 arg6 harg6 arg20 arg21 arg22 x0 x1 x2 x3 x4 x5)⟩, ⟨Rect.unit (s := S160x128) ![96, 0] S32x128.size (by decide), (kernelRun0_A.sl.v625 (F := Ideal) c arg1 harg1 arg2 harg2 arg3 harg3 arg4 harg4 arg5 harg5 arg6 harg6 arg20 arg21 arg22 x0 x1 x2 x3 x4 x5)⟩, ⟨Rect.unit (s := S160x128) ![64, 0] S32x128.size (by decide), (kernelRun0_A.sl.v543 (F := Ideal) c arg1 harg1 arg2 harg2 arg3 harg3 arg4 harg4 arg5 harg5 arg6 harg6 arg20 arg21 arg22 x0 x1 x2 x3 x4 x5)⟩, ⟨Rect.unit (s := S160x128) ![32, 0] S32x128.size (by decide), (kernelRun0_A.sl.v461 (F := Ideal) c arg1 harg1 arg2 harg2 arg3 harg3 arg4 harg4 arg5 harg5 arg6 harg6 arg20 arg21 arg22 x0 x1 x2 x3 x4 x5)⟩, ⟨Rect.unit (s := S160x128) ![0, 0] S32x128.size (by decide), (kernelRun0_A.sl.v379 (F := Ideal) c arg1 harg1 arg2 harg2 arg3 harg3 arg4 harg4 arg5 harg5 arg6 harg6 arg20 arg21 arg22 x0 x1 x2 x3 x4 x5)⟩] : List (View.Piece (Elt Ideal) S160x128 .f32)) S32x128.size (by sl_kernel_rfl) y

theorem load_normScales (r : Fin 160) (k : Fin 1) : (kernelRun0_A.sl.v740 (F := Ideal) c arg1 harg1 arg2 harg2 arg3 harg3 arg4 harg4 arg5 harg5 arg6 harg6 arg20 arg21 arg22 x0 x1 x2 x3 x4 x5) (ix2 r k) = scales2 (normB x0 x1 x2 x3 x4 x5) (ix2 r 0) := by
  refine (congrFun (View.readCov_eq_canon' _ _ _) _).trans ?_
  refine (View.canon_append_of_piecesOf (Val := Elt Ideal) (e := .f32) (scales2 (normB x0 x1 x2 x3 x4 x5)) (kernelRun0_A.sl.HS2_5 (F := Ideal) c arg1 harg1 x0)
    ([⟨Rect.unit (s := S160x128) ![128, 0] S32x128.size (by decide), (kernelRun0_A.sl.v707 (F := Ideal) c arg1 harg1 arg2 harg2 arg3 harg3 arg4 harg4 arg5 harg5 arg6 harg6 arg20 arg21 arg22 x0 x1 x2 x3 x4 x5)⟩, ⟨Rect.unit (s := S160x128) ![96, 0] S32x128.size (by decide), (kernelRun0_A.sl.v625 (F := Ideal) c arg1 harg1 arg2 harg2 arg3 harg3 arg4 harg4 arg5 harg5 arg6 harg6 arg20 arg21 arg22 x0 x1 x2 x3 x4 x5)⟩, ⟨Rect.unit (s := S160x128) ![64, 0] S32x128.size (by decide), (kernelRun0_A.sl.v543 (F := Ideal) c arg1 harg1 arg2 harg2 arg3 harg3 arg4 harg4 arg5 harg5 arg6 harg6 arg20 arg21 arg22 x0 x1 x2 x3 x4 x5)⟩, ⟨Rect.unit (s := S160x128) ![32, 0] S32x128.size (by decide), (kernelRun0_A.sl.v461 (F := Ideal) c arg1 harg1 arg2 harg2 arg3 harg3 arg4 harg4 arg5 harg5 arg6 harg6 arg20 arg21 arg22 x0 x1 x2 x3 x4 x5)⟩, ⟨Rect.unit (s := S160x128) ![0, 0] S32x128.size (by decide), (kernelRun0_A.sl.v379 (F := Ideal) c arg1 harg1 arg2 harg2 arg3 harg3 arg4 harg4 arg5 harg5 arg6 harg6 arg20 arg21 arg22 x0 x1 x2 x3 x4 x5)⟩] : List (View.Piece (Elt Ideal) S160x128 .f32)) pieces_normScales _ (cover_normScales _)).trans ?_
  exact congrArg (scales2 (normB x0 x1 x2 x3 x4 x5)) (emb2 (n0 := 160) (n1 := 128) 0 0 _ r k r 0 (Nat.zero_add _).symm (by omega))

end Cert.FfnIdeal.Value
-- ==== Proof.Hidden.lean ====
module

public import proofs.«01_k».proof.Proof.Norm
public import Idealize.ShloMosaic.Lib.Pipeline.ValueKit
public import Idealize.ShloMosaic.Lib.Pipeline.ReadBack
public import Idealize.ShloMosaic.Lib.Pointwise

/-!
# The hidden activations

The first linear map of the second branch with its activation, fifteen chunks of 512 columns, each row's largest absolute
value kept lane by lane along the way; then the hidden scales and codes.
-/

set_option maxRecDepth 65536

@[expose] public section

noncomputable section

open Idealize.ShloMosaic Idealize.ShloMosaic.TcCoe Idealize.SL.Sem

namespace Cert.FfnIdeal.Value

open Cert.FfnIdeal Cert.FfnIdeal.Gen

theorem named_root : Named.named (F := Ideal) (φ := .f32) κ "root" 0x3F4C422A#32 = Row.root := by
  simp [Named.named, κ, Row.root]

theorem named_rcube : Named.named (F := Ideal) (φ := .f32) κ "rcube" 0x3D122279#32
    = (((Real.sqrt (2 * Real.pi⁻¹)) * (8943 / 200000) : ℝ) : EReal) := by
  simp [Named.named, κ]

/-- A chunk of hidden activations from the codes, scales and weights it is computed from. -/
theorem hidden_at (a : FVec Ideal S160x1920 .fp8e4m3) (w : FVec Ideal S1920x512 .fp8e4m3) (s : FVec Ideal S160x1 .f32) (ws b : FVec Ideal S1x512 .f32)
    (r : Fin 160) (n : Fin 512) :
    k0_pay93 (F := Ideal) a w s ws b (ix2 r n)
      = Row.gelu ((∑ k : Fin 1920, a (ix2 r k) * w (ix2 k n)) * s (ix2 r 0) * ws (ix2 0 n) + b (ix2 0 n)) := by
  pointwise [k0_pay93]
  rw [named_root, named_rcube, Row.gelu_arg]
  rfl

/-- Taking one chunk into the lanes' running maxima. -/
theorem lanes_at (L : FVec Ideal S160x128 .f32) (X : FVec Ideal S160x512 .f32) (r : Fin 160) (l : Fin 128) :
    k0_pay95 (F := Ideal) L X (ix2 r l)
      = max (max (max (max (L (ix2 r l)) (Row.mag (X (ix2 r ⟨l, by omega⟩)))) (Row.mag (X (ix2 r ⟨128 + l, by omega⟩))))
          (Row.mag (X (ix2 r ⟨256 + l, by omega⟩)))) (Row.mag (X (ix2 r ⟨384 + l, by omega⟩))) := by
  pointwise [k0_pay95]

/-- The lanes start from zero. -/
theorem lanes_zero (r : Fin 160) (l : Fin 128) : k0_pay92 (F := Ideal) (ix2 r l) = (0 : EReal) := by
  pointwise [k0_pay92]

/-- The hidden scales from the lanes' maxima before the last chunk. -/
theorem hidden_scale_at (L : FVec Ideal S160x128 .f32) (a : FVec Ideal S160x1920 .fp8e4m3) (w : FVec Ideal S1920x512 .fp8e4m3)
    (s : FVec Ideal S160x1 .f32) (ws b : FVec Ideal S1x512 .f32) (p : Fin 10) (r : Fin 16) (z : Fin 1) :
    k0_pay150 (F := Ideal) (k0_pay148 (F := Ideal) L a w s ws b) (k0_pay149 (F := Ideal) L a w s ws b) (Scalar.ofBits .f32 0x3F800000#32) (ix3 p r z)
      = Row.scaleOf (Finset.univ.fold max (Ideal.ofBits .f32 0xFF800000#32)
          fun l : Fin 128 => k0_pay95 (F := Ideal) L (k0_pay93 (F := Ideal) a w s ws b) (ix2 (⟨p * 16 + r, by omega⟩ : Fin 160) l)) := by
  have e : k0_pay145 (F := Ideal) a w s ws b = k0_pay93 (F := Ideal) a w s ws b := rfl
  pointwise [k0_pay150, k0_pay148, k0_pay149, k0_pay147, k0_pay95]
  rw [e, named_inv448, Row.mul_inv448]
  rfl

/-- The codes of a chunk of 512 columns from their reciprocal scales. -/
theorem hidden_code_at (D : FVec Ideal S10x16x1 .f32) (X : FVec Ideal S160x512 .f32) (p : Fin 10) (r : Fin 16) (n : Fin 512) :
    k0_pay166 (F := Ideal) D X (ix3 p r n) = Row.clip (X (ix2 (⟨p * 16 + r, by omega⟩ : Fin 160) n) * D (ix3 p r 0)) := by
  pointwise [k0_pay166]
  rfl

/-- The same, the tokens laid out as 160 rows. -/
theorem hidden_code2_at (D : FVec Ideal S10x16x1 .f32) (X : FVec Ideal S160x512 .f32) (q : Fin 160) (n : Fin 512) :
    k0_pay167 (F := Ideal) D X (ix2 q n)
      = k0_pay166 (F := Ideal) D X (ix3 (⟨q / 16, by omega⟩ : Fin 10) (⟨q % 16, by omega⟩ : Fin 16) n) := by
  pointwise [k0_pay167]

theorem same512_at (X : FVec Ideal S160x512 .f32) (q : Fin 160) (n : Fin 512) : k0_pay94 (F := Ideal) X (ix2 q n) = X (ix2 q n) := by
  pointwise [k0_pay94]

/-- `X` holds the 512 columns of `B` from column `o` on. -/
def Cols (o : ℕ) (B : S160x7680.Idx → EReal) (X : FVec Ideal S160x512 .f32) : Prop :=
  ∀ (q : Fin 160) (n : Fin 512) (h : o + n < 7680), X (ix2 q n) = B (ix2 q ⟨o + n, h⟩)

theorem Cols.piece {o : ℕ} {B : S160x7680.Idx → EReal} {X P : FVec Ideal S160x512 .f32} (h : Cols o B X)
    (hP : P = k0_pay94 (F := Ideal) X) (ho : o + 512 ≤ 7680) (inb) (x : S160x512.Idx) :
    P x = B ((Rect.unit (s := S160x7680) ![0, o] S160x512.size inb).emb x) := by
  subst hP
  idx_vars x
  rw [same512_at, h _ _ (show o + x1.val < 7680 by omega)]
  exact congrArg B (emb2 (n0 := 160) (n1 := 7680) 0 o inb x0 x1 x0 ⟨o + x1, by omega⟩ (Nat.zero_add _).symm rfl).symm

/-- One more chunk in the lanes. -/
theorem Cols.lanes {c : ℕ} {B : S160x7680.Idx → EReal} {X : FVec Ideal S160x512 .f32} {L : FVec Ideal S160x128 .f32} {q : Fin 160}
    (h : Cols (512 * c) B X) (hc : c < 15) (hL : Row.LaneMax c (fun k => B (ix2 q k)) fun l => L (ix2 q l)) :
    Row.LaneMax (c + 1) (fun k => B (ix2 q k)) fun l => k0_pay95 (F := Ideal) L X (ix2 q l) := by
  have := hL.step hc (fun n => X (ix2 q n)) fun n => h q n (by omega)
  simpa only [lanes_at] using this

theorem lanes_eq {c : ℕ} {v : Fin 7680 → EReal} {L P : FVec Ideal S160x128 .f32} {q : Fin 160}
    (hL : Row.LaneMax c v fun l => L (ix2 q l)) (hP : P = L) : Row.LaneMax c v fun l => P (ix2 q l) := hP ▸ hL

/-! ### The stages over the block -/

variable (x0 : FVec Ideal S10x16x1920 .f32) (x1 : FVec Ideal S10x16x1920 .bf16) (x2 : FVec Ideal S6x16x1920 .f32) (x3
  : FVec Ideal S1920x1920 .fp8e4m3) (x4 : FVec Ideal S1x1920 .f32) (x5 : FVec Ideal S1x1920 .f32) (x6 : FVec Ideal
  S1920x7680 .fp8e4m3) (x7 : FVec Ideal S1x7680 .f32) (x8 : FVec Ideal S1x7680 .f32)

/-- The hidden activations of the block, its tokens laid out as 160 rows. -/
def hiddenB : S160x7680.Idx → EReal := fun y =>
  Row.hidden (fun k => normB x0 x1 x2 x3 x4 x5 (ix3 (⟨(y 0).val / 16, by have := (y 0).isLt; change _ < 160 at this; omega⟩ : Fin 10) (⟨(y 0).val % 16, by omega⟩ : Fin 16) k))
    (fun k n => x6 (ix2 k n)) (fun n => x7 (ix2 0 n)) (fun n => x8 (ix2 0 n)) (y 1)

variable {x0 x1 x2 x3 x4 x5 x6 x7 x8}
variable {c : Dev nD} {arg1 : Memref sig .tc .vmem S10x16x1920 .f32} {harg1 : arg1.IsWhole} {arg2 : Memref sig .tc
  .vmem S10x16x1920 .bf16} {harg2 : arg2.IsWhole} {arg3 : Memref sig .tc .vmem S6x16x1920 .f32} {harg3 : arg3.IsWhole}
  {arg4 : Memref sig .tc .vmem S1920x1920 .fp8e4m3} {harg4 : arg4.IsWhole} {arg5 : Memref sig .tc .vmem S1x1920 .f32}
  {harg5 : arg5.IsWhole} {arg6 : Memref sig .tc .vmem S1x1920 .f32} {harg6 : arg6.IsWhole} {arg7 : Memref sig .tc
  .vmem S1920x7680 .fp8e4m3} {harg7 : arg7.IsWhole} {arg8 : Memref sig .tc .vmem S1x7680 .f32} {harg8 : arg8.IsWhole}
  {arg9 : Memref sig .tc .vmem S1x7680 .f32} {harg9 : arg9.IsWhole} {arg20 : Memref sig .tc .vmem S160x1920 .fp8e4m3}
  {arg21 : Memref sig .tc .vmem S10x16x1920 .f32} {arg22 : Memref sig .tc .vmem S160x128 .f32} {arg23 : Memref sig .tc
  .vmem S160x7680 .f32}

theorem load_cols1 {M : Memref sig .tc .vmem S1x7680 .f32} (hM : M.IsWhole) (Y : FVec Ideal S1x7680 .f32) (o : ℕ)
    (inb : ∀ a, ![0, o] a + S1x512.size a ≤ S1x7680.size a) (n : Fin 512) (h : o + n < 7680) :
    View.readAt (Elt Ideal) M.view (Rect.unit (s := S1x7680) ![0, o] S1x512.size inb).toLoadRect (hM.unread Y) (ix2 0 n) = Y (ix2 0 ⟨o + n, h⟩) := by
  rw [View.readAt_eq_ld, hM.read_unread]
  exact congrArg Y (emb2 (n0 := 1) (n1 := 7680) 0 o inb 0 n 0 ⟨o + n, h⟩ rfl rfl)

theorem load_cols (o : ℕ) (inb : ∀ a, ![0, o] a + S1920x512.size a ≤ S1920x7680.size a) (k : Fin 1920) (n : Fin 512) (h : o + n < 7680) :
    View.readAt (Elt Ideal) arg7.view (Rect.unit (s := S1920x7680) ![0, o] S1920x512.size inb).toLoadRect (harg7.unread x6) (ix2 k n) = x6 (ix2 k ⟨o + n, h⟩) := by
  rw [View.readAt_eq_ld, harg7.read_unread]
  exact congrArg x6 (emb2 (n0 := 1920) (n1 := 7680) 0 o inb k n k ⟨o + n, h⟩ (Nat.zero_add _).symm rfl)

/-- The chunk of hidden activations from column `o` on. -/
theorem cols_hidden (o : ℕ) (inb6 : ∀ a, ![0, o] a + S1920x512.size a ≤ S1920x7680.size a) (inb7 : ∀ a, ![0, o] a + S1x512.size a ≤ S1x7680.size a) :
    Cols o (hiddenB x0 x1 x2 x3 x4 x5 x6 x7 x8) (k0_pay93 (F := Ideal) (kernelRun0_A.sl.v737 (F := Ideal) c arg1 harg1 arg2 harg2 arg3 harg3 arg4 harg4 arg5 harg5 arg6 harg6 arg20 arg21 arg22 x0 x1 x2 x3 x4 x5)
      (View.readAt (Elt Ideal) arg7.view (Rect.unit (s := S1920x7680) ![0, o] S1920x512.size inb6).toLoadRect (harg7.unread x6)) (kernelRun0_A.sl.v740 (F := Ideal) c arg1 harg1 arg2 harg2 arg3 harg3 arg4 harg4 arg5 harg5 arg6 harg6 arg20 arg21 arg22 x0 x1 x2 x3 x4 x5)
      (View.readAt (Elt Ideal) arg8.view (Rect.unit (s := S1x7680) ![0, o] S1x512.size inb7).toLoadRect (harg8.unread x7))
      (View.readAt (Elt Ideal) arg9.view (Rect.unit (s := S1x7680) ![0, o] S1x512.size inb7).toLoadRect (harg9.unread x8))) := by
  intro q n h
  rw [hidden_at, load_cols1 harg8 x7 o inb7 n h, load_cols1 harg9 x8 o inb7 n h]
  simp only [load_cols o inb6 _ n h, load_normCodes, load_normScales]
  rfl

/-- The stored hidden activations. -/
theorem pieces_hidden : View.PiecesOf (Val := Elt Ideal) (e := .f32) (hiddenB x0 x1 x2 x3 x4 x5 x6 x7 x8) (kernelRun0_A.sl.HS3_15 (F := Ideal) c arg1 harg1 arg2 harg2 arg3 harg3 arg4 harg4 arg5 harg5 arg6 harg6 arg7 harg7 arg8 harg8 arg9 harg9 arg20 arg21 arg22 x0 x1 x2 x3 x4 x5 x6 x7 x8) :=
  ⟨(cols_hidden 7168 (by decide) (by decide)).piece rfl (by decide) (by decide),
    (cols_hidden 6656 (by decide) (by decide)).piece rfl (by decide) (by decide),
    (cols_hidden 6144 (by decide) (by decide)).piece rfl (by decide) (by decide),
    (cols_hidden 5632 (by decide) (by decide)).piece rfl (by decide) (by decide),
    (cols_hidden 5120 (by decide) (by decide)).piece rfl (by decide) (by decide),
    (cols_hidden 4608 (by decide) (by decide)).piece rfl (by decide) (by decide),
    (cols_hidden 4096 (by decide) (by decide)).piece rfl (by decide) (by decide),
    (cols_hidden 3584 (by decide) (by decide)).piece rfl (by decide) (by decide),
    (cols_hidden 3072 (by decide) (by decide)).piece rfl (by decide) (by decide),
    (cols_hidden 2560 (by decide) (by decide)).piece rfl (by decide) (by decide),
    (cols_hidden 2048 (by decide) (by decide)).piece rfl (by decide) (by decide),
    (cols_hidden 1536 (by decide) (by decide)).piece rfl (by decide) (by decide),
    (cols_hidden 1024 (by decide) (by decide)).piece rfl (by decide) (by decide),
    (cols_hidden 512 (by decide) (by decide)).piece rfl (by decide) (by decide),
    (cols_hidden 0 (by decide) (by decide)).piece rfl (by decide) (by decide), trivial⟩

theorem cover_hidden (y : S160x7680.Idx) : ∃ p ∈ (kernelRun0_A.sl.HS3_15 (F := Ideal) c arg1 harg1 arg2 harg2 arg3 harg3 arg4 harg4 arg5 harg5 arg6 harg6 arg7 harg7 arg8 harg8 arg9 harg9 arg20 arg21 arg22 x0 x1 x2 x3 x4 x5 x6 x7 x8), y ∈ p.1.set :=
  View.cover_of_tiledL (kernelRun0_A.sl.HS3_15 (F := Ideal) c arg1 harg1 arg2 harg2 arg3 harg3 arg4 harg4 arg5 harg5 arg6 harg6 arg7 harg7 arg8 harg8 arg9 harg9 arg20 arg21 arg22 x0 x1 x2 x3 x4 x5 x6 x7 x8) S160x512.size (by sl_kernel_rfl) y

/-- The hidden activations loaded from column `o` on. -/
theorem cols_load (o : ℕ) (inb : ∀ a, ![0, o] a + S160x512.size a ≤ S160x7680.size a) :
    Cols o (hiddenB x0 x1 x2 x3 x4 x5 x6 x7 x8) (arg23.view.readCov (kernelRun0_A.sl.HS3_15 (F := Ideal) c arg1 harg1 arg2 harg2 arg3 harg3 arg4 harg4 arg5 harg5 arg6 harg6 arg7 harg7 arg8 harg8 arg9 harg9 arg20 arg21 arg22 x0 x1 x2 x3 x4 x5 x6 x7 x8) (Rect.unit (s := S160x7680) ![0, o] S160x512.size inb).toLoadRect) := by
  intro q n h
  refine (readCov_of_pieces _ _ _ _ pieces_hidden cover_hidden _).trans ?_
  exact congrArg _ (emb2 (n0 := 160) (n1 := 7680) 0 o inb q n q ⟨o + n, h⟩ (Nat.zero_add _).symm rfl)

/-! ### The lanes' maxima and the hidden scale -/

theorem lanes_0 (q : Fin 160) : Row.LaneMax 0 (fun k => (hiddenB x0 x1 x2 x3 x4 x5 x6 x7 x8) (ix2 q k)) fun l => k0_pay92 (F := Ideal) (ix2 q l) := by
  simpa only [lanes_zero] using Row.LaneMax.zero _

theorem lanes_1 (q : Fin 160) : Row.LaneMax 1 (fun k => (hiddenB x0 x1 x2 x3 x4 x5 x6 x7 x8) (ix2 q k)) fun l => (kernelRun0_A.sl.r_24 (F := Ideal) c arg1 harg1 arg2 harg2 arg3 harg3 arg4 harg4 arg5 harg5 arg6 harg6 arg7 harg7 arg8 harg8 arg9 harg9 arg20 arg21 arg22 x0 x1 x2 x3 x4 x5 x6 x7 x8) (ix2 q l) :=
  lanes_eq ((cols_hidden 0 (by decide) (by decide)).lanes (c := 0) (by decide) (lanes_0 q)) rfl

theorem lanes_5 (q : Fin 160) : Row.LaneMax 5 (fun k => (hiddenB x0 x1 x2 x3 x4 x5 x6 x7 x8) (ix2 q k)) fun l => (kernelRun0_A.sl.r_29 (F := Ideal) c arg1 harg1 arg2 harg2 arg3 harg3 arg4 harg4 arg5 harg5 arg6 harg6 arg7 harg7 arg8 harg8 arg9 harg9 arg20 arg21 arg22 x0 x1 x2 x3 x4 x5 x6 x7 x8) (ix2 q l) :=
  lanes_eq ((cols_hidden 2048 (by decide) (by decide)).lanes (c := 4) (by decide) ((cols_hidden 1536 (by decide) (by decide)).lanes (c := 3) (by decide) ((cols_hidden 1024 (by decide) (by decide)).lanes (c := 2) (by decide) ((cols_hidden 512 (by decide) (by decide)).lanes (c := 1) (by decide) (lanes_1 q))))) rfl

theorem lanes_6 (q : Fin 160) : Row.LaneMax 6 (fun k => (hiddenB x0 x1 x2 x3 x4 x5 x6 x7 x8) (ix2 q k)) fun l => (kernelRun0_A.sl.r_31 (F := Ideal) c arg1 harg1 arg2 harg2 arg3 harg3 arg4 harg4 arg5 harg5 arg6 harg6 arg7 harg7 arg8 harg8 arg9 harg9 arg20 arg21 arg22 x0 x1 x2 x3 x4 x5 x6 x7 x8) (ix2 q l) :=
  lanes_eq ((cols_hidden 2560 (by decide) (by decide)).lanes (c := 5) (by decide) (lanes_5 q)) rfl

theorem lanes_7 (q : Fin 160) : Row.LaneMax 7 (fun k => (hiddenB x0 x1 x2 x3 x4 x5 x6 x7 x8) (ix2 q k)) fun l => (kernelRun0_A.sl.r_34 (F := Ideal) c arg1 harg1 arg2 harg2 arg3 harg3 arg4 harg4 arg5 harg5 arg6 harg6 arg7 harg7 arg8 harg8 arg9 harg9 arg20 arg21 arg22 x0 x1 x2 x3 x4 x5 x6 x7 x8) (ix2 q l) :=
  lanes_eq ((cols_hidden 3072 (by decide) (by decide)).lanes (c := 6) (by decide) (lanes_6 q)) rfl

theorem lanes_8 (q : Fin 160) : Row.LaneMax 8 (fun k => (hiddenB x0 x1 x2 x3 x4 x5 x6 x7 x8) (ix2 q k)) fun l => (kernelRun0_A.sl.r_37 (F := Ideal) c arg1 harg1 arg2 harg2 arg3 harg3 arg4 harg4 arg5 harg5 arg6 harg6 arg7 harg7 arg8 harg8 arg9 harg9 arg20 arg21 arg22 x0 x1 x2 x3 x4 x5 x6 x7 x8) (ix2 q l) :=
  lanes_eq ((cols_hidden 3584 (by decide) (by decide)).lanes (c := 7) (by decide) (lanes_7 q)) rfl

theorem lanes_9 (q : Fin 160) : Row.LaneMax 9 (fun k => (hiddenB x0 x1 x2 x3 x4 x5 x6 x7 x8) (ix2 q k)) fun l => (kernelRun0_A.sl.r_40 (F := Ideal) c arg1 harg1 arg2 harg2 arg3 harg3 arg4 harg4 arg5 harg5 arg6 harg6 arg7 harg7 arg8 harg8 arg9 harg9 arg20 arg21 arg22 x0 x1 x2 x3 x4 x5 x6 x7 x8) (ix2 q l) :=
  lanes_eq ((cols_hidden 4096 (by decide) (by decide)).lanes (c := 8) (by decide) (lanes_8 q)) rfl

theorem lanes_10 (q : Fin 160) : Row.LaneMax 10 (fun k => (hiddenB x0 x1 x2 x3 x4 x5 x6 x7 x8) (ix2 q k)) fun l => (kernelRun0_A.sl.r_43 (F := Ideal) c arg1 harg1 arg2 harg2 arg3 harg3 arg4 harg4 arg5 harg5 arg6 harg6 arg7 harg7 arg8 harg8 arg9 harg9 arg20 arg21 arg22 x0 x1 x2 x3 x4 x5 x6 x7 x8) (ix2 q l) :=
  lanes_eq ((cols_hidden 4608 (by decide) (by decide)).lanes (c := 9) (by decide) (lanes_9 q)) rfl

theorem lanes_11 (q : Fin 160) : Row.LaneMax 11 (fun k => (hiddenB x0 x1 x2 x3 x4 x5 x6 x7 x8) (ix2 q k)) fun l => (kernelRun0_A.sl.r_45 (F := Ideal) c arg1 harg1 arg2 harg2 arg3 harg3 arg4 harg4 arg5 harg5 arg6 harg6 arg7 harg7 arg8 harg8 arg9 harg9 arg20 arg21 arg22 x0 x1 x2 x3 x4 x5 x6 x7 x8) (ix2 q l) :=
  lanes_eq ((cols_hidden 5120 (by decide) (by decide)).lanes (c := 10) (by decide) (lanes_10 q)) rfl

theorem lanes_15 (q : Fin 160) : Row.LaneMax 15 (fun k => (hiddenB x0 x1 x2 x3 x4 x5 x6 x7 x8) (ix2 q k)) fun l => (k0_pay95 (F := Ideal) (k0_pay95 (F := Ideal) (k0_pay95 (F := Ideal) (k0_pay95 (F := Ideal) (kernelRun0_A.sl.r_45 (F := Ideal) c arg1 harg1 arg2 harg2 arg3 harg3 arg4 harg4 arg5 harg5 arg6 harg6 arg7 harg7 arg8 harg8 arg9 harg9 arg20 arg21 arg22 x0 x1 x2 x3 x4 x5 x6 x7 x8) (k0_pay93 (F := Ideal) (kernelRun0_A.sl.v737 (F := Ideal) c arg1 harg1 arg2 harg2 arg3 harg3 arg4 harg4 arg5 harg5 arg6 harg6 arg20 arg21 arg22 x0 x1 x2 x3 x4 x5) (View.readAt (Elt Ideal) arg7.view (Rect.unit (s := S1920x7680) ![0, 5632] S1920x512.size (by decide)).toLoadRect (harg7.unread x6)) (kernelRun0_A.sl.v740 (F := Ideal) c arg1 harg1 arg2 harg2 arg3 harg3 arg4 harg4 arg5 harg5 arg6 harg6 arg20 arg21 arg22 x0 x1 x2 x3 x4 x5) (View.readAt (Elt Ideal) arg8.view (Rect.unit (s := S1x7680) ![0, 5632] S1x512.size (by decide)).toLoadRect (harg8.unread x7)) (View.readAt (Elt Ideal) arg9.view (Rect.unit (s := S1x7680) ![0, 5632] S1x512.size (by decide)).toLoadRect (harg9.unread x8)))) (k0_pay93 (F := Ideal) (kernelRun0_A.sl.v737 (F := Ideal) c arg1 harg1 arg2 harg2 arg3 harg3 arg4 harg4 arg5 harg5 arg6 harg6 arg20 arg21 arg22 x0 x1 x2 x3 x4 x5) (View.readAt (Elt Ideal) arg7.view (Rect.unit (s := S1920x7680) ![0, 6144] S1920x512.size (by decide)).toLoadRect (harg7.unread x6)) (kernelRun0_A.sl.v740 (F := Ideal) c arg1 harg1 arg2 harg2 arg3 harg3 arg4 harg4 arg5 harg5 arg6 harg6 arg20 arg21 arg22 x0 x1 x2 x3 x4 x5) (View.readAt (Elt Ideal) arg8.view (Rect.unit (s := S1x7680) ![0, 6144] S1x512.size (by decide)).toLoadRect (harg8.unread x7)) (View.readAt (Elt Ideal) arg9.view (Rect.unit (s := S1x7680) ![0, 6144] S1x512.size (by decide)).toLoadRect (harg9.unread x8)))) (k0_pay93 (F := Ideal) (kernelRun0_A.sl.v737 (F := Ideal) c arg1 harg1 arg2 harg2 arg3 harg3 arg4 harg4 arg5 harg5 arg6 harg6 arg20 arg21 arg22 x0 x1 x2 x3 x4 x5) (View.readAt (Elt Ideal) arg7.view (Rect.unit (s := S1920x7680) ![0, 6656] S1920x512.size (by decide)).toLoadRect (harg7.unread x6)) (kernelRun0_A.sl.v740 (F := Ideal) c arg1 harg1 arg2 harg2 arg3 harg3 arg4 harg4 arg5 harg5 arg6 harg6 arg20 arg21 arg22 x0 x1 x2 x3 x4 x5) (View.readAt (Elt Ideal) arg8.view (Rect.unit (s := S1x7680) ![0, 6656] S1x512.size (by decide)).toLoadRect (harg8.unread x7)) (View.readAt (Elt Ideal) arg9.view (Rect.unit (s := S1x7680) ![0, 6656] S1x512.size (by decide)).toLoadRect (harg9.unread x8)))) (k0_pay93 (F := Ideal) (kernelRun0_A.sl.v737 (F := Ideal) c arg1 harg1 arg2 harg2 arg3 harg3 arg4 harg4 arg5 harg5 arg6 harg6 arg20 arg21 arg22 x0 x1 x2 x3 x4 x5) (View.readAt (Elt Ideal) arg7.view (Rect.unit (s := S1920x7680) ![0, 7168] S1920x512.size (by decide)).toLoadRect (harg7.unread x6)) (kernelRun0_A.sl.v740 (F := Ideal) c arg1 harg1 arg2 harg2 arg3 harg3 arg4 harg4 arg5 harg5 arg6 harg6 arg20 arg21 arg22 x0 x1 x2 x3 x4 x5) (View.readAt (Elt Ideal) arg8.view (Rect.unit (s := S1x7680) ![0, 7168] S1x512.size (by decide)).toLoadRect (harg8.unread x7)) (View.readAt (Elt Ideal) arg9.view (Rect.unit (s := S1x7680) ![0, 7168] S1x512.size (by decide)).toLoadRect (harg9.unread x8)))) (ix2 q l) :=
  ((cols_hidden 7168 (by decide) (by decide)).lanes (c := 14) (by decide) ((cols_hidden 6656 (by decide) (by decide)).lanes (c := 13) (by decide) ((cols_hidden 6144 (by decide) (by decide)).lanes (c := 12) (by decide) ((cols_hidden 5632 (by decide) (by decide)).lanes (c := 11) (by decide) (lanes_11 q)))))

/-- The lanes' maxima before the last chunk. -/
theorem lanes_word : (kernelRun0_A.sl.r_50 (F := Ideal) c arg1 harg1 arg2 harg2 arg3 harg3 arg4 harg4 arg5 harg5 arg6 harg6 arg7 harg7 arg8 harg8 arg9 harg9 arg20 arg21 arg22 x0 x1 x2 x3 x4 x5 x6 x7 x8) = k0_pay148 (F := Ideal) (k0_pay95 (F := Ideal) (k0_pay95 (F := Ideal) (k0_pay95 (F := Ideal) (kernelRun0_A.sl.r_45 (F := Ideal) c arg1 harg1 arg2 harg2 arg3 harg3 arg4 harg4 arg5 harg5 arg6 harg6 arg7 harg7 arg8 harg8 arg9 harg9 arg20 arg21 arg22 x0 x1 x2 x3 x4 x5 x6 x7 x8) (k0_pay93 (F := Ideal) (kernelRun0_A.sl.v737 (F := Ideal) c arg1 harg1 arg2 harg2 arg3 harg3 arg4 harg4 arg5 harg5 arg6 harg6 arg20 arg21 arg22 x0 x1 x2 x3 x4 x5) (View.readAt (Elt Ideal) arg7.view (Rect.unit (s := S1920x7680) ![0, 5632] S1920x512.size (by decide)).toLoadRect (harg7.unread x6)) (kernelRun0_A.sl.v740 (F := Ideal) c arg1 harg1 arg2 harg2 arg3 harg3 arg4 harg4 arg5 harg5 arg6 harg6 arg20 arg21 arg22 x0 x1 x2 x3 x4 x5) (View.readAt (Elt Ideal) arg8.view (Rect.unit (s := S1x7680) ![0, 5632] S1x512.size (by decide)).toLoadRect (harg8.unread x7)) (View.readAt (Elt Ideal) arg9.view (Rect.unit (s := S1x7680) ![0, 5632] S1x512.size (by decide)).toLoadRect (harg9.unread x8)))) (k0_pay93 (F := Ideal) (kernelRun0_A.sl.v737 (F := Ideal) c arg1 harg1 arg2 harg2 arg3 harg3 arg4 harg4 arg5 harg5 arg6 harg6 arg20 arg21 arg22 x0 x1 x2 x3 x4 x5) (View.readAt (Elt Ideal) arg7.view (Rect.unit (s := S1920x7680) ![0, 6144] S1920x512.size (by decide)).toLoadRect (harg7.unread x6)) (kernelRun0_A.sl.v740 (F := Ideal) c arg1 harg1 arg2 harg2 arg3 harg3 arg4 harg4 arg5 harg5 arg6 harg6 arg20 arg21 arg22 x0 x1 x2 x3 x4 x5) (View.readAt (Elt Ideal) arg8.view (Rect.unit (s := S1x7680) ![0, 6144] S1x512.size (by decide)).toLoadRect (harg8.unread x7)) (View.readAt (Elt Ideal) arg9.view (Rect.unit (s := S1x7680) ![0, 6144] S1x512.size (by decide)).toLoadRect (harg9.unread x8)))) (k0_pay93 (F := Ideal) (kernelRun0_A.sl.v737 (F := Ideal) c arg1 harg1 arg2 harg2 arg3 harg3 arg4 harg4 arg5 harg5 arg6 harg6 arg20 arg21 arg22 x0 x1 x2 x3 x4 x5) (View.readAt (Elt Ideal) arg7.view (Rect.unit (s := S1920x7680) ![0, 6656] S1920x512.size (by decide)).toLoadRect (harg7.unread x6)) (kernelRun0_A.sl.v740 (F := Ideal) c arg1 harg1 arg2 harg2 arg3 harg3 arg4 harg4 arg5 harg5 arg6 harg6 arg20 arg21 arg22 x0 x1 x2 x3 x4 x5) (View.readAt (Elt Ideal) arg8.view (Rect.unit (s := S1x7680) ![0, 6656] S1x512.size (by decide)).toLoadRect (harg8.unread x7)) (View.readAt (Elt Ideal) arg9.view (Rect.unit (s := S1x7680) ![0, 6656] S1x512.size (by decide)).toLoadRect (harg9.unread x8)))) (kernelRun0_A.sl.v737 (F := Ideal) c arg1 harg1 arg2 harg2 arg3 harg3 arg4 harg4 arg5 harg5 arg6 harg6 arg20 arg21 arg22 x0 x1 x2 x3 x4 x5) (View.readAt (Elt Ideal) arg7.view (Rect.unit (s := S1920x7680) ![0, 7168] S1920x512.size (by decide)).toLoadRect (harg7.unread x6)) (kernelRun0_A.sl.v740 (F := Ideal) c arg1 harg1 arg2 harg2 arg3 harg3 arg4 harg4 arg5 harg5 arg6 harg6 arg20 arg21 arg22 x0 x1 x2 x3 x4 x5) (View.readAt (Elt Ideal) arg8.view (Rect.unit (s := S1x7680) ![0, 7168] S1x512.size (by decide)).toLoadRect (harg8.unread x7)) (View.readAt (Elt Ideal) arg9.view (Rect.unit (s := S1x7680) ![0, 7168] S1x512.size (by decide)).toLoadRect (harg9.unread x8))
    ∧ (kernelRun0_A.sl.r_51 (F := Ideal) c arg1 harg1 arg2 harg2 arg3 harg3 arg4 harg4 arg5 harg5 arg6 harg6 arg7 harg7 arg8 harg8 arg9 harg9 arg20 arg21 arg22 x0 x1 x2 x3 x4 x5 x6 x7 x8) = k0_pay149 (F := Ideal) (k0_pay95 (F := Ideal) (k0_pay95 (F := Ideal) (k0_pay95 (F := Ideal) (kernelRun0_A.sl.r_45 (F := Ideal) c arg1 harg1 arg2 harg2 arg3 harg3 arg4 harg4 arg5 harg5 arg6 harg6 arg7 harg7 arg8 harg8 arg9 harg9 arg20 arg21 arg22 x0 x1 x2 x3 x4 x5 x6 x7 x8) (k0_pay93 (F := Ideal) (kernelRun0_A.sl.v737 (F := Ideal) c arg1 harg1 arg2 harg2 arg3 harg3 arg4 harg4 arg5 harg5 arg6 harg6 arg20 arg21 arg22 x0 x1 x2 x3 x4 x5) (View.readAt (Elt Ideal) arg7.view (Rect.unit (s := S1920x7680) ![0, 5632] S1920x512.size (by decide)).toLoadRect (harg7.unread x6)) (kernelRun0_A.sl.v740 (F := Ideal) c arg1 harg1 arg2 harg2 arg3 harg3 arg4 harg4 arg5 harg5 arg6 harg6 arg20 arg21 arg22 x0 x1 x2 x3 x4 x5) (View.readAt (Elt Ideal) arg8.view (Rect.unit (s := S1x7680) ![0, 5632] S1x512.size (by decide)).toLoadRect (harg8.unread x7)) (View.readAt (Elt Ideal) arg9.view (Rect.unit (s := S1x7680) ![0, 5632] S1x512.size (by decide)).toLoadRect (harg9.unread x8)))) (k0_pay93 (F := Ideal) (kernelRun0_A.sl.v737 (F := Ideal) c arg1 harg1 arg2 harg2 arg3 harg3 arg4 harg4 arg5 harg5 arg6 harg6 arg20 arg21 arg22 x0 x1 x2 x3 x4 x5) (View.readAt (Elt Ideal) arg7.view (Rect.unit (s := S1920x7680) ![0, 6144] S1920x512.size (by decide)).toLoadRect (harg7.unread x6)) (kernelRun0_A.sl.v740 (F := Ideal) c arg1 harg1 arg2 harg2 arg3 harg3 arg4 harg4 arg5 harg5 arg6 harg6 arg20 arg21 arg22 x0 x1 x2 x3 x4 x5) (View.readAt (Elt Ideal) arg8.view (Rect.unit (s := S1x7680) ![0, 6144] S1x512.size (by decide)).toLoadRect (harg8.unread x7)) (View.readAt (Elt Ideal) arg9.view (Rect.unit (s := S1x7680) ![0, 6144] S1x512.size (by decide)).toLoadRect (harg9.unread x8)))) (k0_pay93 (F := Ideal) (kernelRun0_A.sl.v737 (F := Ideal) c arg1 harg1 arg2 harg2 arg3 harg3 arg4 harg4 arg5 harg5 arg6 harg6 arg20 arg21 arg22 x0 x1 x2 x3 x4 x5) (View.readAt (Elt Ideal) arg7.view (Rect.unit (s := S1920x7680) ![0, 6656] S1920x512.size (by decide)).toLoadRect (harg7.unread x6)) (kernelRun0_A.sl.v740 (F := Ideal) c arg1 harg1 arg2 harg2 arg3 harg3 arg4 harg4 arg5 harg5 arg6 harg6 arg20 arg21 arg22 x0 x1 x2 x3 x4 x5) (View.readAt (Elt Ideal) arg8.view (Rect.unit (s := S1x7680) ![0, 6656] S1x512.size (by decide)).toLoadRect (harg8.unread x7)) (View.readAt (Elt Ideal) arg9.view (Rect.unit (s := S1x7680) ![0, 6656] S1x512.size (by decide)).toLoadRect (harg9.unread x8)))) (kernelRun0_A.sl.v737 (F := Ideal) c arg1 harg1 arg2 harg2 arg3 harg3 arg4 harg4 arg5 harg5 arg6 harg6 arg20 arg21 arg22 x0 x1 x2 x3 x4 x5) (View.readAt (Elt Ideal) arg7.view (Rect.unit (s := S1920x7680) ![0, 7168] S1920x512.size (by decide)).toLoadRect (harg7.unread x6)) (kernelRun0_A.sl.v740 (F := Ideal) c arg1 harg1 arg2 harg2 arg3 harg3 arg4 harg4 arg5 harg5 arg6 harg6 arg20 arg21 arg22 x0 x1 x2 x3 x4 x5) (View.readAt (Elt Ideal) arg8.view (Rect.unit (s := S1x7680) ![0, 7168] S1x512.size (by decide)).toLoadRect (harg8.unread x7)) (View.readAt (Elt Ideal) arg9.view (Rect.unit (s := S1x7680) ![0, 7168] S1x512.size (by decide)).toLoadRect (harg9.unread x8)) := ⟨rfl, rfl⟩

/-- The hidden scale of each token. -/
theorem hidden_scale (p : Fin 10) (r : Fin 16) (z : Fin 1) :
    (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) (ix3 p r z) = Row.scale fun k => (hiddenB x0 x1 x2 x3 x4 x5 x6 x7 x8) (ix2 (⟨p * 16 + r, by omega⟩ : Fin 160) k) := by
  have e : (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) = k0_pay150 (F := Ideal) (kernelRun0_A.sl.r_50 (F := Ideal) c arg1 harg1 arg2 harg2 arg3 harg3 arg4 harg4 arg5 harg5 arg6 harg6 arg7 harg7 arg8 harg8 arg9 harg9 arg20 arg21 arg22 x0 x1 x2 x3 x4 x5 x6 x7 x8) (kernelRun0_A.sl.r_51 (F := Ideal) c arg1 harg1 arg2 harg2 arg3 harg3 arg4 harg4 arg5 harg5 arg6 harg6 arg7 harg7 arg8 harg8 arg9 harg9 arg20 arg21 arg22 x0 x1 x2 x3 x4 x5 x6 x7 x8) (Scalar.ofBits .f32 0x3F800000#32) := rfl
  rw [e, lanes_word.1, lanes_word.2, hidden_scale_at, (lanes_15 _).amax]
  rfl

end Cert.FfnIdeal.Value
-- ==== Proof.Scales.lean ====
module

public import proofs.«01_k».proof.Proof.Hidden
public import Idealize.ShloMosaic.Lib.Pipeline.ValueKit
public import Idealize.ShloMosaic.Lib.Pipeline.ReadBack
public import Idealize.ShloMosaic.Lib.Pointwise

/-!
# The tables of scales

Each point of the grid writes its ten columns of each table of scales and keeps every other column as it finds it.
-/

set_option maxRecDepth 65536

@[expose] public section

noncomputable section

open Idealize.ShloMosaic Idealize.ShloMosaic.TcCoe Idealize.SL.Sem

namespace Cert.FfnIdeal.Value

open Cert.FfnIdeal Cert.FfnIdeal.Gen

/-- `X` is the table `old` with the `n` columns from column `10·a` on replaced by `f`. -/
def Upto (n a : ℕ) (f : Fin 10 → Fin 16 → EReal) (old X : FVec Ideal S16x100 .f32) : Prop :=
  ∀ (r : Fin 16) (l : Fin 100), (∀ p : Fin 10, p.val < n → l.val = 10 * a + p → X (ix2 r l) = f p r)
    ∧ ((l.val < 10 * a ∨ 10 * a + n ≤ l.val) → X (ix2 r l) = old (ix2 r l))

theorem Upto.nil {a : ℕ} {f : Fin 10 → Fin 16 → EReal} {old X : FVec Ideal S16x100 .f32} (h : X = old) : Upto 0 a f old X :=
  fun _ _ => ⟨fun _ hp => absurd hp (Nat.not_lt_zero _), fun _ => h ▸ rfl⟩

/-- Writing one column: where the column number meets the lane number. -/
theorem column_at (w : BitVec 32) (s : FVec Ideal S1x16x1 .f32) (X : FVec Ideal S16x100 .f32) (r : Fin 16) (l : Fin 100) :
    k0_pay156 (F := Ideal) w s X (ix2 r l) = if BitVec.ofNat 32 l = w then s (ix3 0 r 0) else X (ix2 r l) := by
  pointwise [k0_pay156]
  by_cases h : BitVec.ofNat 32 l.val = w
  · simp [Scalar.select, IntOp.cmpi, h]
  · rw [if_neg h]
    simp only [Scalar.select, IntOp.cmpi, beq_eq_false_iff_ne.2 h]
    rfl

theorem Upto.store {n a : ℕ} {f : Fin 10 → Fin 16 → EReal} {old X : FVec Ideal S16x100 .f32} (h : Upto n a f old X) (ha : a < 10) (hn : n < 10)
    (w : BitVec 32) (hw : w = BitVec.ofNat 32 (10 * a + n)) (s : FVec Ideal S1x16x1 .f32) (hs : ∀ r : Fin 16, s (ix3 0 r 0) = f ⟨n, hn⟩ r) :
    Upto (n + 1) a f old (k0_pay156 (F := Ideal) w s X) := by
  intro r l
  have hc : (BitVec.ofNat 32 l.val = w) ↔ l.val = 10 * a + n := by
    subst hw
    constructor
    · intro e
      have := congrArg BitVec.toNat e
      simp only [BitVec.toNat_ofNat] at this
      omega
    · intro e; rw [e]
  obtain ⟨h1, h2⟩ := h r l
  rw [column_at]
  refine ⟨fun p hp hl => ?_, fun hl => ?_⟩
  · by_cases hpn : p.val = n
    · rw [if_pos (hc.2 (by omega)), hs]
      exact congrArg (fun p => f p r) (Fin.ext hpn.symm)
    · rw [if_neg (fun e => by have := hc.1 e; omega)]
      exact h1 p (by omega) hl
  · rw [if_neg (fun e => by have := hc.1 e; omega)]
    exact h2 (by omega)

/-- Reading the table back after a store. -/
theorem Upto.load {n a : ℕ} {f : Fin 10 → Fin 16 → EReal} {old W : FVec Ideal S16x100 .f32} (h : Upto n a f old W)
    {M : Memref sig .tc .vmem S16x100 .f32} {W' : FVec Ideal S16x100 .f32} {L : List (View.Piece (Elt Ideal) S16x100 .f32)} {inb inb'} (hW : W' = W) :
    Upto n a f old (M.view.readCov (⟨Rect.unit (s := S16x100) ![0, 0] S16x100.size inb, W'⟩ :: L) (Rect.unit (s := S16x100) ![0, 0] S16x100.size inb').toLoadRect) := by
  subst hW
  exact (View.readCov_cons_unit_lit' M.view inb inb' W' L (by decide) (by decide)).symm ▸ h

/-- What the stores leave in the table. -/
theorem Upto.out {n a : ℕ} {f : Fin 10 → Fin 16 → EReal} {old W : FVec Ideal S16x100 .f32} (h : Upto n a f old W)
    {v : View sig .tc .vmem S16x100 .f32} {W' : FVec Ideal S16x100 .f32} {L : List (View.Piece (Elt Ideal) S16x100 .f32)} {inb} (hW : W' = W) :
    Upto n a f old (v.read (Elt Ideal) (v.writes (Elt Ideal) v.junk (⟨Rect.unit (s := S16x100) ![0, 0] S16x100.size inb, W'⟩ :: L))) := by
  subst hW
  rw [View.read_writes_junk_eq_canon]
  exact (View.canon_cons_unit_lit' inb W' L (by decide)).symm ▸ h

theorem word2 (a o d : ℕ) : Scalar.addi (Scalar.addi (Scalar.muli (BitVec.ofNat 32 a) (BitVec.ofNat 32 10)) (BitVec.ofNat 32 o)) (BitVec.ofNat 32 d)
    = BitVec.ofNat 32 (10 * a + (o + d)) := by
  simp only [Scalar.addi, Scalar.muli, IntOp.addi, IntOp.muli, ← BitVec.ofNat_add, ← BitVec.ofNat_mul]
  congr 1; omega

theorem word1 (a d : ℕ) : Scalar.addi (Scalar.muli (BitVec.ofNat 32 a) (BitVec.ofNat 32 10)) (BitVec.ofNat 32 d) = BitVec.ofNat 32 (10 * a + d) := by
  simp only [Scalar.addi, Scalar.muli, IntOp.addi, IntOp.muli, ← BitVec.ofNat_add, ← BitVec.ofNat_mul]
  congr 1; omega

theorem Chunk.row0 {o : ℕ} {B : FVec Ideal S10x16x1920 .f32} {X : FVec Ideal S2x16x1920 .f32} (h : Chunk o B X) (ho : o < 10) (r : Fin 16) :
    extractStridedSlice S1x16x1 ![0, 0, 0] (k0_pay5 (F := Ideal) X) slices_S2x16x1_o0_0_0_S1x16x1 (ix3 0 r 0) = Row.scale fun k => B (ix3 ⟨o, ho⟩ r k) := by
  pointwise [chunk_scale]
  exact congrArg Row.scale (funext fun k => h 0 r k ho)

theorem Chunk.row1 {o : ℕ} {B : FVec Ideal S10x16x1920 .f32} {X : FVec Ideal S2x16x1920 .f32} (h : Chunk o B X) (ho : o + 1 < 10) (r : Fin 16) :
    extractStridedSlice S1x16x1 ![1, 0, 0] (k0_pay5 (F := Ideal) X) slices_S2x16x1_o1_0_0_S1x16x1 (ix3 0 r 0) = Row.scale fun k => B (ix3 ⟨o + 1, ho⟩ r k) := by
  pointwise [chunk_scale]
  exact congrArg Row.scale (funext fun k => h 1 r k ho)

/-- The scales of the rows of a block. -/
def rowScales (B : S10x16x1920.Idx → EReal) (p : Fin 10) (r : Fin 16) : EReal := Row.scale fun k => B (ix3 p r k)

/-- The scales of the rows of a block of hidden activations. -/
def hiddenScales (B : S160x7680.Idx → EReal) (p : Fin 10) (r : Fin 16) : EReal :=
  Row.scale fun k => B (ix2 (⟨p * 16 + r, by omega⟩ : Fin 160) k)

theorem slice10_0 (v : FVec Ideal S10x16x1 .f32) (r : Fin 16) :
    extractStridedSlice S1x16x1 ![0, 0, 0] v slices_S10x16x1_o0_0_0_S1x16x1 (ix3 0 r 0) = v (ix3 ⟨0, by decide⟩ r 0) := by
  pointwise

theorem slice10_1 (v : FVec Ideal S10x16x1 .f32) (r : Fin 16) :
    extractStridedSlice S1x16x1 ![1, 0, 0] v slices_S10x16x1_o1_0_0_S1x16x1 (ix3 0 r 0) = v (ix3 ⟨1, by decide⟩ r 0) := by
  pointwise

theorem slice10_2 (v : FVec Ideal S10x16x1 .f32) (r : Fin 16) :
    extractStridedSlice S1x16x1 ![2, 0, 0] v slices_S10x16x1_o2_0_0_S1x16x1 (ix3 0 r 0) = v (ix3 ⟨2, by decide⟩ r 0) := by
  pointwise

theorem slice10_3 (v : FVec Ideal S10x16x1 .f32) (r : Fin 16) :
    extractStridedSlice S1x16x1 ![3, 0, 0] v slices_S10x16x1_o3_0_0_S1x16x1 (ix3 0 r 0) = v (ix3 ⟨3, by decide⟩ r 0) := by
  pointwise

theorem slice10_4 (v : FVec Ideal S10x16x1 .f32) (r : Fin 16) :
    extractStridedSlice S1x16x1 ![4, 0, 0] v slices_S10x16x1_o4_0_0_S1x16x1 (ix3 0 r 0) = v (ix3 ⟨4, by decide⟩ r 0) := by
  pointwise

theorem slice10_5 (v : FVec Ideal S10x16x1 .f32) (r : Fin 16) :
    extractStridedSlice S1x16x1 ![5, 0, 0] v slices_S10x16x1_o5_0_0_S1x16x1 (ix3 0 r 0) = v (ix3 ⟨5, by decide⟩ r 0) := by
  pointwise

theorem slice10_6 (v : FVec Ideal S10x16x1 .f32) (r : Fin 16) :
    extractStridedSlice S1x16x1 ![6, 0, 0] v slices_S10x16x1_o6_0_0_S1x16x1 (ix3 0 r 0) = v (ix3 ⟨6, by decide⟩ r 0) := by
  pointwise

theorem slice10_7 (v : FVec Ideal S10x16x1 .f32) (r : Fin 16) :
    extractStridedSlice S1x16x1 ![7, 0, 0] v slices_S10x16x1_o7_0_0_S1x16x1 (ix3 0 r 0) = v (ix3 ⟨7, by decide⟩ r 0) := by
  pointwise

theorem slice10_8 (v : FVec Ideal S10x16x1 .f32) (r : Fin 16) :
    extractStridedSlice S1x16x1 ![8, 0, 0] v slices_S10x16x1_o8_0_0_S1x16x1 (ix3 0 r 0) = v (ix3 ⟨8, by decide⟩ r 0) := by
  pointwise

theorem slice10_9 (v : FVec Ideal S10x16x1 .f32) (r : Fin 16) :
    extractStridedSlice S1x16x1 ![9, 0, 0] v slices_S10x16x1_o9_0_0_S1x16x1 (ix3 0 r 0) = v (ix3 ⟨9, by decide⟩ r 0) := by
  pointwise

variable {i : grid0.Coords}
variable {c : Dev nD} {arg1 : Memref sig .tc .vmem S10x16x1920 .f32} {harg1 : arg1.IsWhole} {arg2 : Memref sig .tc
  .vmem S10x16x1920 .bf16} {harg2 : arg2.IsWhole} {arg3 : Memref sig .tc .vmem S6x16x1920 .f32} {harg3 : arg3.IsWhole}
  {arg4 : Memref sig .tc .vmem S1920x1920 .fp8e4m3} {harg4 : arg4.IsWhole} {arg5 : Memref sig .tc .vmem S1x1920 .f32}
  {harg5 : arg5.IsWhole} {arg6 : Memref sig .tc .vmem S1x1920 .f32} {harg6 : arg6.IsWhole} {arg7 : Memref sig .tc
  .vmem S1920x7680 .fp8e4m3} {harg7 : arg7.IsWhole} {arg8 : Memref sig .tc .vmem S1x7680 .f32} {harg8 : arg8.IsWhole}
  {arg9 : Memref sig .tc .vmem S1x7680 .f32} {harg9 : arg9.IsWhole} {arg10 : Memref sig .tc .vmem S7680x1920 .fp8e4m3}
  {harg10 : arg10.IsWhole} {arg11 : Memref sig .tc .vmem S1x1920 .f32} {harg11 : arg11.IsWhole} {arg12 : Memref sig
  .tc .vmem S1x1920 .f32} {harg12 : arg12.IsWhole} {arg13 : Memref sig .tc .vmem S10x16x1920 .bf16} {harg13 :
  arg13.IsWhole} {arg14 : Memref sig .tc .vmem S10x16x1920 .fp8e4m3} {harg14 : arg14.IsWhole} {arg15 : Memref sig .tc
  .vmem S16x100 .f32} {harg15 : arg15.IsWhole} {arg16 : Memref sig .tc .vmem S10x16x1920 .fp8e4m3} {harg16 :
  arg16.IsWhole} {arg17 : Memref sig .tc .vmem S16x100 .f32} {harg17 : arg17.IsWhole} {arg18 : Memref sig .tc .vmem
  S10x16x7680 .fp8e4m3} {harg18 : arg18.IsWhole} {arg19 : Memref sig .tc .vmem S16x100 .f32} {harg19 : arg19.IsWhole}
  {arg20 : Memref sig .tc .vmem S160x1920 .fp8e4m3} {harg20 : arg20.IsWhole} {arg21 : Memref sig .tc .vmem S10x16x1920
  .f32} {harg21 : arg21.IsWhole} {arg22 : Memref sig .tc .vmem S160x128 .f32} {harg22 : arg22.IsWhole} {arg23 : Memref
  sig .tc .vmem S160x7680 .f32} {harg23 : arg23.IsWhole} {arg24 : Memref sig .tc .vmem S160x7680 .fp8e4m3} {harg24 :
  arg24.IsWhole} {x0 : FVec Ideal S10x16x1920 .f32} {x1 : FVec Ideal S10x16x1920 .bf16} {x2 : FVec Ideal S6x16x1920
  .f32} {x3 : FVec Ideal S1920x1920 .fp8e4m3} {x4 : FVec Ideal S1x1920 .f32} {x5 : FVec Ideal S1x1920 .f32} {x6 : FVec
  Ideal S1920x7680 .fp8e4m3} {x7 : FVec Ideal S1x7680 .f32} {x8 : FVec Ideal S1x7680 .f32} {x9 : FVec Ideal S7680x1920
  .fp8e4m3} {x10 : FVec Ideal S1x1920 .f32} {x11 : FVec Ideal S1x1920 .f32} {xo14 : FVec Ideal S16x100 .f32} {xo16 :
  FVec Ideal S16x100 .f32} {xo18 : FVec Ideal S16x100 .f32}

theorem row14_0 (r : Fin 16) : extractStridedSlice S1x16x1 ![0, 0, 0] (k0_pay5 (F := Ideal) (View.readAt (Elt Ideal) arg1.view (Rect.unit (s := S10x16x1920) ![0, 0, 0] S2x16x1920.size (by decide)).toLoadRect (harg1.unread x0))) slices_S2x16x1_o0_0_0_S1x16x1 (ix3 0 r 0) = (rowScales x0) ⟨0, by decide⟩ r :=
  Chunk.row0 (o := 0) (B := x0) (chunk_load 0 (by decide)) (by decide) r

theorem row14_1 (r : Fin 16) : extractStridedSlice S1x16x1 ![1, 0, 0] (k0_pay5 (F := Ideal) (View.readAt (Elt Ideal) arg1.view (Rect.unit (s := S10x16x1920) ![0, 0, 0] S2x16x1920.size (by decide)).toLoadRect (harg1.unread x0))) slices_S2x16x1_o1_0_0_S1x16x1 (ix3 0 r 0) = (rowScales x0) ⟨1, by decide⟩ r :=
  Chunk.row1 (o := 0) (B := x0) (chunk_load 0 (by decide)) (by decide) r

theorem row14_2 (r : Fin 16) : extractStridedSlice S1x16x1 ![0, 0, 0] (k0_pay5 (F := Ideal) (View.readAt (Elt Ideal) arg1.view (Rect.unit (s := S10x16x1920) ![2, 0, 0] S2x16x1920.size (by decide)).toLoadRect (harg1.unread x0))) slices_S2x16x1_o0_0_0_S1x16x1 (ix3 0 r 0) = (rowScales x0) ⟨2, by decide⟩ r :=
  Chunk.row0 (o := 2) (B := x0) (chunk_load 2 (by decide)) (by decide) r

theorem row14_3 (r : Fin 16) : extractStridedSlice S1x16x1 ![1, 0, 0] (k0_pay5 (F := Ideal) (View.readAt (Elt Ideal) arg1.view (Rect.unit (s := S10x16x1920) ![2, 0, 0] S2x16x1920.size (by decide)).toLoadRect (harg1.unread x0))) slices_S2x16x1_o1_0_0_S1x16x1 (ix3 0 r 0) = (rowScales x0) ⟨3, by decide⟩ r :=
  Chunk.row1 (o := 2) (B := x0) (chunk_load 2 (by decide)) (by decide) r

theorem row14_4 (r : Fin 16) : extractStridedSlice S1x16x1 ![0, 0, 0] (k0_pay5 (F := Ideal) (View.readAt (Elt Ideal) arg1.view (Rect.unit (s := S10x16x1920) ![4, 0, 0] S2x16x1920.size (by decide)).toLoadRect (harg1.unread x0))) slices_S2x16x1_o0_0_0_S1x16x1 (ix3 0 r 0) = (rowScales x0) ⟨4, by decide⟩ r :=
  Chunk.row0 (o := 4) (B := x0) (chunk_load 4 (by decide)) (by decide) r

theorem row14_5 (r : Fin 16) : extractStridedSlice S1x16x1 ![1, 0, 0] (k0_pay5 (F := Ideal) (View.readAt (Elt Ideal) arg1.view (Rect.unit (s := S10x16x1920) ![4, 0, 0] S2x16x1920.size (by decide)).toLoadRect (harg1.unread x0))) slices_S2x16x1_o1_0_0_S1x16x1 (ix3 0 r 0) = (rowScales x0) ⟨5, by decide⟩ r :=
  Chunk.row1 (o := 4) (B := x0) (chunk_load 4 (by decide)) (by decide) r

theorem row14_6 (r : Fin 16) : extractStridedSlice S1x16x1 ![0, 0, 0] (k0_pay5 (F := Ideal) (View.readAt (Elt Ideal) arg1.view (Rect.unit (s := S10x16x1920) ![6, 0, 0] S2x16x1920.size (by decide)).toLoadRect (harg1.unread x0))) slices_S2x16x1_o0_0_0_S1x16x1 (ix3 0 r 0) = (rowScales x0) ⟨6, by decide⟩ r :=
  Chunk.row0 (o := 6) (B := x0) (chunk_load 6 (by decide)) (by decide) r

theorem row14_7 (r : Fin 16) : extractStridedSlice S1x16x1 ![1, 0, 0] (k0_pay5 (F := Ideal) (View.readAt (Elt Ideal) arg1.view (Rect.unit (s := S10x16x1920) ![6, 0, 0] S2x16x1920.size (by decide)).toLoadRect (harg1.unread x0))) slices_S2x16x1_o1_0_0_S1x16x1 (ix3 0 r 0) = (rowScales x0) ⟨7, by decide⟩ r :=
  Chunk.row1 (o := 6) (B := x0) (chunk_load 6 (by decide)) (by decide) r

theorem row14_8 (r : Fin 16) : extractStridedSlice S1x16x1 ![0, 0, 0] (k0_pay5 (F := Ideal) (View.readAt (Elt Ideal) arg1.view (Rect.unit (s := S10x16x1920) ![8, 0, 0] S2x16x1920.size (by decide)).toLoadRect (harg1.unread x0))) slices_S2x16x1_o0_0_0_S1x16x1 (ix3 0 r 0) = (rowScales x0) ⟨8, by decide⟩ r :=
  Chunk.row0 (o := 8) (B := x0) (chunk_load 8 (by decide)) (by decide) r

theorem row14_9 (r : Fin 16) : extractStridedSlice S1x16x1 ![1, 0, 0] (k0_pay5 (F := Ideal) (View.readAt (Elt Ideal) arg1.view (Rect.unit (s := S10x16x1920) ![8, 0, 0] S2x16x1920.size (by decide)).toLoadRect (harg1.unread x0))) slices_S2x16x1_o1_0_0_S1x16x1 (ix3 0 r 0) = (rowScales x0) ⟨9, by decide⟩ r :=
  Chunk.row1 (o := 8) (B := x0) (chunk_load 8 (by decide)) (by decide) r

theorem row16_0 (r : Fin 16) : extractStridedSlice S1x16x1 ![0, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v326 (F := Ideal) c arg1 harg1 arg2 harg2 arg3 harg3 arg4 harg4 arg5 harg5 arg6 harg6 arg20 arg21 arg22 x0 x1 x2 x3 x4 x5))) slices_S2x16x1_o0_0_0_S1x16x1 (ix3 0 r 0) = (rowScales (normB x0 x1 x2 x3 x4 x5)) ⟨0, by decide⟩ r :=
  Chunk.row0 (o := 0) (B := normB x0 x1 x2 x3 x4 x5) (chunk_norm (chunk_mid 0 (by decide)) (by decide)) (by decide) r

theorem row16_1 (r : Fin 16) : extractStridedSlice S1x16x1 ![1, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v326 (F := Ideal) c arg1 harg1 arg2 harg2 arg3 harg3 arg4 harg4 arg5 harg5 arg6 harg6 arg20 arg21 arg22 x0 x1 x2 x3 x4 x5))) slices_S2x16x1_o1_0_0_S1x16x1 (ix3 0 r 0) = (rowScales (normB x0 x1 x2 x3 x4 x5)) ⟨1, by decide⟩ r :=
  Chunk.row1 (o := 0) (B := normB x0 x1 x2 x3 x4 x5) (chunk_norm (chunk_mid 0 (by decide)) (by decide)) (by decide) r

theorem row16_2 (r : Fin 16) : extractStridedSlice S1x16x1 ![0, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v408 (F := Ideal) c arg1 harg1 arg2 harg2 arg3 harg3 arg4 harg4 arg5 harg5 arg6 harg6 arg20 arg21 arg22 x0 x1 x2 x3 x4 x5))) slices_S2x16x1_o0_0_0_S1x16x1 (ix3 0 r 0) = (rowScales (normB x0 x1 x2 x3 x4 x5)) ⟨2, by decide⟩ r :=
  Chunk.row0 (o := 2) (B := normB x0 x1 x2 x3 x4 x5) (chunk_norm (chunk_mid 2 (by decide)) (by decide)) (by decide) r

theorem row16_3 (r : Fin 16) : extractStridedSlice S1x16x1 ![1, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v408 (F := Ideal) c arg1 harg1 arg2 harg2 arg3 harg3 arg4 harg4 arg5 harg5 arg6 harg6 arg20 arg21 arg22 x0 x1 x2 x3 x4 x5))) slices_S2x16x1_o1_0_0_S1x16x1 (ix3 0 r 0) = (rowScales (normB x0 x1 x2 x3 x4 x5)) ⟨3, by decide⟩ r :=
  Chunk.row1 (o := 2) (B := normB x0 x1 x2 x3 x4 x5) (chunk_norm (chunk_mid 2 (by decide)) (by decide)) (by decide) r

theorem row16_4 (r : Fin 16) : extractStridedSlice S1x16x1 ![0, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v490 (F := Ideal) c arg1 harg1 arg2 harg2 arg3 harg3 arg4 harg4 arg5 harg5 arg6 harg6 arg20 arg21 arg22 x0 x1 x2 x3 x4 x5))) slices_S2x16x1_o0_0_0_S1x16x1 (ix3 0 r 0) = (rowScales (normB x0 x1 x2 x3 x4 x5)) ⟨4, by decide⟩ r :=
  Chunk.row0 (o := 4) (B := normB x0 x1 x2 x3 x4 x5) (chunk_norm (chunk_mid 4 (by decide)) (by decide)) (by decide) r

theorem row16_5 (r : Fin 16) : extractStridedSlice S1x16x1 ![1, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v490 (F := Ideal) c arg1 harg1 arg2 harg2 arg3 harg3 arg4 harg4 arg5 harg5 arg6 harg6 arg20 arg21 arg22 x0 x1 x2 x3 x4 x5))) slices_S2x16x1_o1_0_0_S1x16x1 (ix3 0 r 0) = (rowScales (normB x0 x1 x2 x3 x4 x5)) ⟨5, by decide⟩ r :=
  Chunk.row1 (o := 4) (B := normB x0 x1 x2 x3 x4 x5) (chunk_norm (chunk_mid 4 (by decide)) (by decide)) (by decide) r

theorem row16_6 (r : Fin 16) : extractStridedSlice S1x16x1 ![0, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v572 (F := Ideal) c arg1 harg1 arg2 harg2 arg3 harg3 arg4 harg4 arg5 harg5 arg6 harg6 arg20 arg21 arg22 x0 x1 x2 x3 x4 x5))) slices_S2x16x1_o0_0_0_S1x16x1 (ix3 0 r 0) = (rowScales (normB x0 x1 x2 x3 x4 x5)) ⟨6, by decide⟩ r :=
  Chunk.row0 (o := 6) (B := normB x0 x1 x2 x3 x4 x5) (chunk_norm (chunk_mid 6 (by decide)) (by decide)) (by decide) r

theorem row16_7 (r : Fin 16) : extractStridedSlice S1x16x1 ![1, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v572 (F := Ideal) c arg1 harg1 arg2 harg2 arg3 harg3 arg4 harg4 arg5 harg5 arg6 harg6 arg20 arg21 arg22 x0 x1 x2 x3 x4 x5))) slices_S2x16x1_o1_0_0_S1x16x1 (ix3 0 r 0) = (rowScales (normB x0 x1 x2 x3 x4 x5)) ⟨7, by decide⟩ r :=
  Chunk.row1 (o := 6) (B := normB x0 x1 x2 x3 x4 x5) (chunk_norm (chunk_mid 6 (by decide)) (by decide)) (by decide) r

theorem row16_8 (r : Fin 16) : extractStridedSlice S1x16x1 ![0, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v654 (F := Ideal) c arg1 harg1 arg2 harg2 arg3 harg3 arg4 harg4 arg5 harg5 arg6 harg6 arg20 arg21 arg22 x0 x1 x2 x3 x4 x5))) slices_S2x16x1_o0_0_0_S1x16x1 (ix3 0 r 0) = (rowScales (normB x0 x1 x2 x3 x4 x5)) ⟨8, by decide⟩ r :=
  Chunk.row0 (o := 8) (B := normB x0 x1 x2 x3 x4 x5) (chunk_norm (chunk_mid 8 (by decide)) (by decide)) (by decide) r

theorem row16_9 (r : Fin 16) : extractStridedSlice S1x16x1 ![1, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v654 (F := Ideal) c arg1 harg1 arg2 harg2 arg3 harg3 arg4 harg4 arg5 harg5 arg6 harg6 arg20 arg21 arg22 x0 x1 x2 x3 x4 x5))) slices_S2x16x1_o1_0_0_S1x16x1 (ix3 0 r 0) = (rowScales (normB x0 x1 x2 x3 x4 x5)) ⟨9, by decide⟩ r :=
  Chunk.row1 (o := 8) (B := normB x0 x1 x2 x3 x4 x5) (chunk_norm (chunk_mid 8 (by decide)) (by decide)) (by decide) r

theorem row18_0 (r : Fin 16) : extractStridedSlice S1x16x1 ![0, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o0_0_0_S1x16x1 (ix3 0 r 0) = (hiddenScales (hiddenB x0 x1 x2 x3 x4 x5 x6 x7 x8)) ⟨0, by decide⟩ r :=
  (slice10_0 _ r).trans (hidden_scale ⟨0, by decide⟩ r 0)

theorem row18_1 (r : Fin 16) : extractStridedSlice S1x16x1 ![1, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o1_0_0_S1x16x1 (ix3 0 r 0) = (hiddenScales (hiddenB x0 x1 x2 x3 x4 x5 x6 x7 x8)) ⟨1, by decide⟩ r :=
  (slice10_1 _ r).trans (hidden_scale ⟨1, by decide⟩ r 0)

theorem row18_2 (r : Fin 16) : extractStridedSlice S1x16x1 ![2, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o2_0_0_S1x16x1 (ix3 0 r 0) = (hiddenScales (hiddenB x0 x1 x2 x3 x4 x5 x6 x7 x8)) ⟨2, by decide⟩ r :=
  (slice10_2 _ r).trans (hidden_scale ⟨2, by decide⟩ r 0)

theorem row18_3 (r : Fin 16) : extractStridedSlice S1x16x1 ![3, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o3_0_0_S1x16x1 (ix3 0 r 0) = (hiddenScales (hiddenB x0 x1 x2 x3 x4 x5 x6 x7 x8)) ⟨3, by decide⟩ r :=
  (slice10_3 _ r).trans (hidden_scale ⟨3, by decide⟩ r 0)

theorem row18_4 (r : Fin 16) : extractStridedSlice S1x16x1 ![4, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o4_0_0_S1x16x1 (ix3 0 r 0) = (hiddenScales (hiddenB x0 x1 x2 x3 x4 x5 x6 x7 x8)) ⟨4, by decide⟩ r :=
  (slice10_4 _ r).trans (hidden_scale ⟨4, by decide⟩ r 0)

theorem row18_5 (r : Fin 16) : extractStridedSlice S1x16x1 ![5, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o5_0_0_S1x16x1 (ix3 0 r 0) = (hiddenScales (hiddenB x0 x1 x2 x3 x4 x5 x6 x7 x8)) ⟨5, by decide⟩ r :=
  (slice10_5 _ r).trans (hidden_scale ⟨5, by decide⟩ r 0)

theorem row18_6 (r : Fin 16) : extractStridedSlice S1x16x1 ![6, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o6_0_0_S1x16x1 (ix3 0 r 0) = (hiddenScales (hiddenB x0 x1 x2 x3 x4 x5 x6 x7 x8)) ⟨6, by decide⟩ r :=
  (slice10_6 _ r).trans (hidden_scale ⟨6, by decide⟩ r 0)

theorem row18_7 (r : Fin 16) : extractStridedSlice S1x16x1 ![7, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o7_0_0_S1x16x1 (ix3 0 r 0) = (hiddenScales (hiddenB x0 x1 x2 x3 x4 x5 x6 x7 x8)) ⟨7, by decide⟩ r :=
  (slice10_7 _ r).trans (hidden_scale ⟨7, by decide⟩ r 0)

theorem row18_8 (r : Fin 16) : extractStridedSlice S1x16x1 ![8, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o8_0_0_S1x16x1 (ix3 0 r 0) = (hiddenScales (hiddenB x0 x1 x2 x3 x4 x5 x6 x7 x8)) ⟨8, by decide⟩ r :=
  (slice10_8 _ r).trans (hidden_scale ⟨8, by decide⟩ r 0)

theorem row18_9 (r : Fin 16) : extractStridedSlice S1x16x1 ![9, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o9_0_0_S1x16x1 (ix3 0 r 0) = (hiddenScales (hiddenB x0 x1 x2 x3 x4 x5 x6 x7 x8)) ⟨9, by decide⟩ r :=
  (slice10_9 _ r).trans (hidden_scale ⟨9, by decide⟩ r 0)

/-- The table of scales of the attention rows after one point, at the first. -/
theorem table14_A (hc0 : cond0_0 i) (hi : (i 0).val < 10) :
    Upto 10 (i 0).val (rowScales x0) (k0_pay2 (F := Ideal)) (out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11) := by
  have h0 : Upto 0 (i 0).val (rowScales x0) (k0_pay2 (F := Ideal)) (kernelRun0_A.sl.v41 (F := Ideal) c arg15) :=
    Upto.load (Upto.nil rfl) rfl
  have h1 : Upto 1 (i 0).val (rowScales x0) (k0_pay2 (F := Ideal)) (kernelRun0_A.sl.v55 (F := Ideal) c i arg1 harg1 arg15 x0) :=
    by
    have a := h0.store hi (by decide) (Scalar.addi (Scalar.addi (Scalar.muli (BitVec.ofNat 32 (i 0).val) (BitVec.ofNat 32 10)) (BitVec.ofNat 32 0)) (BitVec.ofNat 32 0)) (word2 _ _ _) (extractStridedSlice S1x16x1 ![0, 0, 0] (k0_pay5 (F := Ideal) (View.readAt (Elt Ideal) arg1.view (Rect.unit (s := S10x16x1920) ![0, 0, 0] S2x16x1920.size (by decide)).toLoadRect (harg1.unread x0))) slices_S2x16x1_o0_0_0_S1x16x1)
    have a := a row14_0
    refine Upto.load a ?_
    rfl
  have h2 : Upto 2 (i 0).val (rowScales x0) (k0_pay2 (F := Ideal)) (kernelRun0_A.sl.v99 (F := Ideal) c i arg1 harg1 arg15 x0) :=
    by
    have a := h1.store hi (by decide) (Scalar.addi (Scalar.addi (Scalar.muli (BitVec.ofNat 32 (i 0).val) (BitVec.ofNat 32 10)) (BitVec.ofNat 32 0)) (BitVec.ofNat 32 1)) (word2 _ _ _) (extractStridedSlice S1x16x1 ![1, 0, 0] (k0_pay5 (F := Ideal) (View.readAt (Elt Ideal) arg1.view (Rect.unit (s := S10x16x1920) ![0, 0, 0] S2x16x1920.size (by decide)).toLoadRect (harg1.unread x0))) slices_S2x16x1_o1_0_0_S1x16x1)
    have a := a row14_1
    refine Upto.load a ?_
    rfl
  have h3 : Upto 3 (i 0).val (rowScales x0) (k0_pay2 (F := Ideal)) (kernelRun0_A.sl.v113 (F := Ideal) c i arg1 harg1 arg15 x0) :=
    by
    have a := h2.store hi (by decide) (Scalar.addi (Scalar.addi (Scalar.muli (BitVec.ofNat 32 (i 0).val) (BitVec.ofNat 32 10)) (BitVec.ofNat 32 2)) (BitVec.ofNat 32 0)) (word2 _ _ _) (extractStridedSlice S1x16x1 ![0, 0, 0] (k0_pay5 (F := Ideal) (View.readAt (Elt Ideal) arg1.view (Rect.unit (s := S10x16x1920) ![2, 0, 0] S2x16x1920.size (by decide)).toLoadRect (harg1.unread x0))) slices_S2x16x1_o0_0_0_S1x16x1)
    have a := a row14_2
    refine Upto.load a ?_
    rfl
  have h4 : Upto 4 (i 0).val (rowScales x0) (k0_pay2 (F := Ideal)) (kernelRun0_A.sl.v157 (F := Ideal) c i arg1 harg1 arg15 x0) :=
    by
    have a := h3.store hi (by decide) (Scalar.addi (Scalar.addi (Scalar.muli (BitVec.ofNat 32 (i 0).val) (BitVec.ofNat 32 10)) (BitVec.ofNat 32 2)) (BitVec.ofNat 32 1)) (word2 _ _ _) (extractStridedSlice S1x16x1 ![1, 0, 0] (k0_pay5 (F := Ideal) (View.readAt (Elt Ideal) arg1.view (Rect.unit (s := S10x16x1920) ![2, 0, 0] S2x16x1920.size (by decide)).toLoadRect (harg1.unread x0))) slices_S2x16x1_o1_0_0_S1x16x1)
    have a := a row14_3
    refine Upto.load a ?_
    rfl
  have h5 : Upto 5 (i 0).val (rowScales x0) (k0_pay2 (F := Ideal)) (kernelRun0_A.sl.v171 (F := Ideal) c i arg1 harg1 arg15 x0) :=
    by
    have a := h4.store hi (by decide) (Scalar.addi (Scalar.addi (Scalar.muli (BitVec.ofNat 32 (i 0).val) (BitVec.ofNat 32 10)) (BitVec.ofNat 32 4)) (BitVec.ofNat 32 0)) (word2 _ _ _) (extractStridedSlice S1x16x1 ![0, 0, 0] (k0_pay5 (F := Ideal) (View.readAt (Elt Ideal) arg1.view (Rect.unit (s := S10x16x1920) ![4, 0, 0] S2x16x1920.size (by decide)).toLoadRect (harg1.unread x0))) slices_S2x16x1_o0_0_0_S1x16x1)
    have a := a row14_4
    refine Upto.load a ?_
    rfl
  have h6 : Upto 6 (i 0).val (rowScales x0) (k0_pay2 (F := Ideal)) (kernelRun0_A.sl.v215 (F := Ideal) c i arg1 harg1 arg15 x0) :=
    by
    have a := h5.store hi (by decide) (Scalar.addi (Scalar.addi (Scalar.muli (BitVec.ofNat 32 (i 0).val) (BitVec.ofNat 32 10)) (BitVec.ofNat 32 4)) (BitVec.ofNat 32 1)) (word2 _ _ _) (extractStridedSlice S1x16x1 ![1, 0, 0] (k0_pay5 (F := Ideal) (View.readAt (Elt Ideal) arg1.view (Rect.unit (s := S10x16x1920) ![4, 0, 0] S2x16x1920.size (by decide)).toLoadRect (harg1.unread x0))) slices_S2x16x1_o1_0_0_S1x16x1)
    have a := a row14_5
    refine Upto.load a ?_
    rfl
  have h7 : Upto 7 (i 0).val (rowScales x0) (k0_pay2 (F := Ideal)) (kernelRun0_A.sl.v229 (F := Ideal) c i arg1 harg1 arg15 x0) :=
    by
    have a := h6.store hi (by decide) (Scalar.addi (Scalar.addi (Scalar.muli (BitVec.ofNat 32 (i 0).val) (BitVec.ofNat 32 10)) (BitVec.ofNat 32 6)) (BitVec.ofNat 32 0)) (word2 _ _ _) (extractStridedSlice S1x16x1 ![0, 0, 0] (k0_pay5 (F := Ideal) (View.readAt (Elt Ideal) arg1.view (Rect.unit (s := S10x16x1920) ![6, 0, 0] S2x16x1920.size (by decide)).toLoadRect (harg1.unread x0))) slices_S2x16x1_o0_0_0_S1x16x1)
    have a := a row14_6
    refine Upto.load a ?_
    rfl
  have h8 : Upto 8 (i 0).val (rowScales x0) (k0_pay2 (F := Ideal)) (kernelRun0_A.sl.v273 (F := Ideal) c i arg1 harg1 arg15 x0) :=
    by
    have a := h7.store hi (by decide) (Scalar.addi (Scalar.addi (Scalar.muli (BitVec.ofNat 32 (i 0).val) (BitVec.ofNat 32 10)) (BitVec.ofNat 32 6)) (BitVec.ofNat 32 1)) (word2 _ _ _) (extractStridedSlice S1x16x1 ![1, 0, 0] (k0_pay5 (F := Ideal) (View.readAt (Elt Ideal) arg1.view (Rect.unit (s := S10x16x1920) ![6, 0, 0] S2x16x1920.size (by decide)).toLoadRect (harg1.unread x0))) slices_S2x16x1_o1_0_0_S1x16x1)
    have a := a row14_7
    refine Upto.load a ?_
    rfl
  have h9 : Upto 9 (i 0).val (rowScales x0) (k0_pay2 (F := Ideal)) (kernelRun0_A.sl.v287 (F := Ideal) c i arg1 harg1 arg15 x0) :=
    by
    have a := h8.store hi (by decide) (Scalar.addi (Scalar.addi (Scalar.muli (BitVec.ofNat 32 (i 0).val) (BitVec.ofNat 32 10)) (BitVec.ofNat 32 8)) (BitVec.ofNat 32 0)) (word2 _ _ _) (extractStridedSlice S1x16x1 ![0, 0, 0] (k0_pay5 (F := Ideal) (View.readAt (Elt Ideal) arg1.view (Rect.unit (s := S10x16x1920) ![8, 0, 0] S2x16x1920.size (by decide)).toLoadRect (harg1.unread x0))) slices_S2x16x1_o0_0_0_S1x16x1)
    have a := a row14_8
    refine Upto.load a ?_
    rfl
  have a := h9.store hi (by decide) (Scalar.addi (Scalar.addi (Scalar.muli (BitVec.ofNat 32 (i 0).val) (BitVec.ofNat 32 10)) (BitVec.ofNat 32 8)) (BitVec.ofNat 32 1)) (word2 _ _ _) (extractStridedSlice S1x16x1 ![1, 0, 0] (k0_pay5 (F := Ideal) (View.readAt (Elt Ideal) arg1.view (Rect.unit (s := S10x16x1920) ![8, 0, 0] S2x16x1920.size (by decide)).toLoadRect (harg1.unread x0))) slices_S2x16x1_o1_0_0_S1x16x1)
  have a := a row14_9
  refine Upto.out a ?_
  rfl

/-- The table of scales of the norm after one point, at the first. -/
theorem table16_A (hc0 : cond0_0 i) (hi : (i 0).val < 10) :
    Upto 10 (i 0).val (rowScales (normB x0 x1 x2 x3 x4 x5)) (k0_pay3 (F := Ideal)) (out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11) := by
  have h0 : Upto 0 (i 0).val (rowScales (normB x0 x1 x2 x3 x4 x5)) (k0_pay3 (F := Ideal)) (kernelRun0_A.sl.v388 (F := Ideal) c arg17) :=
    Upto.load (Upto.nil rfl) rfl
  have h1 : Upto 1 (i 0).val (rowScales (normB x0 x1 x2 x3 x4 x5)) (k0_pay3 (F := Ideal)) (kernelRun0_A.sl.v402 (F := Ideal) c i arg1 harg1 arg2 harg2 arg3 harg3 arg4 harg4 arg5 harg5 arg6 harg6 arg17 arg20 arg21 arg22 x0 x1 x2 x3 x4 x5) :=
    by
    have a := h0.store hi (by decide) (Scalar.addi (Scalar.addi (Scalar.muli (BitVec.ofNat 32 (i 0).val) (BitVec.ofNat 32 10)) (BitVec.ofNat 32 0)) (BitVec.ofNat 32 0)) (word2 _ _ _) (extractStridedSlice S1x16x1 ![0, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v326 (F := Ideal) c arg1 harg1 arg2 harg2 arg3 harg3 arg4 harg4 arg5 harg5 arg6 harg6 arg20 arg21 arg22 x0 x1 x2 x3 x4 x5))) slices_S2x16x1_o0_0_0_S1x16x1)
    have a := a row16_0
    refine Upto.load a ?_
    rfl
  have h2 : Upto 2 (i 0).val (rowScales (normB x0 x1 x2 x3 x4 x5)) (k0_pay3 (F := Ideal)) (kernelRun0_A.sl.v470 (F := Ideal) c i arg1 harg1 arg2 harg2 arg3 harg3 arg4 harg4 arg5 harg5 arg6 harg6 arg17 arg20 arg21 arg22 x0 x1 x2 x3 x4 x5) :=
    by
    have a := h1.store hi (by decide) (Scalar.addi (Scalar.addi (Scalar.muli (BitVec.ofNat 32 (i 0).val) (BitVec.ofNat 32 10)) (BitVec.ofNat 32 0)) (BitVec.ofNat 32 1)) (word2 _ _ _) (extractStridedSlice S1x16x1 ![1, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v326 (F := Ideal) c arg1 harg1 arg2 harg2 arg3 harg3 arg4 harg4 arg5 harg5 arg6 harg6 arg20 arg21 arg22 x0 x1 x2 x3 x4 x5))) slices_S2x16x1_o1_0_0_S1x16x1)
    have a := a row16_1
    refine Upto.load a ?_
    rfl
  have h3 : Upto 3 (i 0).val (rowScales (normB x0 x1 x2 x3 x4 x5)) (k0_pay3 (F := Ideal)) (kernelRun0_A.sl.v484 (F := Ideal) c i arg1 harg1 arg2 harg2 arg3 harg3 arg4 harg4 arg5 harg5 arg6 harg6 arg17 arg20 arg21 arg22 x0 x1 x2 x3 x4 x5) :=
    by
    have a := h2.store hi (by decide) (Scalar.addi (Scalar.addi (Scalar.muli (BitVec.ofNat 32 (i 0).val) (BitVec.ofNat 32 10)) (BitVec.ofNat 32 2)) (BitVec.ofNat 32 0)) (word2 _ _ _) (extractStridedSlice S1x16x1 ![0, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v408 (F := Ideal) c arg1 harg1 arg2 harg2 arg3 harg3 arg4 harg4 arg5 harg5 arg6 harg6 arg20 arg21 arg22 x0 x1 x2 x3 x4 x5))) slices_S2x16x1_o0_0_0_S1x16x1)
    have a := a row16_2
    refine Upto.load a ?_
    rfl
  have h4 : Upto 4 (i 0).val (rowScales (normB x0 x1 x2 x3 x4 x5)) (k0_pay3 (F := Ideal)) (kernelRun0_A.sl.v552 (F := Ideal) c i arg1 harg1 arg2 harg2 arg3 harg3 arg4 harg4 arg5 harg5 arg6 harg6 arg17 arg20 arg21 arg22 x0 x1 x2 x3 x4 x5) :=
    by
    have a := h3.store hi (by decide) (Scalar.addi (Scalar.addi (Scalar.muli (BitVec.ofNat 32 (i 0).val) (BitVec.ofNat 32 10)) (BitVec.ofNat 32 2)) (BitVec.ofNat 32 1)) (word2 _ _ _) (extractStridedSlice S1x16x1 ![1, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v408 (F := Ideal) c arg1 harg1 arg2 harg2 arg3 harg3 arg4 harg4 arg5 harg5 arg6 harg6 arg20 arg21 arg22 x0 x1 x2 x3 x4 x5))) slices_S2x16x1_o1_0_0_S1x16x1)
    have a := a row16_3
    refine Upto.load a ?_
    rfl
  have h5 : Upto 5 (i 0).val (rowScales (normB x0 x1 x2 x3 x4 x5)) (k0_pay3 (F := Ideal)) (kernelRun0_A.sl.v566 (F := Ideal) c i arg1 harg1 arg2 harg2 arg3 harg3 arg4 harg4 arg5 harg5 arg6 harg6 arg17 arg20 arg21 arg22 x0 x1 x2 x3 x4 x5) :=
    by
    have a := h4.store hi (by decide) (Scalar.addi (Scalar.addi (Scalar.muli (BitVec.ofNat 32 (i 0).val) (BitVec.ofNat 32 10)) (BitVec.ofNat 32 4)) (BitVec.ofNat 32 0)) (word2 _ _ _) (extractStridedSlice S1x16x1 ![0, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v490 (F := Ideal) c arg1 harg1 arg2 harg2 arg3 harg3 arg4 harg4 arg5 harg5 arg6 harg6 arg20 arg21 arg22 x0 x1 x2 x3 x4 x5))) slices_S2x16x1_o0_0_0_S1x16x1)
    have a := a row16_4
    refine Upto.load a ?_
    rfl
  have h6 : Upto 6 (i 0).val (rowScales (normB x0 x1 x2 x3 x4 x5)) (k0_pay3 (F := Ideal)) (kernelRun0_A.sl.v634 (F := Ideal) c i arg1 harg1 arg2 harg2 arg3 harg3 arg4 harg4 arg5 harg5 arg6 harg6 arg17 arg20 arg21 arg22 x0 x1 x2 x3 x4 x5) :=
    by
    have a := h5.store hi (by decide) (Scalar.addi (Scalar.addi (Scalar.muli (BitVec.ofNat 32 (i 0).val) (BitVec.ofNat 32 10)) (BitVec.ofNat 32 4)) (BitVec.ofNat 32 1)) (word2 _ _ _) (extractStridedSlice S1x16x1 ![1, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v490 (F := Ideal) c arg1 harg1 arg2 harg2 arg3 harg3 arg4 harg4 arg5 harg5 arg6 harg6 arg20 arg21 arg22 x0 x1 x2 x3 x4 x5))) slices_S2x16x1_o1_0_0_S1x16x1)
    have a := a row16_5
    refine Upto.load a ?_
    rfl
  have h7 : Upto 7 (i 0).val (rowScales (normB x0 x1 x2 x3 x4 x5)) (k0_pay3 (F := Ideal)) (kernelRun0_A.sl.v648 (F := Ideal) c i arg1 harg1 arg2 harg2 arg3 harg3 arg4 harg4 arg5 harg5 arg6 harg6 arg17 arg20 arg21 arg22 x0 x1 x2 x3 x4 x5) :=
    by
    have a := h6.store hi (by decide) (Scalar.addi (Scalar.addi (Scalar.muli (BitVec.ofNat 32 (i 0).val) (BitVec.ofNat 32 10)) (BitVec.ofNat 32 6)) (BitVec.ofNat 32 0)) (word2 _ _ _) (extractStridedSlice S1x16x1 ![0, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v572 (F := Ideal) c arg1 harg1 arg2 harg2 arg3 harg3 arg4 harg4 arg5 harg5 arg6 harg6 arg20 arg21 arg22 x0 x1 x2 x3 x4 x5))) slices_S2x16x1_o0_0_0_S1x16x1)
    have a := a row16_6
    refine Upto.load a ?_
    rfl
  have h8 : Upto 8 (i 0).val (rowScales (normB x0 x1 x2 x3 x4 x5)) (k0_pay3 (F := Ideal)) (kernelRun0_A.sl.v716 (F := Ideal) c i arg1 harg1 arg2 harg2 arg3 harg3 arg4 harg4 arg5 harg5 arg6 harg6 arg17 arg20 arg21 arg22 x0 x1 x2 x3 x4 x5) :=
    by
    have a := h7.store hi (by decide) (Scalar.addi (Scalar.addi (Scalar.muli (BitVec.ofNat 32 (i 0).val) (BitVec.ofNat 32 10)) (BitVec.ofNat 32 6)) (BitVec.ofNat 32 1)) (word2 _ _ _) (extractStridedSlice S1x16x1 ![1, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v572 (F := Ideal) c arg1 harg1 arg2 harg2 arg3 harg3 arg4 harg4 arg5 harg5 arg6 harg6 arg20 arg21 arg22 x0 x1 x2 x3 x4 x5))) slices_S2x16x1_o1_0_0_S1x16x1)
    have a := a row16_7
    refine Upto.load a ?_
    rfl
  have h9 : Upto 9 (i 0).val (rowScales (normB x0 x1 x2 x3 x4 x5)) (k0_pay3 (F := Ideal)) (kernelRun0_A.sl.v730 (F := Ideal) c i arg1 harg1 arg2 harg2 arg3 harg3 arg4 harg4 arg5 harg5 arg6 harg6 arg17 arg20 arg21 arg22 x0 x1 x2 x3 x4 x5) :=
    by
    have a := h8.store hi (by decide) (Scalar.addi (Scalar.addi (Scalar.muli (BitVec.ofNat 32 (i 0).val) (BitVec.ofNat 32 10)) (BitVec.ofNat 32 8)) (BitVec.ofNat 32 0)) (word2 _ _ _) (extractStridedSlice S1x16x1 ![0, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v654 (F := Ideal) c arg1 harg1 arg2 harg2 arg3 harg3 arg4 harg4 arg5 harg5 arg6 harg6 arg20 arg21 arg22 x0 x1 x2 x3 x4 x5))) slices_S2x16x1_o0_0_0_S1x16x1)
    have a := a row16_8
    refine Upto.load a ?_
    rfl
  have a := h9.store hi (by decide) (Scalar.addi (Scalar.addi (Scalar.muli (BitVec.ofNat 32 (i 0).val) (BitVec.ofNat 32 10)) (BitVec.ofNat 32 8)) (BitVec.ofNat 32 1)) (word2 _ _ _) (extractStridedSlice S1x16x1 ![1, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v654 (F := Ideal) c arg1 harg1 arg2 harg2 arg3 harg3 arg4 harg4 arg5 harg5 arg6 harg6 arg20 arg21 arg22 x0 x1 x2 x3 x4 x5))) slices_S2x16x1_o1_0_0_S1x16x1)
  have a := a row16_9
  refine Upto.out a ?_
  rfl

/-- The table of scales of the hidden activations after one point, at the first. -/
theorem table18_A (hc0 : cond0_0 i) (hi : (i 0).val < 10) :
    Upto 10 (i 0).val (hiddenScales (hiddenB x0 x1 x2 x3 x4 x5 x6 x7 x8)) (k0_pay4 (F := Ideal)) (out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11) := by
  have h0 : Upto 0 (i 0).val (hiddenScales (hiddenB x0 x1 x2 x3 x4 x5 x6 x7 x8)) (k0_pay4 (F := Ideal)) (kernelRun0_A.sl.v1316 (F := Ideal) c arg19) :=
    Upto.load (Upto.nil rfl) rfl
  have h1 : Upto 1 (i 0).val (hiddenScales (hiddenB x0 x1 x2 x3 x4 x5 x6 x7 x8)) (k0_pay4 (F := Ideal)) (kernelRun0_A.sl.v1329 (F := Ideal) c i arg1 harg1 arg2 harg2 arg3 harg3 arg4 harg4 arg5 harg5 arg6 harg6 arg7 harg7 arg8 harg8 arg9 harg9 arg19 arg20 arg21 arg22 x0 x1 x2 x3 x4 x5 x6 x7 x8) :=
    by
    have a := h0.store hi (by decide) (Scalar.addi (Scalar.muli (BitVec.ofNat 32 (i 0).val) (BitVec.ofNat 32 10)) (BitVec.ofNat 32 0)) (word1 _ _) (extractStridedSlice S1x16x1 ![0, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o0_0_0_S1x16x1)
    have a := a row18_0
    refine Upto.load a ?_
    rfl
  have h2 : Upto 2 (i 0).val (hiddenScales (hiddenB x0 x1 x2 x3 x4 x5 x6 x7 x8)) (k0_pay4 (F := Ideal)) (kernelRun0_A.sl.v1342 (F := Ideal) c i arg1 harg1 arg2 harg2 arg3 harg3 arg4 harg4 arg5 harg5 arg6 harg6 arg7 harg7 arg8 harg8 arg9 harg9 arg19 arg20 arg21 arg22 x0 x1 x2 x3 x4 x5 x6 x7 x8) :=
    by
    have a := h1.store hi (by decide) (Scalar.addi (Scalar.muli (BitVec.ofNat 32 (i 0).val) (BitVec.ofNat 32 10)) (BitVec.ofNat 32 1)) (word1 _ _) (extractStridedSlice S1x16x1 ![1, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o1_0_0_S1x16x1)
    have a := a row18_1
    refine Upto.load a ?_
    rfl
  have h3 : Upto 3 (i 0).val (hiddenScales (hiddenB x0 x1 x2 x3 x4 x5 x6 x7 x8)) (k0_pay4 (F := Ideal)) (kernelRun0_A.sl.v1355 (F := Ideal) c i arg1 harg1 arg2 harg2 arg3 harg3 arg4 harg4 arg5 harg5 arg6 harg6 arg7 harg7 arg8 harg8 arg9 harg9 arg19 arg20 arg21 arg22 x0 x1 x2 x3 x4 x5 x6 x7 x8) :=
    by
    have a := h2.store hi (by decide) (Scalar.addi (Scalar.muli (BitVec.ofNat 32 (i 0).val) (BitVec.ofNat 32 10)) (BitVec.ofNat 32 2)) (word1 _ _) (extractStridedSlice S1x16x1 ![2, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o2_0_0_S1x16x1)
    have a := a row18_2
    refine Upto.load a ?_
    rfl
  have h4 : Upto 4 (i 0).val (hiddenScales (hiddenB x0 x1 x2 x3 x4 x5 x6 x7 x8)) (k0_pay4 (F := Ideal)) (kernelRun0_A.sl.v1368 (F := Ideal) c i arg1 harg1 arg2 harg2 arg3 harg3 arg4 harg4 arg5 harg5 arg6 harg6 arg7 harg7 arg8 harg8 arg9 harg9 arg19 arg20 arg21 arg22 x0 x1 x2 x3 x4 x5 x6 x7 x8) :=
    by
    have a := h3.store hi (by decide) (Scalar.addi (Scalar.muli (BitVec.ofNat 32 (i 0).val) (BitVec.ofNat 32 10)) (BitVec.ofNat 32 3)) (word1 _ _) (extractStridedSlice S1x16x1 ![3, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o3_0_0_S1x16x1)
    have a := a row18_3
    refine Upto.load a ?_
    rfl
  have h5 : Upto 5 (i 0).val (hiddenScales (hiddenB x0 x1 x2 x3 x4 x5 x6 x7 x8)) (k0_pay4 (F := Ideal)) (kernelRun0_A.sl.v1381 (F := Ideal) c i arg1 harg1 arg2 harg2 arg3 harg3 arg4 harg4 arg5 harg5 arg6 harg6 arg7 harg7 arg8 harg8 arg9 harg9 arg19 arg20 arg21 arg22 x0 x1 x2 x3 x4 x5 x6 x7 x8) :=
    by
    have a := h4.store hi (by decide) (Scalar.addi (Scalar.muli (BitVec.ofNat 32 (i 0).val) (BitVec.ofNat 32 10)) (BitVec.ofNat 32 4)) (word1 _ _) (extractStridedSlice S1x16x1 ![4, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o4_0_0_S1x16x1)
    have a := a row18_4
    refine Upto.load a ?_
    rfl
  have h6 : Upto 6 (i 0).val (hiddenScales (hiddenB x0 x1 x2 x3 x4 x5 x6 x7 x8)) (k0_pay4 (F := Ideal)) (kernelRun0_A.sl.v1394 (F := Ideal) c i arg1 harg1 arg2 harg2 arg3 harg3 arg4 harg4 arg5 harg5 arg6 harg6 arg7 harg7 arg8 harg8 arg9 harg9 arg19 arg20 arg21 arg22 x0 x1 x2 x3 x4 x5 x6 x7 x8) :=
    by
    have a := h5.store hi (by decide) (Scalar.addi (Scalar.muli (BitVec.ofNat 32 (i 0).val) (BitVec.ofNat 32 10)) (BitVec.ofNat 32 5)) (word1 _ _) (extractStridedSlice S1x16x1 ![5, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o5_0_0_S1x16x1)
    have a := a row18_5
    refine Upto.load a ?_
    rfl
  have h7 : Upto 7 (i 0).val (hiddenScales (hiddenB x0 x1 x2 x3 x4 x5 x6 x7 x8)) (k0_pay4 (F := Ideal)) (kernelRun0_A.sl.v1407 (F := Ideal) c i arg1 harg1 arg2 harg2 arg3 harg3 arg4 harg4 arg5 harg5 arg6 harg6 arg7 harg7 arg8 harg8 arg9 harg9 arg19 arg20 arg21 arg22 x0 x1 x2 x3 x4 x5 x6 x7 x8) :=
    by
    have a := h6.store hi (by decide) (Scalar.addi (Scalar.muli (BitVec.ofNat 32 (i 0).val) (BitVec.ofNat 32 10)) (BitVec.ofNat 32 6)) (word1 _ _) (extractStridedSlice S1x16x1 ![6, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o6_0_0_S1x16x1)
    have a := a row18_6
    refine Upto.load a ?_
    rfl
  have h8 : Upto 8 (i 0).val (hiddenScales (hiddenB x0 x1 x2 x3 x4 x5 x6 x7 x8)) (k0_pay4 (F := Ideal)) (kernelRun0_A.sl.v1420 (F := Ideal) c i arg1 harg1 arg2 harg2 arg3 harg3 arg4 harg4 arg5 harg5 arg6 harg6 arg7 harg7 arg8 harg8 arg9 harg9 arg19 arg20 arg21 arg22 x0 x1 x2 x3 x4 x5 x6 x7 x8) :=
    by
    have a := h7.store hi (by decide) (Scalar.addi (Scalar.muli (BitVec.ofNat 32 (i 0).val) (BitVec.ofNat 32 10)) (BitVec.ofNat 32 7)) (word1 _ _) (extractStridedSlice S1x16x1 ![7, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o7_0_0_S1x16x1)
    have a := a row18_7
    refine Upto.load a ?_
    rfl
  have h9 : Upto 9 (i 0).val (hiddenScales (hiddenB x0 x1 x2 x3 x4 x5 x6 x7 x8)) (k0_pay4 (F := Ideal)) (kernelRun0_A.sl.v1433 (F := Ideal) c i arg1 harg1 arg2 harg2 arg3 harg3 arg4 harg4 arg5 harg5 arg6 harg6 arg7 harg7 arg8 harg8 arg9 harg9 arg19 arg20 arg21 arg22 x0 x1 x2 x3 x4 x5 x6 x7 x8) :=
    by
    have a := h8.store hi (by decide) (Scalar.addi (Scalar.muli (BitVec.ofNat 32 (i 0).val) (BitVec.ofNat 32 10)) (BitVec.ofNat 32 8)) (word1 _ _) (extractStridedSlice S1x16x1 ![8, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o8_0_0_S1x16x1)
    have a := a row18_8
    refine Upto.load a ?_
    rfl
  have a := h9.store hi (by decide) (Scalar.addi (Scalar.muli (BitVec.ofNat 32 (i 0).val) (BitVec.ofNat 32 10)) (BitVec.ofNat 32 9)) (word1 _ _) (extractStridedSlice S1x16x1 ![9, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o9_0_0_S1x16x1)
  have a := a row18_9
  refine Upto.out a ?_
  rfl

/-- The table of scales of the attention rows after one point. -/
theorem table14_B (hc0 : ¬cond0_0 i) (hi : (i 0).val < 10) :
    Upto 10 (i 0).val (rowScales x0) (xo14) (out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xo14 xo16 xo18) := by
  have h0 : Upto 0 (i 0).val (rowScales x0) (xo14) (View.readAt (Elt Ideal) arg15.view (Rect.unit (s := S16x100) ![0, 0] S16x100.size (by decide)).toLoadRect (harg15.unread xo14)) :=
    Upto.nil (load_whole arg15 harg15 xo14 _ (by decide) _)
  have h1 : Upto 1 (i 0).val (rowScales x0) (xo14) (kernelRun0_B.sl.v55 (F := Ideal) c i arg1 harg1 arg15 harg15 x0 xo14) :=
    by
    have a := h0.store hi (by decide) (Scalar.addi (Scalar.addi (Scalar.muli (BitVec.ofNat 32 (i 0).val) (BitVec.ofNat 32 10)) (BitVec.ofNat 32 0)) (BitVec.ofNat 32 0)) (word2 _ _ _) (extractStridedSlice S1x16x1 ![0, 0, 0] (k0_pay5 (F := Ideal) (View.readAt (Elt Ideal) arg1.view (Rect.unit (s := S10x16x1920) ![0, 0, 0] S2x16x1920.size (by decide)).toLoadRect (harg1.unread x0))) slices_S2x16x1_o0_0_0_S1x16x1)
    have a := a row14_0
    refine Upto.load a ?_
    rfl
  have h2 : Upto 2 (i 0).val (rowScales x0) (xo14) (kernelRun0_B.sl.v99 (F := Ideal) c i arg1 harg1 arg15 harg15 x0 xo14) :=
    by
    have a := h1.store hi (by decide) (Scalar.addi (Scalar.addi (Scalar.muli (BitVec.ofNat 32 (i 0).val) (BitVec.ofNat 32 10)) (BitVec.ofNat 32 0)) (BitVec.ofNat 32 1)) (word2 _ _ _) (extractStridedSlice S1x16x1 ![1, 0, 0] (k0_pay5 (F := Ideal) (View.readAt (Elt Ideal) arg1.view (Rect.unit (s := S10x16x1920) ![0, 0, 0] S2x16x1920.size (by decide)).toLoadRect (harg1.unread x0))) slices_S2x16x1_o1_0_0_S1x16x1)
    have a := a row14_1
    refine Upto.load a ?_
    rfl
  have h3 : Upto 3 (i 0).val (rowScales x0) (xo14) (kernelRun0_B.sl.v113 (F := Ideal) c i arg1 harg1 arg15 harg15 x0 xo14) :=
    by
    have a := h2.store hi (by decide) (Scalar.addi (Scalar.addi (Scalar.muli (BitVec.ofNat 32 (i 0).val) (BitVec.ofNat 32 10)) (BitVec.ofNat 32 2)) (BitVec.ofNat 32 0)) (word2 _ _ _) (extractStridedSlice S1x16x1 ![0, 0, 0] (k0_pay5 (F := Ideal) (View.readAt (Elt Ideal) arg1.view (Rect.unit (s := S10x16x1920) ![2, 0, 0] S2x16x1920.size (by decide)).toLoadRect (harg1.unread x0))) slices_S2x16x1_o0_0_0_S1x16x1)
    have a := a row14_2
    refine Upto.load a ?_
    rfl
  have h4 : Upto 4 (i 0).val (rowScales x0) (xo14) (kernelRun0_B.sl.v157 (F := Ideal) c i arg1 harg1 arg15 harg15 x0 xo14) :=
    by
    have a := h3.store hi (by decide) (Scalar.addi (Scalar.addi (Scalar.muli (BitVec.ofNat 32 (i 0).val) (BitVec.ofNat 32 10)) (BitVec.ofNat 32 2)) (BitVec.ofNat 32 1)) (word2 _ _ _) (extractStridedSlice S1x16x1 ![1, 0, 0] (k0_pay5 (F := Ideal) (View.readAt (Elt Ideal) arg1.view (Rect.unit (s := S10x16x1920) ![2, 0, 0] S2x16x1920.size (by decide)).toLoadRect (harg1.unread x0))) slices_S2x16x1_o1_0_0_S1x16x1)
    have a := a row14_3
    refine Upto.load a ?_
    rfl
  have h5 : Upto 5 (i 0).val (rowScales x0) (xo14) (kernelRun0_B.sl.v171 (F := Ideal) c i arg1 harg1 arg15 harg15 x0 xo14) :=
    by
    have a := h4.store hi (by decide) (Scalar.addi (Scalar.addi (Scalar.muli (BitVec.ofNat 32 (i 0).val) (BitVec.ofNat 32 10)) (BitVec.ofNat 32 4)) (BitVec.ofNat 32 0)) (word2 _ _ _) (extractStridedSlice S1x16x1 ![0, 0, 0] (k0_pay5 (F := Ideal) (View.readAt (Elt Ideal) arg1.view (Rect.unit (s := S10x16x1920) ![4, 0, 0] S2x16x1920.size (by decide)).toLoadRect (harg1.unread x0))) slices_S2x16x1_o0_0_0_S1x16x1)
    have a := a row14_4
    refine Upto.load a ?_
    rfl
  have h6 : Upto 6 (i 0).val (rowScales x0) (xo14) (kernelRun0_B.sl.v215 (F := Ideal) c i arg1 harg1 arg15 harg15 x0 xo14) :=
    by
    have a := h5.store hi (by decide) (Scalar.addi (Scalar.addi (Scalar.muli (BitVec.ofNat 32 (i 0).val) (BitVec.ofNat 32 10)) (BitVec.ofNat 32 4)) (BitVec.ofNat 32 1)) (word2 _ _ _) (extractStridedSlice S1x16x1 ![1, 0, 0] (k0_pay5 (F := Ideal) (View.readAt (Elt Ideal) arg1.view (Rect.unit (s := S10x16x1920) ![4, 0, 0] S2x16x1920.size (by decide)).toLoadRect (harg1.unread x0))) slices_S2x16x1_o1_0_0_S1x16x1)
    have a := a row14_5
    refine Upto.load a ?_
    rfl
  have h7 : Upto 7 (i 0).val (rowScales x0) (xo14) (kernelRun0_B.sl.v229 (F := Ideal) c i arg1 harg1 arg15 harg15 x0 xo14) :=
    by
    have a := h6.store hi (by decide) (Scalar.addi (Scalar.addi (Scalar.muli (BitVec.ofNat 32 (i 0).val) (BitVec.ofNat 32 10)) (BitVec.ofNat 32 6)) (BitVec.ofNat 32 0)) (word2 _ _ _) (extractStridedSlice S1x16x1 ![0, 0, 0] (k0_pay5 (F := Ideal) (View.readAt (Elt Ideal) arg1.view (Rect.unit (s := S10x16x1920) ![6, 0, 0] S2x16x1920.size (by decide)).toLoadRect (harg1.unread x0))) slices_S2x16x1_o0_0_0_S1x16x1)
    have a := a row14_6
    refine Upto.load a ?_
    rfl
  have h8 : Upto 8 (i 0).val (rowScales x0) (xo14) (kernelRun0_B.sl.v273 (F := Ideal) c i arg1 harg1 arg15 harg15 x0 xo14) :=
    by
    have a := h7.store hi (by decide) (Scalar.addi (Scalar.addi (Scalar.muli (BitVec.ofNat 32 (i 0).val) (BitVec.ofNat 32 10)) (BitVec.ofNat 32 6)) (BitVec.ofNat 32 1)) (word2 _ _ _) (extractStridedSlice S1x16x1 ![1, 0, 0] (k0_pay5 (F := Ideal) (View.readAt (Elt Ideal) arg1.view (Rect.unit (s := S10x16x1920) ![6, 0, 0] S2x16x1920.size (by decide)).toLoadRect (harg1.unread x0))) slices_S2x16x1_o1_0_0_S1x16x1)
    have a := a row14_7
    refine Upto.load a ?_
    rfl
  have h9 : Upto 9 (i 0).val (rowScales x0) (xo14) (kernelRun0_B.sl.v287 (F := Ideal) c i arg1 harg1 arg15 harg15 x0 xo14) :=
    by
    have a := h8.store hi (by decide) (Scalar.addi (Scalar.addi (Scalar.muli (BitVec.ofNat 32 (i 0).val) (BitVec.ofNat 32 10)) (BitVec.ofNat 32 8)) (BitVec.ofNat 32 0)) (word2 _ _ _) (extractStridedSlice S1x16x1 ![0, 0, 0] (k0_pay5 (F := Ideal) (View.readAt (Elt Ideal) arg1.view (Rect.unit (s := S10x16x1920) ![8, 0, 0] S2x16x1920.size (by decide)).toLoadRect (harg1.unread x0))) slices_S2x16x1_o0_0_0_S1x16x1)
    have a := a row14_8
    refine Upto.load a ?_
    rfl
  have a := h9.store hi (by decide) (Scalar.addi (Scalar.addi (Scalar.muli (BitVec.ofNat 32 (i 0).val) (BitVec.ofNat 32 10)) (BitVec.ofNat 32 8)) (BitVec.ofNat 32 1)) (word2 _ _ _) (extractStridedSlice S1x16x1 ![1, 0, 0] (k0_pay5 (F := Ideal) (View.readAt (Elt Ideal) arg1.view (Rect.unit (s := S10x16x1920) ![8, 0, 0] S2x16x1920.size (by decide)).toLoadRect (harg1.unread x0))) slices_S2x16x1_o1_0_0_S1x16x1)
  have a := a row14_9
  refine Upto.out a ?_
  rfl

/-- The table of scales of the norm after one point. -/
theorem table16_B (hc0 : ¬cond0_0 i) (hi : (i 0).val < 10) :
    Upto 10 (i 0).val (rowScales (normB x0 x1 x2 x3 x4 x5)) (xo16) (out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xo14 xo16 xo18) := by
  have h0 : Upto 0 (i 0).val (rowScales (normB x0 x1 x2 x3 x4 x5)) (xo16) (View.readAt (Elt Ideal) arg17.view (Rect.unit (s := S16x100) ![0, 0] S16x100.size (by decide)).toLoadRect (harg17.unread xo16)) :=
    Upto.nil (load_whole arg17 harg17 xo16 _ (by decide) _)
  have h1 : Upto 1 (i 0).val (rowScales (normB x0 x1 x2 x3 x4 x5)) (xo16) (kernelRun0_B.sl.v402 (F := Ideal) c i arg1 harg1 arg2 harg2 arg3 harg3 arg4 harg4 arg5 harg5 arg6 harg6 arg17 harg17 arg20 arg21 arg22 x0 x1 x2 x3 x4 x5 xo16) :=
    by
    have a := h0.store hi (by decide) (Scalar.addi (Scalar.addi (Scalar.muli (BitVec.ofNat 32 (i 0).val) (BitVec.ofNat 32 10)) (BitVec.ofNat 32 0)) (BitVec.ofNat 32 0)) (word2 _ _ _) (extractStridedSlice S1x16x1 ![0, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v326 (F := Ideal) c arg1 harg1 arg2 harg2 arg3 harg3 arg4 harg4 arg5 harg5 arg6 harg6 arg20 arg21 arg22 x0 x1 x2 x3 x4 x5))) slices_S2x16x1_o0_0_0_S1x16x1)
    have a := a row16_0
    refine Upto.load a ?_
    rfl
  have h2 : Upto 2 (i 0).val (rowScales (normB x0 x1 x2 x3 x4 x5)) (xo16) (kernelRun0_B.sl.v470 (F := Ideal) c i arg1 harg1 arg2 harg2 arg3 harg3 arg4 harg4 arg5 harg5 arg6 harg6 arg17 harg17 arg20 arg21 arg22 x0 x1 x2 x3 x4 x5 xo16) :=
    by
    have a := h1.store hi (by decide) (Scalar.addi (Scalar.addi (Scalar.muli (BitVec.ofNat 32 (i 0).val) (BitVec.ofNat 32 10)) (BitVec.ofNat 32 0)) (BitVec.ofNat 32 1)) (word2 _ _ _) (extractStridedSlice S1x16x1 ![1, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v326 (F := Ideal) c arg1 harg1 arg2 harg2 arg3 harg3 arg4 harg4 arg5 harg5 arg6 harg6 arg20 arg21 arg22 x0 x1 x2 x3 x4 x5))) slices_S2x16x1_o1_0_0_S1x16x1)
    have a := a row16_1
    refine Upto.load a ?_
    rfl
  have h3 : Upto 3 (i 0).val (rowScales (normB x0 x1 x2 x3 x4 x5)) (xo16) (kernelRun0_B.sl.v484 (F := Ideal) c i arg1 harg1 arg2 harg2 arg3 harg3 arg4 harg4 arg5 harg5 arg6 harg6 arg17 harg17 arg20 arg21 arg22 x0 x1 x2 x3 x4 x5 xo16) :=
    by
    have a := h2.store hi (by decide) (Scalar.addi (Scalar.addi (Scalar.muli (BitVec.ofNat 32 (i 0).val) (BitVec.ofNat 32 10)) (BitVec.ofNat 32 2)) (BitVec.ofNat 32 0)) (word2 _ _ _) (extractStridedSlice S1x16x1 ![0, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v408 (F := Ideal) c arg1 harg1 arg2 harg2 arg3 harg3 arg4 harg4 arg5 harg5 arg6 harg6 arg20 arg21 arg22 x0 x1 x2 x3 x4 x5))) slices_S2x16x1_o0_0_0_S1x16x1)
    have a := a row16_2
    refine Upto.load a ?_
    rfl
  have h4 : Upto 4 (i 0).val (rowScales (normB x0 x1 x2 x3 x4 x5)) (xo16) (kernelRun0_B.sl.v552 (F := Ideal) c i arg1 harg1 arg2 harg2 arg3 harg3 arg4 harg4 arg5 harg5 arg6 harg6 arg17 harg17 arg20 arg21 arg22 x0 x1 x2 x3 x4 x5 xo16) :=
    by
    have a := h3.store hi (by decide) (Scalar.addi (Scalar.addi (Scalar.muli (BitVec.ofNat 32 (i 0).val) (BitVec.ofNat 32 10)) (BitVec.ofNat 32 2)) (BitVec.ofNat 32 1)) (word2 _ _ _) (extractStridedSlice S1x16x1 ![1, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v408 (F := Ideal) c arg1 harg1 arg2 harg2 arg3 harg3 arg4 harg4 arg5 harg5 arg6 harg6 arg20 arg21 arg22 x0 x1 x2 x3 x4 x5))) slices_S2x16x1_o1_0_0_S1x16x1)
    have a := a row16_3
    refine Upto.load a ?_
    rfl
  have h5 : Upto 5 (i 0).val (rowScales (normB x0 x1 x2 x3 x4 x5)) (xo16) (kernelRun0_B.sl.v566 (F := Ideal) c i arg1 harg1 arg2 harg2 arg3 harg3 arg4 harg4 arg5 harg5 arg6 harg6 arg17 harg17 arg20 arg21 arg22 x0 x1 x2 x3 x4 x5 xo16) :=
    by
    have a := h4.store hi (by decide) (Scalar.addi (Scalar.addi (Scalar.muli (BitVec.ofNat 32 (i 0).val) (BitVec.ofNat 32 10)) (BitVec.ofNat 32 4)) (BitVec.ofNat 32 0)) (word2 _ _ _) (extractStridedSlice S1x16x1 ![0, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v490 (F := Ideal) c arg1 harg1 arg2 harg2 arg3 harg3 arg4 harg4 arg5 harg5 arg6 harg6 arg20 arg21 arg22 x0 x1 x2 x3 x4 x5))) slices_S2x16x1_o0_0_0_S1x16x1)
    have a := a row16_4
    refine Upto.load a ?_
    rfl
  have h6 : Upto 6 (i 0).val (rowScales (normB x0 x1 x2 x3 x4 x5)) (xo16) (kernelRun0_B.sl.v634 (F := Ideal) c i arg1 harg1 arg2 harg2 arg3 harg3 arg4 harg4 arg5 harg5 arg6 harg6 arg17 harg17 arg20 arg21 arg22 x0 x1 x2 x3 x4 x5 xo16) :=
    by
    have a := h5.store hi (by decide) (Scalar.addi (Scalar.addi (Scalar.muli (BitVec.ofNat 32 (i 0).val) (BitVec.ofNat 32 10)) (BitVec.ofNat 32 4)) (BitVec.ofNat 32 1)) (word2 _ _ _) (extractStridedSlice S1x16x1 ![1, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v490 (F := Ideal) c arg1 harg1 arg2 harg2 arg3 harg3 arg4 harg4 arg5 harg5 arg6 harg6 arg20 arg21 arg22 x0 x1 x2 x3 x4 x5))) slices_S2x16x1_o1_0_0_S1x16x1)
    have a := a row16_5
    refine Upto.load a ?_
    rfl
  have h7 : Upto 7 (i 0).val (rowScales (normB x0 x1 x2 x3 x4 x5)) (xo16) (kernelRun0_B.sl.v648 (F := Ideal) c i arg1 harg1 arg2 harg2 arg3 harg3 arg4 harg4 arg5 harg5 arg6 harg6 arg17 harg17 arg20 arg21 arg22 x0 x1 x2 x3 x4 x5 xo16) :=
    by
    have a := h6.store hi (by decide) (Scalar.addi (Scalar.addi (Scalar.muli (BitVec.ofNat 32 (i 0).val) (BitVec.ofNat 32 10)) (BitVec.ofNat 32 6)) (BitVec.ofNat 32 0)) (word2 _ _ _) (extractStridedSlice S1x16x1 ![0, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v572 (F := Ideal) c arg1 harg1 arg2 harg2 arg3 harg3 arg4 harg4 arg5 harg5 arg6 harg6 arg20 arg21 arg22 x0 x1 x2 x3 x4 x5))) slices_S2x16x1_o0_0_0_S1x16x1)
    have a := a row16_6
    refine Upto.load a ?_
    rfl
  have h8 : Upto 8 (i 0).val (rowScales (normB x0 x1 x2 x3 x4 x5)) (xo16) (kernelRun0_B.sl.v716 (F := Ideal) c i arg1 harg1 arg2 harg2 arg3 harg3 arg4 harg4 arg5 harg5 arg6 harg6 arg17 harg17 arg20 arg21 arg22 x0 x1 x2 x3 x4 x5 xo16) :=
    by
    have a := h7.store hi (by decide) (Scalar.addi (Scalar.addi (Scalar.muli (BitVec.ofNat 32 (i 0).val) (BitVec.ofNat 32 10)) (BitVec.ofNat 32 6)) (BitVec.ofNat 32 1)) (word2 _ _ _) (extractStridedSlice S1x16x1 ![1, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v572 (F := Ideal) c arg1 harg1 arg2 harg2 arg3 harg3 arg4 harg4 arg5 harg5 arg6 harg6 arg20 arg21 arg22 x0 x1 x2 x3 x4 x5))) slices_S2x16x1_o1_0_0_S1x16x1)
    have a := a row16_7
    refine Upto.load a ?_
    rfl
  have h9 : Upto 9 (i 0).val (rowScales (normB x0 x1 x2 x3 x4 x5)) (xo16) (kernelRun0_B.sl.v730 (F := Ideal) c i arg1 harg1 arg2 harg2 arg3 harg3 arg4 harg4 arg5 harg5 arg6 harg6 arg17 harg17 arg20 arg21 arg22 x0 x1 x2 x3 x4 x5 xo16) :=
    by
    have a := h8.store hi (by decide) (Scalar.addi (Scalar.addi (Scalar.muli (BitVec.ofNat 32 (i 0).val) (BitVec.ofNat 32 10)) (BitVec.ofNat 32 8)) (BitVec.ofNat 32 0)) (word2 _ _ _) (extractStridedSlice S1x16x1 ![0, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v654 (F := Ideal) c arg1 harg1 arg2 harg2 arg3 harg3 arg4 harg4 arg5 harg5 arg6 harg6 arg20 arg21 arg22 x0 x1 x2 x3 x4 x5))) slices_S2x16x1_o0_0_0_S1x16x1)
    have a := a row16_8
    refine Upto.load a ?_
    rfl
  have a := h9.store hi (by decide) (Scalar.addi (Scalar.addi (Scalar.muli (BitVec.ofNat 32 (i 0).val) (BitVec.ofNat 32 10)) (BitVec.ofNat 32 8)) (BitVec.ofNat 32 1)) (word2 _ _ _) (extractStridedSlice S1x16x1 ![1, 0, 0] (k0_pay5 (F := Ideal) (k0_pay43 (F := Ideal) (k0_pay41 (F := Ideal) (View.readAt (Elt Ideal) arg3.view (Rect.unit (s := S6x16x1920) ![3, 0, 0] S1x16x1920.size (by decide)).toLoadRect (harg3.unread x2))) (k0_pay42 (F := Ideal) (View.readAt (Elt Ideal) arg3.view (Rect.unit (s := S6x16x1920) ![5, 0, 0] S1x16x1920.size (by decide)).toLoadRect (harg3.unread x2))) (kernelRun0_A.sl.v654 (F := Ideal) c arg1 harg1 arg2 harg2 arg3 harg3 arg4 harg4 arg5 harg5 arg6 harg6 arg20 arg21 arg22 x0 x1 x2 x3 x4 x5))) slices_S2x16x1_o1_0_0_S1x16x1)
  have a := a row16_9
  refine Upto.out a ?_
  rfl

/-- The table of scales of the hidden activations after one point. -/
theorem table18_B (hc0 : ¬cond0_0 i) (hi : (i 0).val < 10) :
    Upto 10 (i 0).val (hiddenScales (hiddenB x0 x1 x2 x3 x4 x5 x6 x7 x8)) (xo18) (out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xo14 xo16 xo18) := by
  have h0 : Upto 0 (i 0).val (hiddenScales (hiddenB x0 x1 x2 x3 x4 x5 x6 x7 x8)) (xo18) (View.readAt (Elt Ideal) arg19.view (Rect.unit (s := S16x100) ![0, 0] S16x100.size (by decide)).toLoadRect (harg19.unread xo18)) :=
    Upto.nil (load_whole arg19 harg19 xo18 _ (by decide) _)
  have h1 : Upto 1 (i 0).val (hiddenScales (hiddenB x0 x1 x2 x3 x4 x5 x6 x7 x8)) (xo18) (kernelRun0_B.sl.v1329 (F := Ideal) c i arg1 harg1 arg2 harg2 arg3 harg3 arg4 harg4 arg5 harg5 arg6 harg6 arg7 harg7 arg8 harg8 arg9 harg9 arg19 harg19 arg20 arg21 arg22 x0 x1 x2 x3 x4 x5 x6 x7 x8 xo18) :=
    by
    have a := h0.store hi (by decide) (Scalar.addi (Scalar.muli (BitVec.ofNat 32 (i 0).val) (BitVec.ofNat 32 10)) (BitVec.ofNat 32 0)) (word1 _ _) (extractStridedSlice S1x16x1 ![0, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o0_0_0_S1x16x1)
    have a := a row18_0
    refine Upto.load a ?_
    rfl
  have h2 : Upto 2 (i 0).val (hiddenScales (hiddenB x0 x1 x2 x3 x4 x5 x6 x7 x8)) (xo18) (kernelRun0_B.sl.v1342 (F := Ideal) c i arg1 harg1 arg2 harg2 arg3 harg3 arg4 harg4 arg5 harg5 arg6 harg6 arg7 harg7 arg8 harg8 arg9 harg9 arg19 harg19 arg20 arg21 arg22 x0 x1 x2 x3 x4 x5 x6 x7 x8 xo18) :=
    by
    have a := h1.store hi (by decide) (Scalar.addi (Scalar.muli (BitVec.ofNat 32 (i 0).val) (BitVec.ofNat 32 10)) (BitVec.ofNat 32 1)) (word1 _ _) (extractStridedSlice S1x16x1 ![1, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o1_0_0_S1x16x1)
    have a := a row18_1
    refine Upto.load a ?_
    rfl
  have h3 : Upto 3 (i 0).val (hiddenScales (hiddenB x0 x1 x2 x3 x4 x5 x6 x7 x8)) (xo18) (kernelRun0_B.sl.v1355 (F := Ideal) c i arg1 harg1 arg2 harg2 arg3 harg3 arg4 harg4 arg5 harg5 arg6 harg6 arg7 harg7 arg8 harg8 arg9 harg9 arg19 harg19 arg20 arg21 arg22 x0 x1 x2 x3 x4 x5 x6 x7 x8 xo18) :=
    by
    have a := h2.store hi (by decide) (Scalar.addi (Scalar.muli (BitVec.ofNat 32 (i 0).val) (BitVec.ofNat 32 10)) (BitVec.ofNat 32 2)) (word1 _ _) (extractStridedSlice S1x16x1 ![2, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o2_0_0_S1x16x1)
    have a := a row18_2
    refine Upto.load a ?_
    rfl
  have h4 : Upto 4 (i 0).val (hiddenScales (hiddenB x0 x1 x2 x3 x4 x5 x6 x7 x8)) (xo18) (kernelRun0_B.sl.v1368 (F := Ideal) c i arg1 harg1 arg2 harg2 arg3 harg3 arg4 harg4 arg5 harg5 arg6 harg6 arg7 harg7 arg8 harg8 arg9 harg9 arg19 harg19 arg20 arg21 arg22 x0 x1 x2 x3 x4 x5 x6 x7 x8 xo18) :=
    by
    have a := h3.store hi (by decide) (Scalar.addi (Scalar.muli (BitVec.ofNat 32 (i 0).val) (BitVec.ofNat 32 10)) (BitVec.ofNat 32 3)) (word1 _ _) (extractStridedSlice S1x16x1 ![3, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o3_0_0_S1x16x1)
    have a := a row18_3
    refine Upto.load a ?_
    rfl
  have h5 : Upto 5 (i 0).val (hiddenScales (hiddenB x0 x1 x2 x3 x4 x5 x6 x7 x8)) (xo18) (kernelRun0_B.sl.v1381 (F := Ideal) c i arg1 harg1 arg2 harg2 arg3 harg3 arg4 harg4 arg5 harg5 arg6 harg6 arg7 harg7 arg8 harg8 arg9 harg9 arg19 harg19 arg20 arg21 arg22 x0 x1 x2 x3 x4 x5 x6 x7 x8 xo18) :=
    by
    have a := h4.store hi (by decide) (Scalar.addi (Scalar.muli (BitVec.ofNat 32 (i 0).val) (BitVec.ofNat 32 10)) (BitVec.ofNat 32 4)) (word1 _ _) (extractStridedSlice S1x16x1 ![4, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o4_0_0_S1x16x1)
    have a := a row18_4
    refine Upto.load a ?_
    rfl
  have h6 : Upto 6 (i 0).val (hiddenScales (hiddenB x0 x1 x2 x3 x4 x5 x6 x7 x8)) (xo18) (kernelRun0_B.sl.v1394 (F := Ideal) c i arg1 harg1 arg2 harg2 arg3 harg3 arg4 harg4 arg5 harg5 arg6 harg6 arg7 harg7 arg8 harg8 arg9 harg9 arg19 harg19 arg20 arg21 arg22 x0 x1 x2 x3 x4 x5 x6 x7 x8 xo18) :=
    by
    have a := h5.store hi (by decide) (Scalar.addi (Scalar.muli (BitVec.ofNat 32 (i 0).val) (BitVec.ofNat 32 10)) (BitVec.ofNat 32 5)) (word1 _ _) (extractStridedSlice S1x16x1 ![5, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o5_0_0_S1x16x1)
    have a := a row18_5
    refine Upto.load a ?_
    rfl
  have h7 : Upto 7 (i 0).val (hiddenScales (hiddenB x0 x1 x2 x3 x4 x5 x6 x7 x8)) (xo18) (kernelRun0_B.sl.v1407 (F := Ideal) c i arg1 harg1 arg2 harg2 arg3 harg3 arg4 harg4 arg5 harg5 arg6 harg6 arg7 harg7 arg8 harg8 arg9 harg9 arg19 harg19 arg20 arg21 arg22 x0 x1 x2 x3 x4 x5 x6 x7 x8 xo18) :=
    by
    have a := h6.store hi (by decide) (Scalar.addi (Scalar.muli (BitVec.ofNat 32 (i 0).val) (BitVec.ofNat 32 10)) (BitVec.ofNat 32 6)) (word1 _ _) (extractStridedSlice S1x16x1 ![6, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o6_0_0_S1x16x1)
    have a := a row18_6
    refine Upto.load a ?_
    rfl
  have h8 : Upto 8 (i 0).val (hiddenScales (hiddenB x0 x1 x2 x3 x4 x5 x6 x7 x8)) (xo18) (kernelRun0_B.sl.v1420 (F := Ideal) c i arg1 harg1 arg2 harg2 arg3 harg3 arg4 harg4 arg5 harg5 arg6 harg6 arg7 harg7 arg8 harg8 arg9 harg9 arg19 harg19 arg20 arg21 arg22 x0 x1 x2 x3 x4 x5 x6 x7 x8 xo18) :=
    by
    have a := h7.store hi (by decide) (Scalar.addi (Scalar.muli (BitVec.ofNat 32 (i 0).val) (BitVec.ofNat 32 10)) (BitVec.ofNat 32 7)) (word1 _ _) (extractStridedSlice S1x16x1 ![7, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o7_0_0_S1x16x1)
    have a := a row18_7
    refine Upto.load a ?_
    rfl
  have h9 : Upto 9 (i 0).val (hiddenScales (hiddenB x0 x1 x2 x3 x4 x5 x6 x7 x8)) (xo18) (kernelRun0_B.sl.v1433 (F := Ideal) c i arg1 harg1 arg2 harg2 arg3 harg3 arg4 harg4 arg5 harg5 arg6 harg6 arg7 harg7 arg8 harg8 arg9 harg9 arg19 harg19 arg20 arg21 arg22 x0 x1 x2 x3 x4 x5 x6 x7 x8 xo18) :=
    by
    have a := h8.store hi (by decide) (Scalar.addi (Scalar.muli (BitVec.ofNat 32 (i 0).val) (BitVec.ofNat 32 10)) (BitVec.ofNat 32 8)) (word1 _ _) (extractStridedSlice S1x16x1 ![8, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o8_0_0_S1x16x1)
    have a := a row18_8
    refine Upto.load a ?_
    rfl
  have a := h9.store hi (by decide) (Scalar.addi (Scalar.muli (BitVec.ofNat 32 (i 0).val) (BitVec.ofNat 32 10)) (BitVec.ofNat 32 9)) (word1 _ _) (extractStridedSlice S1x16x1 ![9, 0, 0] (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) slices_S10x16x1_o9_0_0_S1x16x1)
  have a := a row18_9
  refine Upto.out a ?_
  rfl

end Cert.FfnIdeal.Value
-- ==== Proof.Out.lean ====
module

public import proofs.«01_k».proof.Proof.Hidden
public import Idealize.ShloMosaic.Lib.Pipeline.ValueKit
public import Idealize.ShloMosaic.Lib.Pipeline.ReadBack
public import Idealize.ShloMosaic.Lib.Pointwise

/-!
# The hidden codes and the block's result

The codes of the hidden activations, chunk by chunk, the second linear map over them, and the residual stream after the
second branch.
-/

set_option maxRecDepth 65536

@[expose] public section

noncomputable section

open Idealize.ShloMosaic Idealize.ShloMosaic.TcCoe Idealize.SL.Sem

namespace Cert.FfnIdeal.Value

open Cert.FfnIdeal Cert.FfnIdeal.Gen

/-- The result of the block from the hidden codes, scales and weights it is computed from. -/
theorem out_at (h : FVec Ideal S160x7680 .fp8e4m3) (w : FVec Ideal S7680x1920 .fp8e4m3) (s : FVec Ideal S160x1 .f32) (ws b : FVec Ideal S1x1920 .f32)
    (x : FVec Ideal S10x16x1920 .f32) (g : FVec Ideal S1x16x1920 .f32) (p : Fin 10) (r : Fin 16) (n : Fin 1920) :
    k0_pay1 (F := Ideal) (k0_pay201 (F := Ideal) (matmul dot_S160x7680_S7680x1920_S160x1920_1_0_0_1_n_n none h w (constant S160x1920 .f32 0x00000000#32)) s ws b) x g (ix3 p r n)
      = x (ix3 p r n) + g (ix3 0 r n) * ((∑ k : Fin 7680, h (ix2 (⟨p * 16 + r, by omega⟩ : Fin 160) k) * w (ix2 k n)) * s (ix2 (⟨p * 16 + r, by omega⟩ : Fin 160) 0)
          * ws (ix2 0 n) + b (ix2 0 n)) := by
  pointwise [k0_pay1, k0_pay201]

/-- The repeated scale, one row per token. -/
theorem spread_at (v : IVec S160x1 1) (w : FVec Ideal S160x1 .f32) (a : Ideal .f32) (q : Fin 160) (l : Fin 128) :
    k0_pay152 (F := Ideal) v w a (ix2 q l) = k0_pay150 (F := Ideal) v w a (ix3 (⟨q / 16, by omega⟩ : Fin 10) (⟨q % 16, by omega⟩ : Fin 16) 0) := by
  pointwise [k0_pay152]

/-- The reciprocal scale. -/
theorem recip_at (v : IVec S160x1 1) (w : FVec Ideal S160x1 .f32) (a : Ideal .f32) (p : Fin 10) (r : Fin 16) :
    k0_pay151 (F := Ideal) v w a (ix3 p r 0) = Ideal.div 1 (k0_pay150 (F := Ideal) v w a (ix3 p r 0)) := by
  pointwise [k0_pay151]

theorem row160 (q : Fin 160) (h) : (⟨(q / 16) * 16 + q % 16, h⟩ : Fin 160) = q := Fin.ext (by simp only []; omega)

variable (x0 : FVec Ideal S10x16x1920 .f32) (x1 : FVec Ideal S10x16x1920 .bf16) (x2 : FVec Ideal S6x16x1920 .f32) (x3
  : FVec Ideal S1920x1920 .fp8e4m3) (x4 : FVec Ideal S1x1920 .f32) (x5 : FVec Ideal S1x1920 .f32) (x6 : FVec Ideal
  S1920x7680 .fp8e4m3) (x7 : FVec Ideal S1x7680 .f32) (x8 : FVec Ideal S1x7680 .f32) (x9 : FVec Ideal S7680x1920
  .fp8e4m3) (x10 : FVec Ideal S1x1920 .f32) (x11 : FVec Ideal S1x1920 .f32)

/-- The hidden codes of the block. -/
def hcodes3 : S10x16x7680.Idx → EReal := fun y =>
  Row.code (fun k => (hiddenB x0 x1 x2 x3 x4 x5 x6 x7 x8) (ix2 (⟨(y 0).val * 16 + (y 1).val, by have h0 := (y 0).isLt; have h1 := (y 1).isLt; change _ < 10 at h0; change _ < 16 at h1; omega⟩ : Fin 160) k)) (y 2)

/-- The same, the tokens laid out as 160 rows. -/
def hcodes2 : S160x7680.Idx → EReal := fun y => Row.code (fun k => (hiddenB x0 x1 x2 x3 x4 x5 x6 x7 x8) (ix2 (y 0) k)) (y 1)

/-- The hidden scales, one row per token, repeated along the lanes. -/
def hscales2 : S160x128.Idx → EReal := fun y => Row.scale fun k => (hiddenB x0 x1 x2 x3 x4 x5 x6 x7 x8) (ix2 (y 0) k)

/-- The residual stream after the second branch. -/
def outB : S10x16x1920.Idx → EReal := fun y =>
  Row.out (fun n => midB x0 x1 x2 x3 x4 x5 (ix3 (y 0) (y 1) n))
    (fun k => (hiddenB x0 x1 x2 x3 x4 x5 x6 x7 x8) (ix2 (⟨(y 0).val * 16 + (y 1).val, by have h0 := (y 0).isLt; have h1 := (y 1).isLt; change _ < 10 at h0; change _ < 16 at h1; omega⟩ : Fin 160) k))
    (fun n => x2 (ix3 1 (y 1) n)) (fun k n => x9 (ix2 k n)) (fun n => x10 (ix2 0 n)) (fun n => x11 (ix2 0 n)) (y 2)

variable {x0 x1 x2 x3 x4 x5 x6 x7 x8 x9 x10 x11}
variable {c : Dev nD} {arg1 : Memref sig .tc .vmem S10x16x1920 .f32} {harg1 : arg1.IsWhole} {arg2 : Memref sig .tc
  .vmem S10x16x1920 .bf16} {harg2 : arg2.IsWhole} {arg3 : Memref sig .tc .vmem S6x16x1920 .f32} {harg3 : arg3.IsWhole}
  {arg4 : Memref sig .tc .vmem S1920x1920 .fp8e4m3} {harg4 : arg4.IsWhole} {arg5 : Memref sig .tc .vmem S1x1920 .f32}
  {harg5 : arg5.IsWhole} {arg6 : Memref sig .tc .vmem S1x1920 .f32} {harg6 : arg6.IsWhole} {arg7 : Memref sig .tc
  .vmem S1920x7680 .fp8e4m3} {harg7 : arg7.IsWhole} {arg8 : Memref sig .tc .vmem S1x7680 .f32} {harg8 : arg8.IsWhole}
  {arg9 : Memref sig .tc .vmem S1x7680 .f32} {harg9 : arg9.IsWhole} {arg10 : Memref sig .tc .vmem S7680x1920 .fp8e4m3}
  {harg10 : arg10.IsWhole} {arg11 : Memref sig .tc .vmem S1x1920 .f32} {harg11 : arg11.IsWhole} {arg12 : Memref sig
  .tc .vmem S1x1920 .f32} {harg12 : arg12.IsWhole} {arg20 : Memref sig .tc .vmem S160x1920 .fp8e4m3} {arg21 : Memref
  sig .tc .vmem S10x16x1920 .f32} {arg22 : Memref sig .tc .vmem S160x128 .f32} {arg23 : Memref sig .tc .vmem S160x7680
  .f32} {arg24 : Memref sig .tc .vmem S160x7680 .fp8e4m3}

/-- The codes of the hidden activations from column `o` on. -/
theorem hcode {o : ℕ} {Y : FVec Ideal S160x512 .f32} (h : Cols o (hiddenB x0 x1 x2 x3 x4 x5 x6 x7 x8) Y) (p : Fin 10) (r : Fin 16) (n : Fin 512) (hn : o + n < 7680) :
    k0_pay166 (F := Ideal) (kernelRun0_A.sl.v1302 (F := Ideal) c arg1 harg1 arg2 harg2 arg3 harg3 arg4 harg4 arg5 harg5 arg6 harg6 arg7 harg7 arg8 harg8 arg9 harg9 arg20 arg21 arg22 x0 x1 x2 x3 x4 x5 x6 x7 x8) Y (ix3 p r n) = hcodes3 x0 x1 x2 x3 x4 x5 x6 x7 x8 (ix3 p r ⟨o + n, hn⟩) := by
  have e : (kernelRun0_A.sl.v1302 (F := Ideal) c arg1 harg1 arg2 harg2 arg3 harg3 arg4 harg4 arg5 harg5 arg6 harg6 arg7 harg7 arg8 harg8 arg9 harg9 arg20 arg21 arg22 x0 x1 x2 x3 x4 x5 x6 x7 x8) = k0_pay151 (F := Ideal) (kernelRun0_A.sl.r_50 (F := Ideal) c arg1 harg1 arg2 harg2 arg3 harg3 arg4 harg4 arg5 harg5 arg6 harg6 arg7 harg7 arg8 harg8 arg9 harg9 arg20 arg21 arg22 x0 x1 x2 x3 x4 x5 x6 x7 x8) (kernelRun0_A.sl.r_51 (F := Ideal) c arg1 harg1 arg2 harg2 arg3 harg3 arg4 harg4 arg5 harg5 arg6 harg6 arg7 harg7 arg8 harg8 arg9 harg9 arg20 arg21 arg22 x0 x1 x2 x3 x4 x5 x6 x7 x8) (Scalar.ofBits .f32 0x3F800000#32) := rfl
  have e' : k0_pay150 (F := Ideal) (kernelRun0_A.sl.r_50 (F := Ideal) c arg1 harg1 arg2 harg2 arg3 harg3 arg4 harg4 arg5 harg5 arg6 harg6 arg7 harg7 arg8 harg8 arg9 harg9 arg20 arg21 arg22 x0 x1 x2 x3 x4 x5 x6 x7 x8) (kernelRun0_A.sl.r_51 (F := Ideal) c arg1 harg1 arg2 harg2 arg3 harg3 arg4 harg4 arg5 harg5 arg6 harg6 arg7 harg7 arg8 harg8 arg9 harg9 arg20 arg21 arg22 x0 x1 x2 x3 x4 x5 x6 x7 x8) (Scalar.ofBits .f32 0x3F800000#32) = (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) := rfl
  rw [hidden_code_at, h _ _ hn, e, recip_at, e', hidden_scale, Row.mul_one_div (Row.scale_ne_zero _)]
  rfl

theorem hcode3_piece {o : ℕ} {Y : FVec Ideal S160x512 .f32} {P : FVec Ideal S10x16x512 .fp8e4m3} (h : Cols o (hiddenB x0 x1 x2 x3 x4 x5 x6 x7 x8) Y)
    (hP : P = k0_pay166 (F := Ideal) (kernelRun0_A.sl.v1302 (F := Ideal) c arg1 harg1 arg2 harg2 arg3 harg3 arg4 harg4 arg5 harg5 arg6 harg6 arg7 harg7 arg8 harg8 arg9 harg9 arg20 arg21 arg22 x0 x1 x2 x3 x4 x5 x6 x7 x8) Y) (ho : o + 512 ≤ 7680) (inb) (j : S10x16x512.Idx) :
    P j = hcodes3 x0 x1 x2 x3 x4 x5 x6 x7 x8 ((Rect.unit (s := S10x16x7680) ![0, 0, o] S10x16x512.size inb).emb j) := by
  subst hP
  idx_vars j
  rw [hcode h _ _ _ (show o + j2.val < 7680 by omega)]
  exact congrArg (hcodes3 x0 x1 x2 x3 x4 x5 x6 x7 x8) (emb3 (n0 := 10) (n1 := 16) (n2 := 7680) 0 0 o inb j0 j1 j2 j0 j1 ⟨o + j2, by omega⟩ (Nat.zero_add _).symm (Nat.zero_add _).symm rfl).symm

theorem hcode2_piece {o : ℕ} {Y : FVec Ideal S160x512 .f32} {P : FVec Ideal S160x512 .fp8e4m3} (h : Cols o (hiddenB x0 x1 x2 x3 x4 x5 x6 x7 x8) Y)
    (hP : P = k0_pay167 (F := Ideal) (kernelRun0_A.sl.v1302 (F := Ideal) c arg1 harg1 arg2 harg2 arg3 harg3 arg4 harg4 arg5 harg5 arg6 harg6 arg7 harg7 arg8 harg8 arg9 harg9 arg20 arg21 arg22 x0 x1 x2 x3 x4 x5 x6 x7 x8) Y) (ho : o + 512 ≤ 7680) (inb) (j : S160x512.Idx) :
    P j = hcodes2 x0 x1 x2 x3 x4 x5 x6 x7 x8 ((Rect.unit (s := S160x7680) ![0, o] S160x512.size inb).emb j) := by
  subst hP
  idx_vars j
  rw [hidden_code2_at, hcode h _ _ _ (show o + j1.val < 7680 by omega)]
  refine Eq.trans ?_ (congrArg (hcodes2 x0 x1 x2 x3 x4 x5 x6 x7 x8) (emb2 (n0 := 160) (n1 := 7680) 0 o inb j0 j1 j0 ⟨o + j1, by omega⟩ (Nat.zero_add _).symm rfl)).symm
  unfold hcodes3 hcodes2
  simp only [ix2_0, ix2_1, ix3_0, ix3_1, ix3_2, row160]

/-- The stored hidden codes, as 160 rows. -/
theorem pieces_hcodes2 : View.PiecesOf (Val := Elt Ideal) (e := .fp8e4m3) (hcodes2 x0 x1 x2 x3 x4 x5 x6 x7 x8) (kernelRun0_A.sl.HS4_15 (F := Ideal) c arg1 harg1 arg2 harg2 arg3 harg3 arg4 harg4 arg5 harg5 arg6 harg6 arg7 harg7 arg8 harg8 arg9 harg9 arg20 arg21 arg22 arg23 x0 x1 x2 x3 x4 x5 x6 x7 x8) :=
  ⟨hcode2_piece (cols_load 7168 (by decide)) rfl (by decide) (by decide),
    hcode2_piece (cols_load 6656 (by decide)) rfl (by decide) (by decide),
    hcode2_piece (cols_load 6144 (by decide)) rfl (by decide) (by decide),
    hcode2_piece (cols_load 5632 (by decide)) rfl (by decide) (by decide),
    hcode2_piece (cols_load 5120 (by decide)) rfl (by decide) (by decide),
    hcode2_piece (cols_load 4608 (by decide)) rfl (by decide) (by decide),
    hcode2_piece (cols_load 4096 (by decide)) rfl (by decide) (by decide),
    hcode2_piece (cols_load 3584 (by decide)) rfl (by decide) (by decide),
    hcode2_piece (cols_load 3072 (by decide)) rfl (by decide) (by decide),
    hcode2_piece (cols_load 2560 (by decide)) rfl (by decide) (by decide),
    hcode2_piece (cols_load 2048 (by decide)) rfl (by decide) (by decide),
    hcode2_piece (cols_load 1536 (by decide)) rfl (by decide) (by decide),
    hcode2_piece (cols_load 1024 (by decide)) rfl (by decide) (by decide),
    hcode2_piece (cols_load 512 (by decide)) rfl (by decide) (by decide),
    hcode2_piece (cols_load 0 (by decide)) rfl (by decide) (by decide), trivial⟩

theorem cover_hcodes2 (y : S160x7680.Idx) : ∃ p ∈ (kernelRun0_A.sl.HS4_15 (F := Ideal) c arg1 harg1 arg2 harg2 arg3 harg3 arg4 harg4 arg5 harg5 arg6 harg6 arg7 harg7 arg8 harg8 arg9 harg9 arg20 arg21 arg22 arg23 x0 x1 x2 x3 x4 x5 x6 x7 x8), y ∈ p.1.set :=
  View.cover_of_tiledL (kernelRun0_A.sl.HS4_15 (F := Ideal) c arg1 harg1 arg2 harg2 arg3 harg3 arg4 harg4 arg5 harg5 arg6 harg6 arg7 harg7 arg8 harg8 arg9 harg9 arg20 arg21 arg22 arg23 x0 x1 x2 x3 x4 x5 x6 x7 x8) S160x512.size (by sl_kernel_rfl) y

theorem load_hcodes (q : Fin 160) (k : Fin 7680) : (kernelRun0_A.sl.v1649 (F := Ideal) c arg1 harg1 arg2 harg2 arg3 harg3 arg4 harg4 arg5 harg5 arg6 harg6 arg7 harg7 arg8 harg8 arg9 harg9 arg20 arg21 arg22 arg23 arg24 x0 x1 x2 x3 x4 x5 x6 x7 x8) (ix2 q k) = hcodes2 x0 x1 x2 x3 x4 x5 x6 x7 x8 (ix2 q k) := by
  refine (readCov_of_pieces _ _ _ _ pieces_hcodes2 cover_hcodes2 _).trans ?_
  exact congrArg (hcodes2 x0 x1 x2 x3 x4 x5 x6 x7 x8) (emb2 (n0 := 160) (n1 := 7680) 0 0 _ q k q k (Nat.zero_add _).symm (Nat.zero_add _).symm)

theorem hscale_piece (inb) (j : S160x128.Idx) :
    (kernelRun0_A.sl.v1308 (F := Ideal) c arg1 harg1 arg2 harg2 arg3 harg3 arg4 harg4 arg5 harg5 arg6 harg6 arg7 harg7 arg8 harg8 arg9 harg9 arg20 arg21 arg22 x0 x1 x2 x3 x4 x5 x6 x7 x8) j = hscales2 x0 x1 x2 x3 x4 x5 x6 x7 x8 ((Rect.unit (s := S160x128) ![0, 0] S160x128.size inb).emb j) := by
  have e : (kernelRun0_A.sl.v1308 (F := Ideal) c arg1 harg1 arg2 harg2 arg3 harg3 arg4 harg4 arg5 harg5 arg6 harg6 arg7 harg7 arg8 harg8 arg9 harg9 arg20 arg21 arg22 x0 x1 x2 x3 x4 x5 x6 x7 x8) = k0_pay152 (F := Ideal) (kernelRun0_A.sl.r_50 (F := Ideal) c arg1 harg1 arg2 harg2 arg3 harg3 arg4 harg4 arg5 harg5 arg6 harg6 arg7 harg7 arg8 harg8 arg9 harg9 arg20 arg21 arg22 x0 x1 x2 x3 x4 x5 x6 x7 x8) (kernelRun0_A.sl.r_51 (F := Ideal) c arg1 harg1 arg2 harg2 arg3 harg3 arg4 harg4 arg5 harg5 arg6 harg6 arg7 harg7 arg8 harg8 arg9 harg9 arg20 arg21 arg22 x0 x1 x2 x3 x4 x5 x6 x7 x8) (Scalar.ofBits .f32 0x3F800000#32) := rfl
  have e' : k0_pay150 (F := Ideal) (kernelRun0_A.sl.r_50 (F := Ideal) c arg1 harg1 arg2 harg2 arg3 harg3 arg4 harg4 arg5 harg5 arg6 harg6 arg7 harg7 arg8 harg8 arg9 harg9 arg20 arg21 arg22 x0 x1 x2 x3 x4 x5 x6 x7 x8) (kernelRun0_A.sl.r_51 (F := Ideal) c arg1 harg1 arg2 harg2 arg3 harg3 arg4 harg4 arg5 harg5 arg6 harg6 arg7 harg7 arg8 harg8 arg9 harg9 arg20 arg21 arg22 x0 x1 x2 x3 x4 x5 x6 x7 x8) (Scalar.ofBits .f32 0x3F800000#32) = (kernelRun0_A.sl.v1300 (F := Ideal) c arg1 harg1 arg2 harg2 arg3 harg3 arg4 harg4 arg5 harg5 arg6 harg6 arg7 harg7 arg8 harg8 arg9 harg9 arg20 arg21 arg22 x0 x1 x2 x3 x4 x5 x6 x7 x8) := rfl
  idx_vars j
  rw [e, spread_at, e', hidden_scale]
  refine Eq.trans ?_ (congrArg (hscales2 x0 x1 x2 x3 x4 x5 x6 x7 x8) (emb2 (n0 := 160) (n1 := 128) 0 0 inb j0 j1 j0 j1 (Nat.zero_add _).symm (Nat.zero_add _).symm)).symm
  unfold hscales2
  simp only [ix2_0, row160]

theorem cover_hscale (y : S160x128.Idx) :
    ∃ p ∈ ([⟨Rect.unit (s := S160x128) ![0, 0] S160x128.size (by decide), (kernelRun0_A.sl.v1308 (F := Ideal) c arg1 harg1 arg2 harg2 arg3 harg3 arg4 harg4 arg5 harg5 arg6 harg6 arg7 harg7 arg8 harg8 arg9 harg9 arg20 arg21 arg22 x0 x1 x2 x3 x4 x5 x6 x7 x8)⟩] : List (View.Piece (Elt Ideal) S160x128 .f32)), y ∈ p.1.set :=
  View.cover_of_tiledL ([⟨Rect.unit (s := S160x128) ![0, 0] S160x128.size (by decide), (kernelRun0_A.sl.v1308 (F := Ideal) c arg1 harg1 arg2 harg2 arg3 harg3 arg4 harg4 arg5 harg5 arg6 harg6 arg7 harg7 arg8 harg8 arg9 harg9 arg20 arg21 arg22 x0 x1 x2 x3 x4 x5 x6 x7 x8)⟩] : List (View.Piece (Elt Ideal) S160x128 .f32)) S160x128.size (by sl_kernel_rfl) y

theorem load_hscales (q : Fin 160) (z : Fin 1) : (kernelRun0_A.sl.v1652 (F := Ideal) c arg1 harg1 arg2 harg2 arg3 harg3 arg4 harg4 arg5 harg5 arg6 harg6 arg7 harg7 arg8 harg8 arg9 harg9 arg20 arg21 arg22 x0 x1 x2 x3 x4 x5 x6 x7 x8) (ix2 q z) = hscales2 x0 x1 x2 x3 x4 x5 x6 x7 x8 (ix2 q 0) := by
  refine (congrFun (View.readCov_eq_canon' _ _ _) _).trans ?_
  refine (View.canon_append_of_piecesOf (Val := Elt Ideal) (e := .f32) (hscales2 x0 x1 x2 x3 x4 x5 x6 x7 x8) (kernelRun0_A.sl.HS2_10 (F := Ideal) c arg1 harg1 arg2 harg2 arg3 harg3 arg4 harg4 arg5 harg5 arg6 harg6 arg20 arg21 arg22 x0 x1 x2 x3 x4 x5)
    [⟨Rect.unit (s := S160x128) ![0, 0] S160x128.size (by decide), (kernelRun0_A.sl.v1308 (F := Ideal) c arg1 harg1 arg2 harg2 arg3 harg3 arg4 harg4 arg5 harg5 arg6 harg6 arg7 harg7 arg8 harg8 arg9 harg9 arg20 arg21 arg22 x0 x1 x2 x3 x4 x5 x6 x7 x8)⟩] ⟨hscale_piece (by decide), trivial⟩ _
    (cover_hscale _)).trans ?_
  exact congrArg (hscales2 x0 x1 x2 x3 x4 x5 x6 x7 x8) (emb2 (n0 := 160) (n1 := 128) 0 0 _ q z q 0 (Nat.zero_add _).symm (by omega))

/-- The stored result of the block. -/
theorem out_word (p : Fin 10) (r : Fin 16) (n : Fin 1920) :
    k0_pay1 (F := Ideal) (kernelRun0_A.sl.r_52 (F := Ideal) c arg1 harg1 arg2 harg2 arg3 harg3 arg4 harg4 arg5 harg5 arg6 harg6 arg7 harg7 arg8 harg8 arg9 harg9 arg10 harg10 arg11 harg11 arg12 harg12 arg20 arg21 arg22 arg23 arg24 x0 x1 x2 x3 x4 x5 x6 x7 x8 x9 x10 x11) (kernelRun0_A.sl.v1663 (F := Ideal) c arg1 harg1 arg2 harg2 arg3 harg3 arg4 harg4 arg5 harg5 arg6 harg6 arg20 arg21 arg22 x0 x1 x2 x3 x4 x5) (View.readAt (Elt Ideal) arg3.view (Rect.unit (s := S6x16x1920) ![1, 0, 0] S1x16x1920.size (by decide)).toLoadRect (harg3.unread x2)) (ix3 p r n) = outB x0 x1 x2 x3 x4 x5 x6 x7 x8 x9 x10 x11 (ix3 p r n) := by
  have e : (kernelRun0_A.sl.r_52 (F := Ideal) c arg1 harg1 arg2 harg2 arg3 harg3 arg4 harg4 arg5 harg5 arg6 harg6 arg7 harg7 arg8 harg8 arg9 harg9 arg10 harg10 arg11 harg11 arg12 harg12 arg20 arg21 arg22 arg23 arg24 x0 x1 x2 x3 x4 x5 x6 x7 x8 x9 x10 x11) = k0_pay201 (F := Ideal) (matmul dot_S160x7680_S7680x1920_S160x1920_1_0_0_1_n_n none (kernelRun0_A.sl.v1649 (F := Ideal) c arg1 harg1 arg2 harg2 arg3 harg3 arg4 harg4 arg5 harg5 arg6 harg6 arg7 harg7 arg8 harg8 arg9 harg9 arg20 arg21 arg22 arg23 arg24 x0 x1 x2 x3 x4 x5 x6 x7 x8) (View.readAt (Elt Ideal) arg10.view (Rect.unit (s := S7680x1920) ![0, 0] S7680x1920.size (by decide)).toLoadRect (harg10.unread x9)) (constant S160x1920 .f32 0x00000000#32)) (kernelRun0_A.sl.v1652 (F := Ideal) c arg1 harg1 arg2 harg2 arg3 harg3 arg4 harg4 arg5 harg5 arg6 harg6 arg7 harg7 arg8 harg8 arg9 harg9 arg20 arg21 arg22 x0 x1 x2 x3 x4 x5 x6 x7 x8) (View.readAt (Elt Ideal) arg11.view (Rect.unit (s := S1x1920) ![0, 0] S1x1920.size (by decide)).toLoadRect (harg11.unread x10)) (View.readAt (Elt Ideal) arg12.view (Rect.unit (s := S1x1920) ![0, 0] S1x1920.size (by decide)).toLoadRect (harg12.unread x11)) := rfl
  rw [e, out_at, load_row 1 (by decide), load_whole arg10 harg10 x9 _ (by decide), load_whole arg11 harg11 x10 _ (by decide),
    load_whole arg12 harg12 x11 _ (by decide)]
  simp only [load_hcodes, load_hscales, load_mid]
  rfl

end Cert.FfnIdeal.Value
-- ==== Proof.Windows.lean ====
module

public import proofs.«01_k».proof.Proof.Scales
public import proofs.«01_k».proof.Proof.Out
public import Idealize.ShloMosaic.Lib.Pipeline.ValueKit
public import Idealize.ShloMosaic.Lib.Pipeline.ReadBack
public import Idealize.ShloMosaic.Lib.Pointwise

/-!
# What one point of the grid leaves in each window
-/

set_option maxRecDepth 65536

@[expose] public section

noncomputable section

open Idealize.ShloMosaic Idealize.ShloMosaic.TcCoe Idealize.SL.Sem

namespace Cert.FfnIdeal.Value

open Cert.FfnIdeal Cert.FfnIdeal.Gen
variable {i : grid0.Coords}
variable {c : Dev nD} {arg1 : Memref sig .tc .vmem S10x16x1920 .f32} {harg1 : arg1.IsWhole} {arg2 : Memref sig .tc
  .vmem S10x16x1920 .bf16} {harg2 : arg2.IsWhole} {arg3 : Memref sig .tc .vmem S6x16x1920 .f32} {harg3 : arg3.IsWhole}
  {arg4 : Memref sig .tc .vmem S1920x1920 .fp8e4m3} {harg4 : arg4.IsWhole} {arg5 : Memref sig .tc .vmem S1x1920 .f32}
  {harg5 : arg5.IsWhole} {arg6 : Memref sig .tc .vmem S1x1920 .f32} {harg6 : arg6.IsWhole} {arg7 : Memref sig .tc
  .vmem S1920x7680 .fp8e4m3} {harg7 : arg7.IsWhole} {arg8 : Memref sig .tc .vmem S1x7680 .f32} {harg8 : arg8.IsWhole}
  {arg9 : Memref sig .tc .vmem S1x7680 .f32} {harg9 : arg9.IsWhole} {arg10 : Memref sig .tc .vmem S7680x1920 .fp8e4m3}
  {harg10 : arg10.IsWhole} {arg11 : Memref sig .tc .vmem S1x1920 .f32} {harg11 : arg11.IsWhole} {arg12 : Memref sig
  .tc .vmem S1x1920 .f32} {harg12 : arg12.IsWhole} {arg13 : Memref sig .tc .vmem S10x16x1920 .bf16} {harg13 :
  arg13.IsWhole} {arg14 : Memref sig .tc .vmem S10x16x1920 .fp8e4m3} {harg14 : arg14.IsWhole} {arg15 : Memref sig .tc
  .vmem S16x100 .f32} {harg15 : arg15.IsWhole} {arg16 : Memref sig .tc .vmem S10x16x1920 .fp8e4m3} {harg16 :
  arg16.IsWhole} {arg17 : Memref sig .tc .vmem S16x100 .f32} {harg17 : arg17.IsWhole} {arg18 : Memref sig .tc .vmem
  S10x16x7680 .fp8e4m3} {harg18 : arg18.IsWhole} {arg19 : Memref sig .tc .vmem S16x100 .f32} {harg19 : arg19.IsWhole}
  {arg20 : Memref sig .tc .vmem S160x1920 .fp8e4m3} {harg20 : arg20.IsWhole} {arg21 : Memref sig .tc .vmem S10x16x1920
  .f32} {harg21 : arg21.IsWhole} {arg22 : Memref sig .tc .vmem S160x128 .f32} {harg22 : arg22.IsWhole} {arg23 : Memref
  sig .tc .vmem S160x7680 .f32} {harg23 : arg23.IsWhole} {arg24 : Memref sig .tc .vmem S160x7680 .fp8e4m3} {harg24 :
  arg24.IsWhole} {x0 : FVec Ideal S10x16x1920 .f32} {x1 : FVec Ideal S10x16x1920 .bf16} {x2 : FVec Ideal S6x16x1920
  .f32} {x3 : FVec Ideal S1920x1920 .fp8e4m3} {x4 : FVec Ideal S1x1920 .f32} {x5 : FVec Ideal S1x1920 .f32} {x6 : FVec
  Ideal S1920x7680 .fp8e4m3} {x7 : FVec Ideal S1x7680 .f32} {x8 : FVec Ideal S1x7680 .f32} {x9 : FVec Ideal S7680x1920
  .fp8e4m3} {x10 : FVec Ideal S1x1920 .f32} {x11 : FVec Ideal S1x1920 .f32} {xo14 : FVec Ideal S16x100 .f32} {xo16 :
  FVec Ideal S16x100 .f32} {xo18 : FVec Ideal S16x100 .f32}

/-- The result (first point). -/
theorem out12_A (hc0 : cond0_0 i) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 = outB x0 x1 x2 x3 x4 x5 x6 x7 x8 x9 x10 x11 := by
  funext y
  idx_vars y
  refine Eq.trans ?_ (out_word (c := c) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg20 := arg20) (arg21 := arg21) (arg22 := arg22) (arg23 := arg23) (arg24 := arg24) (x0 := x0) (x1 := x1) (x2 := x2) (x3 := x3) (x4 := x4) (x5 := x5) (x6 := x6) (x7 := x7) (x8 := x8) (x9 := x9) (x10 := x10) (x11 := x11) y0 y1 y2)
  unfold out0_A_12
  rw [View.read_writes_junk_eq_canon]
  exact congrFun (View.canon_cons_unit_lit' (by decide) _ [] (by decide)) _

/-- The codes of the attention rows (first point). -/
theorem pieces13_A (hc0 : cond0_0 i) :
    View.PiecesOf (Val := Elt Ideal) (e := .fp8e4m3) (codes3 x0) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11).2.1 :=
  ⟨(chunk_load 8 (by decide)).code3 rfl (by decide) (by decide), (chunk_load 6 (by decide)).code3 rfl (by decide) (by decide), (chunk_load 4 (by decide)).code3 rfl (by decide) (by decide), (chunk_load 2 (by decide)).code3 rfl (by decide) (by decide), (chunk_load 0 (by decide)).code3 rfl (by decide) (by decide), trivial⟩

theorem out13_A (hc0 : cond0_0 i) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 = codes3 x0 := by
  funext y
  unfold out0_A_13
  rw [View.read_writes_junk_eq_canon]
  exact View.canon_apply_of_pieces (codes3 x0) _ (View.PiecesOf.mem (pieces13_A hc0)) y (cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 y)

/-- The codes of the norm (first point). -/
theorem pieces15_A (hc0 : cond0_0 i) :
    View.PiecesOf (Val := Elt Ideal) (e := .fp8e4m3) (codes3 (normB x0 x1 x2 x3 x4 x5)) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11).2.2.2.1 :=
  ⟨(chunk_norm (chunk_mid 8 (by decide)) (by decide)).code3 rfl (by decide) (by decide), (chunk_norm (chunk_mid 6 (by decide)) (by decide)).code3 rfl (by decide) (by decide), (chunk_norm (chunk_mid 4 (by decide)) (by decide)).code3 rfl (by decide) (by decide), (chunk_norm (chunk_mid 2 (by decide)) (by decide)).code3 rfl (by decide) (by decide), (chunk_norm (chunk_mid 0 (by decide)) (by decide)).code3 rfl (by decide) (by decide), trivial⟩

theorem out15_A (hc0 : cond0_0 i) : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 = codes3 (normB x0 x1 x2 x3 x4 x5) := by
  funext y
  unfold out0_A_15
  rw [View.read_writes_junk_eq_canon]
  exact View.canon_apply_of_pieces (codes3 (normB x0 x1 x2 x3 x4 x5)) _ (View.PiecesOf.mem (pieces15_A hc0)) y (cover0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 y)

/-- The hidden codes (first point). -/
theorem pieces17_A (hc0 : cond0_0 i) :
    View.PiecesOf (Val := Elt Ideal) (e := .fp8e4m3) (hcodes3 x0 x1 x2 x3 x4 x5 x6 x7 x8) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11).2.2.2.2.2.1 :=
  ⟨hcode3_piece (cols_load 7168 (by decide)) rfl (by decide) (by decide),
    hcode3_piece (cols_load 6656 (by decide)) rfl (by decide) (by decide),
    hcode3_piece (cols_load 6144 (by decide)) rfl (by decide) (by decide),
    hcode3_piece (cols_load 5632 (by decide)) rfl (by decide) (by decide),
    hcode3_piece (cols_load 5120 (by decide)) rfl (by decide) (by decide),
    hcode3_piece (cols_load 4608 (by decide)) rfl (by decide) (by decide),
    hcode3_piece (cols_load 4096 (by decide)) rfl (by decide) (by decide),
    hcode3_piece (cols_load 3584 (by decide)) rfl (by decide) (by decide),
    hcode3_piece (cols_load 3072 (by decide)) rfl (by decide) (by decide),
    hcode3_piece (cols_load 2560 (by decide)) rfl (by decide) (by decide),
    hcode3_piece (cols_load 2048 (by decide)) rfl (by decide) (by decide),
    hcode3_piece (cols_load 1536 (by decide)) rfl (by decide) (by decide),
    hcode3_piece (cols_load 1024 (by decide)) rfl (by decide) (by decide),
    hcode3_piece (cols_load 512 (by decide)) rfl (by decide) (by decide),
    hcode3_piece (cols_load 0 (by decide)) rfl (by decide) (by decide), trivial⟩

theorem out17_A (hc0 : cond0_0 i) : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 = hcodes3 x0 x1 x2 x3 x4 x5 x6 x7 x8 := by
  funext y
  unfold out0_A_17
  rw [View.read_writes_junk_eq_canon]
  exact View.canon_apply_of_pieces (hcodes3 x0 x1 x2 x3 x4 x5 x6 x7 x8) _ (View.PiecesOf.mem (pieces17_A hc0)) y (cover0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 y)

/-- The result (later points). -/
theorem out12_B (hc0 : ¬cond0_0 i) : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xo14 xo16 xo18 = outB x0 x1 x2 x3 x4 x5 x6 x7 x8 x9 x10 x11 := by
  funext y
  idx_vars y
  refine Eq.trans ?_ (out_word (c := c) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg20 := arg20) (arg21 := arg21) (arg22 := arg22) (arg23 := arg23) (arg24 := arg24) (x0 := x0) (x1 := x1) (x2 := x2) (x3 := x3) (x4 := x4) (x5 := x5) (x6 := x6) (x7 := x7) (x8 := x8) (x9 := x9) (x10 := x10) (x11 := x11) y0 y1 y2)
  unfold out0_B_12
  rw [View.read_writes_junk_eq_canon]
  exact congrFun (View.canon_cons_unit_lit' (by decide) _ [] (by decide)) _

/-- The codes of the attention rows (later points). -/
theorem pieces13_B (hc0 : ¬cond0_0 i) :
    View.PiecesOf (Val := Elt Ideal) (e := .fp8e4m3) (codes3 x0) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xo14 xo16 xo18).2.1 :=
  ⟨(chunk_load 8 (by decide)).code3 rfl (by decide) (by decide), (chunk_load 6 (by decide)).code3 rfl (by decide) (by decide), (chunk_load 4 (by decide)).code3 rfl (by decide) (by decide), (chunk_load 2 (by decide)).code3 rfl (by decide) (by decide), (chunk_load 0 (by decide)).code3 rfl (by decide) (by decide), trivial⟩

theorem out13_B (hc0 : ¬cond0_0 i) : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xo14 xo16 xo18 = codes3 x0 := by
  funext y
  unfold out0_B_13
  rw [View.read_writes_junk_eq_canon]
  exact View.canon_apply_of_pieces (codes3 x0) _ (View.PiecesOf.mem (pieces13_B hc0)) y (cover0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xo14 xo16 xo18 y)

/-- The codes of the norm (later points). -/
theorem pieces15_B (hc0 : ¬cond0_0 i) :
    View.PiecesOf (Val := Elt Ideal) (e := .fp8e4m3) (codes3 (normB x0 x1 x2 x3 x4 x5)) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xo14 xo16 xo18).2.2.2.1 :=
  ⟨(chunk_norm (chunk_mid 8 (by decide)) (by decide)).code3 rfl (by decide) (by decide), (chunk_norm (chunk_mid 6 (by decide)) (by decide)).code3 rfl (by decide) (by decide), (chunk_norm (chunk_mid 4 (by decide)) (by decide)).code3 rfl (by decide) (by decide), (chunk_norm (chunk_mid 2 (by decide)) (by decide)).code3 rfl (by decide) (by decide), (chunk_norm (chunk_mid 0 (by decide)) (by decide)).code3 rfl (by decide) (by decide), trivial⟩

theorem out15_B (hc0 : ¬cond0_0 i) : out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xo14 xo16 xo18 = codes3 (normB x0 x1 x2 x3 x4 x5) := by
  funext y
  unfold out0_B_15
  rw [View.read_writes_junk_eq_canon]
  exact View.canon_apply_of_pieces (codes3 (normB x0 x1 x2 x3 x4 x5)) _ (View.PiecesOf.mem (pieces15_B hc0)) y (cover0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xo14 xo16 xo18 y)

/-- The hidden codes (later points). -/
theorem pieces17_B (hc0 : ¬cond0_0 i) :
    View.PiecesOf (Val := Elt Ideal) (e := .fp8e4m3) (hcodes3 x0 x1 x2 x3 x4 x5 x6 x7 x8) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xo14 xo16 xo18).2.2.2.2.2.1 :=
  ⟨hcode3_piece (cols_load 7168 (by decide)) rfl (by decide) (by decide),
    hcode3_piece (cols_load 6656 (by decide)) rfl (by decide) (by decide),
    hcode3_piece (cols_load 6144 (by decide)) rfl (by decide) (by decide),
    hcode3_piece (cols_load 5632 (by decide)) rfl (by decide) (by decide),
    hcode3_piece (cols_load 5120 (by decide)) rfl (by decide) (by decide),
    hcode3_piece (cols_load 4608 (by decide)) rfl (by decide) (by decide),
    hcode3_piece (cols_load 4096 (by decide)) rfl (by decide) (by decide),
    hcode3_piece (cols_load 3584 (by decide)) rfl (by decide) (by decide),
    hcode3_piece (cols_load 3072 (by decide)) rfl (by decide) (by decide),
    hcode3_piece (cols_load 2560 (by decide)) rfl (by decide) (by decide),
    hcode3_piece (cols_load 2048 (by decide)) rfl (by decide) (by decide),
    hcode3_piece (cols_load 1536 (by decide)) rfl (by decide) (by decide),
    hcode3_piece (cols_load 1024 (by decide)) rfl (by decide) (by decide),
    hcode3_piece (cols_load 512 (by decide)) rfl (by decide) (by decide),
    hcode3_piece (cols_load 0 (by decide)) rfl (by decide) (by decide), trivial⟩

theorem out17_B (hc0 : ¬cond0_0 i) : out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xo14 xo16 xo18 = hcodes3 x0 x1 x2 x3 x4 x5 x6 x7 x8 := by
  funext y
  unfold out0_B_17
  rw [View.read_writes_junk_eq_canon]
  exact View.canon_apply_of_pieces (hcodes3 x0 x1 x2 x3 x4 x5 x6 x7 x8) _ (View.PiecesOf.mem (pieces17_B hc0)) y (cover0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xo14 xo16 xo18 y)

end Cert.FfnIdeal.Value
-- ==== Proof.Spec.lean ====
module

public import proofs.«01_k».proof.Proof.RowMath

/-!
# The block, token by token

The arguments of the block as functions of their indices, and what the block computes for the token at position `p` of
batch row `r`. Both programs are shown to leave these values.
-/

@[expose] public section

noncomputable section

open Idealize.ShloMosaic

namespace Cert.Row

/-- The arguments of the block, over the extended reals, read at (position, batch row, channel). -/
structure Args where
  /-- The attention output. -/
  o : Fin 100 → Fin 16 → Fin 1920 → EReal
  /-- The residual stream. -/
  x : Fin 100 → Fin 16 → Fin 1920 → EReal
  /-- The six modulation rows of each batch row. -/
  ada : Fin 6 → Fin 16 → Fin 1920 → EReal
  /-- The projection's weights, column scales and bias. -/
  wp : Fin 1920 → Fin 1920 → EReal
  sp : Fin 1920 → EReal
  bp : Fin 1920 → EReal
  /-- The first linear map of the feed-forward branch. -/
  w1 : Fin 1920 → Fin 7680 → EReal
  s1 : Fin 7680 → EReal
  b1 : Fin 7680 → EReal
  /-- The second linear map of the feed-forward branch. -/
  w2 : Fin 7680 → Fin 1920 → EReal
  s2 : Fin 1920 → EReal
  b2 : Fin 1920 → EReal

variable (A : Args) (p : Fin 100) (r : Fin 16)

/-- The residual stream after the attention branch. -/
def Args.mid : Fin 1920 → EReal := Row.mid (A.o p r) (A.x p r) (A.ada 0 r) A.wp A.sp A.bp

/-- Its modulated layer norm. -/
def Args.norm : Fin 1920 → EReal := Row.norm (A.mid p r) (A.ada 3 r) (A.ada 5 r)

/-- The hidden activations. -/
def Args.hidden : Fin 7680 → EReal := Row.hidden (A.norm p r) A.w1 A.s1 A.b1

/-- The result. -/
def Args.out : Fin 1920 → EReal := Row.out (A.mid p r) (A.hidden p r) (A.ada 1 r) A.w2 A.s2 A.b2

/-! ### The seven arrays -/

/-- The result array. -/
def Args.outA (A : Args) : Shape.Idx ⟨3, ![100, 16, 1920]⟩ → EReal := fun y => A.out (y 0) (y 1) (y 2)

/-- The stored codes of the attention output. -/
def Args.oCodes (A : Args) : Shape.Idx ⟨3, ![100, 16, 1920]⟩ → EReal := fun y => code (A.o (y 0) (y 1)) (y 2)

/-- The scales of the attention output, one row per batch row. -/
def Args.oScales (A : Args) : Shape.Idx ⟨2, ![16, 100]⟩ → EReal := fun y => scale (A.o (y 1) (y 0))

/-- The stored codes of the layer norm. -/
def Args.normCodes (A : Args) : Shape.Idx ⟨3, ![100, 16, 1920]⟩ → EReal := fun y => code (A.norm (y 0) (y 1)) (y 2)

/-- The scales of the layer norm. -/
def Args.normScales (A : Args) : Shape.Idx ⟨2, ![16, 100]⟩ → EReal := fun y => scale (A.norm (y 1) (y 0))

/-- The stored codes of the hidden activations. -/
def Args.hiddenCodes (A : Args) : Shape.Idx ⟨3, ![100, 16, 7680]⟩ → EReal := fun y => code (A.hidden (y 0) (y 1)) (y 2)

/-- The scales of the hidden activations. -/
def Args.hiddenScales (A : Args) : Shape.Idx ⟨2, ![16, 100]⟩ → EReal := fun y => scale (A.hidden (y 1) (y 0))

end Cert.Row
-- ==== Proof.Blocks.lean ====
module

public import proofs.«01_k».proof.Proof.Windows
public import proofs.«01_k».proof.Proof.Spec
public import Idealize.ShloMosaic.Lib.Pipeline.ValueKit
public import Idealize.ShloMosaic.Lib.Pipeline.ReadBack
public import Idealize.ShloMosaic.Lib.Pointwise

/-!
# The arguments a point of the grid reads

Each point of the grid reads ten positions of the arguments; what it leaves in its windows is what the block computes for
the tokens at these positions, and the windows written back make up the arrays.
-/

set_option maxRecDepth 65536

@[expose] public section

noncomputable section

open Idealize.ShloMosaic Idealize.ShloMosaic.TcCoe Idealize.SL.Sem

namespace Cert.FfnIdeal.Value

open Cert.FfnIdeal Cert.FfnIdeal.Gen

variable (m : (ℓ : Loc nD τ sig) → Buf (Elt Ideal) ℓ) (c : Dev nD)

/-- The arguments of the block, read from the kernel's arguments. -/
def argsOf : Row.Args where
  o p r k := m ((c : Thread nD τ).loc main_arg0) (ix3 p r k)
  x p r k := m ((c : Thread nD τ).loc main_arg1) (ix3 r p k)
  ada q r k := m ((c : Thread nD τ).loc main_arg2) (ix3 r q k)
  wp k n := m ((c : Thread nD τ).loc main_arg3) (ix2 k n)
  sp n := m ((c : Thread nD τ).loc main_arg4) (ix1 n)
  bp n := m ((c : Thread nD τ).loc main_arg5) (ix1 n)
  w1 k n := m ((c : Thread nD τ).loc main_arg6) (ix2 k n)
  s1 n := m ((c : Thread nD τ).loc main_arg7) (ix1 n)
  b1 n := m ((c : Thread nD τ).loc main_arg8) (ix1 n)
  w2 k n := m ((c : Thread nD τ).loc main_arg9) (ix2 k n)
  s2 n := m ((c : Thread nD τ).loc main_arg10) (ix1 n)
  b2 n := m ((c : Thread nD τ).loc main_arg11) (ix1 n)

theorem idx : ∀ t : Fin cfg0.N, win0_0.index t = ![t.val, 0, 0] ∧ win0_1.index t = ![t.val, 0, 0] ∧ win0_2.index t = ![0, 0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![t.val, 0, 0] ∧ win0_13.index t = ![t.val, 0, 0] ∧ win0_14.index t = ![0, 0] ∧ win0_15.index t = ![t.val, 0, 0]
    ∧ win0_16.index t = ![0, 0] ∧ win0_17.index t = ![t.val, 0, 0] ∧ win0_18.index t = ![0, 0] ∧ (grid0.coords t 0).val = t.val ∧ t.val < 10 :=
  (by decide +kernel : ∀ t : Fin grid0.N, _)

/-- The position of the `p`-th of the ten positions of point `t`. -/
def tok (t : Fin cfg0.N) (p : Fin 10) : Fin 100 := ⟨t.val * 10 + p.val, by have := t.isLt; change _ < 10 at this; omega⟩

theorem blk0 (t : Fin cfg0.N) (p : Fin 10) (r : Fin 16) (k : Fin 1920) : iblk m c 0 t (ix3 p r k) = (argsOf m c).o (tok t p) r k := by
  unfold argsOf tok; blk_ext [iblk, V, idx t]

theorem blk1 (t : Fin cfg0.N) (p : Fin 10) (r : Fin 16) (k : Fin 1920) : iblk m c 1 t (ix3 p r k) = (argsOf m c).x (tok t p) r k := by
  unfold argsOf tok
  blk_simp [iblk, idx t]
  entry_read
  pointwise
  blk_ext [idx t]

theorem blk2 (t : Fin cfg0.N) (p : Fin 6) (r : Fin 16) (k : Fin 1920) : iblk m c 2 t (ix3 p r k) = (argsOf m c).ada p r k := by
  unfold argsOf
  blk_simp [iblk, idx t]
  entry_read
  pointwise
  blk_ext [idx t]

theorem blk3 (t : Fin cfg0.N) (k : Fin 1920) (n : Fin 1920) : iblk m c 3 t (ix2 k n) = (argsOf m c).wp k n := by
  unfold argsOf; blk_ext [iblk, V, idx t]

theorem blk6 (t : Fin cfg0.N) (k : Fin 1920) (n : Fin 7680) : iblk m c 6 t (ix2 k n) = (argsOf m c).w1 k n := by
  unfold argsOf; blk_ext [iblk, V, idx t]

theorem blk9 (t : Fin cfg0.N) (k : Fin 7680) (n : Fin 1920) : iblk m c 9 t (ix2 k n) = (argsOf m c).w2 k n := by
  unfold argsOf; blk_ext [iblk, V, idx t]

theorem blk4 (t : Fin cfg0.N) (n : Fin 1920) : iblk m c 4 t (ix2 0 n) = (argsOf m c).sp n := by
  unfold argsOf
  blk_simp [iblk, idx t]
  entry_read
  pointwise
  blk_ext [idx t]

theorem blk5 (t : Fin cfg0.N) (n : Fin 1920) : iblk m c 5 t (ix2 0 n) = (argsOf m c).bp n := by
  unfold argsOf
  blk_simp [iblk, idx t]
  entry_read
  pointwise
  blk_ext [idx t]

theorem blk7 (t : Fin cfg0.N) (n : Fin 7680) : iblk m c 7 t (ix2 0 n) = (argsOf m c).s1 n := by
  unfold argsOf
  blk_simp [iblk, idx t]
  entry_read
  pointwise
  blk_ext [idx t]

theorem blk8 (t : Fin cfg0.N) (n : Fin 7680) : iblk m c 8 t (ix2 0 n) = (argsOf m c).b1 n := by
  unfold argsOf
  blk_simp [iblk, idx t]
  entry_read
  pointwise
  blk_ext [idx t]

theorem blk10 (t : Fin cfg0.N) (n : Fin 1920) : iblk m c 10 t (ix2 0 n) = (argsOf m c).s2 n := by
  unfold argsOf
  blk_simp [iblk, idx t]
  entry_read
  pointwise
  blk_ext [idx t]

theorem blk11 (t : Fin cfg0.N) (n : Fin 1920) : iblk m c 11 t (ix2 0 n) = (argsOf m c).b2 n := by
  unfold argsOf
  blk_simp [iblk, idx t]
  entry_read
  pointwise
  blk_ext [idx t]

theorem mid_blk (t : Fin cfg0.N) (p : Fin 10) (r : Fin 16) (n : Fin 1920) : midB (iblk m c 0 t) (iblk m c 1 t) (iblk m c 2 t) (iblk m c 3 t) (iblk m c 4 t) (iblk m c 5 t) (ix3 p r n) = (argsOf m c).mid (tok t p) r n := by
  unfold midB Row.Args.mid
  simp only [ix3_0, ix3_1, ix3_2, blk0, blk1, blk2, blk3, blk4, blk5]

theorem norm_blk (t : Fin cfg0.N) (p : Fin 10) (r : Fin 16) (n : Fin 1920) : normB (iblk m c 0 t) (iblk m c 1 t) (iblk m c 2 t) (iblk m c 3 t) (iblk m c 4 t) (iblk m c 5 t) (ix3 p r n) = (argsOf m c).norm (tok t p) r n := by
  unfold normB Row.Args.norm
  simp only [ix3_0, ix3_1, ix3_2, mid_blk, blk2]

theorem hidden_blk (t : Fin cfg0.N) (p : Fin 10) (r : Fin 16) (h) (n : Fin 7680) :
    hiddenB (iblk m c 0 t) (iblk m c 1 t) (iblk m c 2 t) (iblk m c 3 t) (iblk m c 4 t) (iblk m c 5 t) (iblk m c 6 t) (iblk m c 7 t) (iblk m c 8 t) (ix2 (⟨p * 16 + r, h⟩ : Fin 160) n) = (argsOf m c).hidden (tok t p) r n := by
  have e0 : ∀ h, (⟨(p.val * 16 + r.val) / 16, h⟩ : Fin 10) = p := fun _ => Fin.ext (show (p.val * 16 + r.val) / 16 = p.val by omega)
  have e1 : ∀ h, (⟨(p.val * 16 + r.val) % 16, h⟩ : Fin 16) = r := fun _ => Fin.ext (show (p.val * 16 + r.val) % 16 = r.val by omega)
  unfold hiddenB Row.Args.hidden
  simp only [ix2_0, ix2_1, e0, e1, norm_blk, blk6, blk7, blk8]

theorem out_blk (t : Fin cfg0.N) (p : Fin 10) (r : Fin 16) (n : Fin 1920) : outB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 p r n) = (argsOf m c).out (tok t p) r n := by
  unfold outB Row.Args.out
  simp only [ix3_0, ix3_1, ix3_2, mid_blk, hidden_blk, blk2, blk9, blk10, blk11]

end Cert.FfnIdeal.Value
-- ==== Proof.Arrays.lean ====
module

public import proofs.«01_k».proof.Proof.Blocks
public import Idealize.ShloMosaic.Lib.Pipeline.ValueKit
public import Idealize.ShloMosaic.Lib.Pipeline.ReadBack
public import Idealize.ShloMosaic.Lib.Pointwise

/-!
# The kernel's arrays after the run

What the points leave in the windows, written back, makes up the arrays.
-/

set_option maxRecDepth 65536

@[expose] public section

noncomputable section

open Idealize.ShloMosaic Idealize.ShloMosaic.TcCoe Idealize.SL.Sem

namespace Cert.FfnIdeal.Value

open Cert.FfnIdeal Cert.FfnIdeal.Gen

variable (m : (ℓ : Loc nD τ sig) → Buf (Elt Ideal) ℓ) (c : Dev nD)

/-! ### The windows written back at every point -/

theorem outs12 (t : Fin cfg0.N) : (outsAt0 m c t.val t.isLt).1 = outB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  by_cases h : t.val % 10 = 0
  · rw [outsAt0_A m c t h]; dsimp only; rw [out12_A]
  · rw [outsAt0_B m c t h]; dsimp only; rw [out12_B]

theorem outs13 (t : Fin cfg0.N) : (outsAt0 m c t.val t.isLt).2.1 = codes3 (iblk m c 0 t) := by
  by_cases h : t.val % 10 = 0
  · rw [outsAt0_A m c t h]; dsimp only; rw [out13_A]
  · rw [outsAt0_B m c t h]; dsimp only; rw [out13_B]

theorem outs15 (t : Fin cfg0.N) : (outsAt0 m c t.val t.isLt).2.2.2.1 = codes3 (normB (iblk m c 0 t) (iblk m c 1 t) (iblk m c 2 t) (iblk m c 3 t) (iblk m c 4 t) (iblk m c 5 t)) := by
  by_cases h : t.val % 10 = 0
  · rw [outsAt0_A m c t h]; dsimp only; rw [out15_A]
  · rw [outsAt0_B m c t h]; dsimp only; rw [out15_B]

theorem outs17 (t : Fin cfg0.N) : (outsAt0 m c t.val t.isLt).2.2.2.2.2.1 = hcodes3 (iblk m c 0 t) (iblk m c 1 t) (iblk m c 2 t) (iblk m c 3 t) (iblk m c 4 t) (iblk m c 5 t) (iblk m c 6 t) (iblk m c 7 t) (iblk m c 8 t) := by
  by_cases h : t.val % 10 = 0
  · rw [outsAt0_A m c t h]; dsimp only; rw [out17_A]
  · rw [outsAt0_B m c t h]; dsimp only; rw [out17_B]

theorem at12 (t : Fin cfg0.N) (p : Fin 10) (r : Fin 16) (n : Fin 1920) : outB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 p r n) = (argsOf m c).outA (ix3 (tok t p) r n) := by
  unfold Row.Args.outA
  exact out_blk m c t p r n

theorem emb12 (t : Fin cfg0.N) (p : Fin 10) (r : Fin 16) (n : Fin 1920) : ((cfg0.win 12).blk t).view.emb (ix3 p r n) = (ix3 (tok t p) r n : S100x16x1920.Idx) := by
  unfold tok
  blk_ext [idx t]

theorem arr12 : (dats m 0 c).arrAt 12 cfg0.N = (argsOf m c).outA := by
  refine (dats m 0 c).arrAt_eq_of_covers 12 _ (by decide +kernel) fun t hf y => ?_
  blk_simp
  rw [after0_12, outs12]
  idx_vars y
  rw [at12]
  exact congrArg (argsOf m c).outA (emb12 t y0 y1 y2).symm

theorem at13 (t : Fin cfg0.N) (p : Fin 10) (r : Fin 16) (n : Fin 1920) : codes3 (iblk m c 0 t) (ix3 p r n) = (argsOf m c).oCodes (ix3 (tok t p) r n) := by
  unfold codes3 Row.Args.oCodes
  simp only [ix3_0, ix3_1, ix3_2]
  exact congrArg (fun v => Row.code v n) (funext fun k => blk0 m c t p r k)

theorem emb13 (t : Fin cfg0.N) (p : Fin 10) (r : Fin 16) (n : Fin 1920) : ((cfg0.win 13).blk t).view.emb (ix3 p r n) = (ix3 (tok t p) r n : S100x16x1920.Idx) := by
  unfold tok
  blk_ext [idx t]

theorem arr13 : (dats m 0 c).arrAt 13 cfg0.N = (argsOf m c).oCodes := by
  refine (dats m 0 c).arrAt_eq_of_covers 13 _ (by decide +kernel) fun t hf y => ?_
  blk_simp
  rw [after0_13, outs13]
  idx_vars y
  rw [at13]
  exact congrArg (argsOf m c).oCodes (emb13 t y0 y1 y2).symm

theorem at15 (t : Fin cfg0.N) (p : Fin 10) (r : Fin 16) (n : Fin 1920) : codes3 (normB (iblk m c 0 t) (iblk m c 1 t) (iblk m c 2 t) (iblk m c 3 t) (iblk m c 4 t) (iblk m c 5 t)) (ix3 p r n) = (argsOf m c).normCodes (ix3 (tok t p) r n) := by
  unfold codes3 Row.Args.normCodes
  simp only [ix3_0, ix3_1, ix3_2]
  exact congrArg (fun v => Row.code v n) (funext fun k => norm_blk m c t p r k)

theorem emb15 (t : Fin cfg0.N) (p : Fin 10) (r : Fin 16) (n : Fin 1920) : ((cfg0.win 15).blk t).view.emb (ix3 p r n) = (ix3 (tok t p) r n : S100x16x1920.Idx) := by
  unfold tok
  blk_ext [idx t]

theorem arr15 : (dats m 0 c).arrAt 15 cfg0.N = (argsOf m c).normCodes := by
  refine (dats m 0 c).arrAt_eq_of_covers 15 _ (by decide +kernel) fun t hf y => ?_
  blk_simp
  rw [after0_15, outs15]
  idx_vars y
  rw [at15]
  exact congrArg (argsOf m c).normCodes (emb15 t y0 y1 y2).symm

theorem at17 (t : Fin cfg0.N) (p : Fin 10) (r : Fin 16) (n : Fin 7680) : hcodes3 (iblk m c 0 t) (iblk m c 1 t) (iblk m c 2 t) (iblk m c 3 t) (iblk m c 4 t) (iblk m c 5 t) (iblk m c 6 t) (iblk m c 7 t) (iblk m c 8 t) (ix3 p r n) = (argsOf m c).hiddenCodes (ix3 (tok t p) r n) := by
  unfold hcodes3 Row.Args.hiddenCodes
  simp only [ix3_0, ix3_1, ix3_2]
  exact congrArg (fun v => Row.code v n) (funext fun k => hidden_blk m c t p r _ k)

theorem emb17 (t : Fin cfg0.N) (p : Fin 10) (r : Fin 16) (n : Fin 7680) : ((cfg0.win 17).blk t).view.emb (ix3 p r n) = (ix3 (tok t p) r n : S100x16x7680.Idx) := by
  unfold tok
  blk_ext [idx t]

theorem arr17 : (dats m 0 c).arrAt 17 cfg0.N = (argsOf m c).hiddenCodes := by
  refine (dats m 0 c).arrAt_eq_of_covers 17 _ (by decide +kernel) fun t hf y => ?_
  blk_simp
  rw [after0_17, outs17]
  idx_vars y
  rw [at17]
  exact congrArg (argsOf m c).hiddenCodes (emb17 t y0 y1 y2).symm

end Cert.FfnIdeal.Value
-- ==== Proof.Tables.lean ====
module

public import proofs.«01_k».proof.Proof.Arrays
public import Idealize.ShloMosaic.Lib.Pipeline.ValueKit
public import Idealize.ShloMosaic.Lib.Pipeline.ReadBack
public import Idealize.ShloMosaic.Lib.Pointwise

/-!
# The kernel's tables of scales after the run

A table of scales is carried from point to point and written back at the last: after point `t` its first `10·(t + 1)`
columns hold the scales of the tokens at these positions.
-/

set_option maxRecDepth 65536

@[expose] public section

noncomputable section

open Idealize.ShloMosaic Idealize.ShloMosaic.TcCoe Idealize.SL.Sem

namespace Cert.FfnIdeal.Value

open Cert.FfnIdeal Cert.FfnIdeal.Gen

variable (m : (ℓ : Loc nD τ sig) → Buf (Elt Ideal) ℓ) (c : Dev nD)

/-- What each point adds to the table makes up the table. -/
theorem table_all (X : ∀ n, n < cfg0.N → FVec Ideal S16x100 .f32) (g : Fin 100 → Fin 16 → EReal) (f : Fin cfg0.N → Fin 10 → Fin 16 → EReal)
    (hf : ∀ t p r, f t p r = g (tok t p) r) (old : FVec Ideal S16x100 .f32)
    (hA : ∀ t : Fin cfg0.N, t.val % 10 = 0 → Upto 10 (grid0.coords t 0).val (f t) old (X t.val t.isLt))
    (hB : ∀ t : Fin cfg0.N, ¬t.val % 10 = 0 → Upto 10 (grid0.coords t 0).val (f t) (X (t.val - 1) (Nat.lt_of_le_of_lt (Nat.sub_le _ _) t.isLt)) (X t.val t.isLt)) :
    ∀ (n : ℕ) (h : n < cfg0.N) (r : Fin 16) (l : Fin 100), l.val < 10 * (n + 1) → X n h (ix2 r l) = g l r := by
  intro n
  induction n with
  | zero =>
    intro h r l hl
    have ht := (idx ⟨0, h⟩).2.2.2.2.2.2.2.2.2.2.2.2.2.2.2.2.2.2.2.1
    refine ((hA ⟨0, h⟩ rfl r l).1 ⟨l.val, by omega⟩ (by show l.val < 10; omega) (by rw [ht]; show l.val = 10 * 0 + l.val; omega)).trans ?_
    rw [hf]
    exact congrArg (fun l => g l r) (Fin.ext (show 0 * 10 + l.val = l.val by omega))
  | succ n ih =>
    intro h r l hl
    have hN : n + 1 < 10 := h
    have ht := (idx ⟨n + 1, h⟩).2.2.2.2.2.2.2.2.2.2.2.2.2.2.2.2.2.2.2.1
    have hb := hB ⟨n + 1, h⟩ (show ¬(n + 1) % 10 = 0 by omega) r l
    rw [ht] at hb
    by_cases hc : l.val < 10 * (n + 1)
    · exact (hb.2 (Or.inl hc)).trans (ih _ r l hc)
    · refine (hb.1 ⟨l.val - 10 * (n + 1), by omega⟩ (by show l.val - 10 * (n + 1) < 10; omega) (by show l.val = 10 * (n + 1) + (l.val - 10 * (n + 1)); omega)).trans ?_
      rw [hf]
      exact congrArg (fun l => g l r) (Fin.ext (show (n + 1) * 10 + (l.val - 10 * (n + 1)) = l.val by omega))

theorem all14 : ∀ (n : ℕ) (h : n < cfg0.N) (r : Fin 16) (l : Fin 100), l.val < 10 * (n + 1) → (outsAt0 m c n h).2.2.1 (ix2 r l) = Row.scale ((argsOf m c).o l r) := by
  refine table_all (fun n h => (outsAt0 m c n h).2.2.1) (fun l r => Row.scale ((argsOf m c).o l r)) (fun t => rowScales (iblk m c 0 t)) (fun t p r => ?_) (k0_pay2 (F := Ideal)) (fun t h => ?_) (fun t h => ?_)
  · exact congrArg Row.scale (funext fun k => blk0 m c t p r k)
  · have hi := (idx t).2.2.2.2.2.2.2.2.2.2.2.2.2.2.2.2.2.2.2
    rw [outsAt0_A m c t h]
    dsimp only
    exact table14_A _ (by rw [hi.1]; exact hi.2)
  · have hi := (idx t).2.2.2.2.2.2.2.2.2.2.2.2.2.2.2.2.2.2.2
    rw [outsAt0_B m c t h]
    dsimp only
    exact table14_B _ (by rw [hi.1]; exact hi.2)

theorem arr14 : (dats m 0 c).arrAt 14 cfg0.N = (argsOf m c).oScales := by
  refine (dats m 0 c).arrAt_eq_of_after_last 14 t0_9 (by decide +kernel) _ fun j => ?_
  blk_simp
  rw [after0_14]
  idx_vars j
  exact (all14 m c 9 _ j0 j1 (by omega)).trans rfl

theorem all16 : ∀ (n : ℕ) (h : n < cfg0.N) (r : Fin 16) (l : Fin 100), l.val < 10 * (n + 1) → (outsAt0 m c n h).2.2.2.2.1 (ix2 r l) = Row.scale ((argsOf m c).norm l r) := by
  refine table_all (fun n h => (outsAt0 m c n h).2.2.2.2.1) (fun l r => Row.scale ((argsOf m c).norm l r)) (fun t => rowScales (normB (iblk m c 0 t) (iblk m c 1 t) (iblk m c 2 t) (iblk m c 3 t) (iblk m c 4 t) (iblk m c 5 t))) (fun t p r => ?_) (k0_pay3 (F := Ideal)) (fun t h => ?_) (fun t h => ?_)
  · exact congrArg Row.scale (funext fun k => norm_blk m c t p r k)
  · have hi := (idx t).2.2.2.2.2.2.2.2.2.2.2.2.2.2.2.2.2.2.2
    rw [outsAt0_A m c t h]
    dsimp only
    exact table16_A _ (by rw [hi.1]; exact hi.2)
  · have hi := (idx t).2.2.2.2.2.2.2.2.2.2.2.2.2.2.2.2.2.2.2
    rw [outsAt0_B m c t h]
    dsimp only
    exact table16_B _ (by rw [hi.1]; exact hi.2)

theorem arr16 : (dats m 0 c).arrAt 16 cfg0.N = (argsOf m c).normScales := by
  refine (dats m 0 c).arrAt_eq_of_after_last 16 t0_9 (by decide +kernel) _ fun j => ?_
  blk_simp
  rw [after0_16]
  idx_vars j
  exact (all16 m c 9 _ j0 j1 (by omega)).trans rfl

theorem all18 : ∀ (n : ℕ) (h : n < cfg0.N) (r : Fin 16) (l : Fin 100), l.val < 10 * (n + 1) → (outsAt0 m c n h).2.2.2.2.2.2 (ix2 r l) = Row.scale ((argsOf m c).hidden l r) := by
  refine table_all (fun n h => (outsAt0 m c n h).2.2.2.2.2.2) (fun l r => Row.scale ((argsOf m c).hidden l r)) (fun t => hiddenScales (hiddenB (iblk m c 0 t) (iblk m c 1 t) (iblk m c 2 t) (iblk m c 3 t) (iblk m c 4 t) (iblk m c 5 t) (iblk m c 6 t) (iblk m c 7 t) (iblk m c 8 t))) (fun t p r => ?_) (k0_pay4 (F := Ideal)) (fun t h => ?_) (fun t h => ?_)
  · exact congrArg Row.scale (funext fun k => hidden_blk m c t p r _ k)
  · have hi := (idx t).2.2.2.2.2.2.2.2.2.2.2.2.2.2.2.2.2.2.2
    rw [outsAt0_A m c t h]
    dsimp only
    exact table18_A _ (by rw [hi.1]; exact hi.2)
  · have hi := (idx t).2.2.2.2.2.2.2.2.2.2.2.2.2.2.2.2.2.2.2
    rw [outsAt0_B m c t h]
    dsimp only
    exact table18_B _ (by rw [hi.1]; exact hi.2)

theorem arr18 : (dats m 0 c).arrAt 18 cfg0.N = (argsOf m c).hiddenScales := by
  refine (dats m 0 c).arrAt_eq_of_after_last 18 t0_9 (by decide +kernel) _ fun j => ?_
  blk_simp
  rw [after0_18]
  idx_vars j
  exact (all18 m c 9 _ j0 j1 (by omega)).trans rfl

end Cert.FfnIdeal.Value
-- ==== Proof.RefMath.lean ====
module

public import proofs.«01_k».proof.Proof.Gen.FfnRefIdeal.Value
public import proofs.«01_k».proof.Proof.Spec
public import Idealize.ShloMosaic.Lib.Pipeline.ValueKit
public import Idealize.ShloMosaic.Lib.Pipeline.ReadBack
public import Idealize.ShloMosaic.Lib.Pointwise

/-!
# The reference's operations, element by element

The reference computes the block in one piece; here each of its stages is read at an index, from the values it takes.
-/

set_option maxRecDepth 65536

@[expose] public section

noncomputable section

open Idealize.ShloMosaic Idealize.ShloMosaic.TcCoe Idealize.SL.Sem

namespace Cert.FfnRefIdeal.Value

open Cert.FfnRefIdeal Cert.FfnRefIdeal.Gen

/-- The maximum along the last axis of a rank-three array. -/
theorem lastMax {n0 n1 n2 : ℕ} (v : FVec Ideal ⟨3, ![n0, n1, n2]⟩ .f32) (h : Shape.Reduces ⟨3, ![n0, n1, n2]⟩ [2] ⟨2, ![n0, n1]⟩)
    (hφ : FKind.Formats .f32) (hacc : 0xFF800000#32 = FKind.maximumf.neutral .f32 hφ) (p : Fin n0) (r : Fin n1) :
    multiReduction (F := Ideal) (φ := .f32) .maximumf [2] ⟨2, ![n0, n1]⟩ v 0xFF800000#32 h hφ hacc (ix2 p r)
      = Finset.univ.fold max (Ideal.ofBits .f32 0xFF800000#32) fun k : Fin n2 => v (ix3 p r k) := by
  simp only [pointwise]

theorem named_root : Named.named (F := Ideal) (φ := .f32) κ "root" 0x3F4C422A#32 = Row.root := by
  simp [Named.named, κ, Row.root]

theorem named_cube : Named.named (F := Ideal) (φ := .f32) κ "cube" 0x3D372713#32 = Row.cube := by
  simp [Named.named, κ, Row.cube]

/-- A row's scale from its largest absolute value. -/
theorem scaleOf_at (A : FVec Ideal S100x16x1 .f32) (p : Fin 100) (r : Fin 16) (z : Fin 1) :
    select (cmpf (F := Ideal) .oeq A (broadcast S100x16x1 (Scalar.ofBits .f32 0x00000000#32))) (broadcast S100x16x1 (Scalar.ofBits (F := Ideal) .f32 0x3F800000#32))
      (divf (F := Ideal) A (broadcast S100x16x1 (Scalar.ofBits .f32 0x43E00000#32))) (ix3 p r z) = Row.scaleOf (A (ix3 p r z)) := by
  pointwise
  rfl

/-- A code from its scale. -/
theorem clip_at (X : FVec Ideal S100x16x1920 .f32) (S : FVec Ideal S100x16x1 .f32) (p : Fin 100) (r : Fin 16) (k : Fin 1920) :
    (truncf .fp8e4m3 (minimumf (F := Ideal) (broadcast S100x16x1920 (Scalar.ofBits .f32 0x43E00000#32)) (maximumf (F := Ideal) (broadcast S100x16x1920 (Scalar.ofBits .f32 0xC3E00000#32))
      (divf (F := Ideal) X (broadcastTo S100x16x1920 S broadcasts_S100x16x1_S100x16x1920)))) bitsLt_fp8e4m3_f32 : FVec Ideal S100x16x1920 .fp8e4m3) (ix3 p r k)
      = Row.clip (Ideal.div (X (ix3 p r k)) (S (ix3 p r 0))) := by
  pointwise
  rfl

/-- A column of row values. -/
theorem column_at (M : FVec Ideal S100x16 .f32) (p : Fin 100) (r : Fin 16) (z : Fin 1) :
    shapeCast S100x16x1 M shapeCasts_S100x16_S100x16x1 (ix3 p r z) = M (ix2 p r) := by
  pointwise

/-- The quantiser's scales. -/
theorem scale_at (X : FVec Ideal S100x16x1920 .f32) (p : Fin 100) (r : Fin 16) (z : Fin 1) :
    k0_pay6 (F := Ideal) X (ix3 p r z) = Row.scale fun k => X (ix3 p r k) := by
  have h := lastMax (absf X) reduces_S100x16x1920_S100x16 (.inl rfl) rfl p r
  have h' := column_at (multiReduction (F := Ideal) .maximumf [2] S100x16 (absf X) 0xFF800000#32 reduces_S100x16x1920_S100x16 (.inl rfl) rfl) p r z
  have h'' := scaleOf_at (shapeCast S100x16x1 (multiReduction (F := Ideal) .maximumf [2] S100x16 (absf X) 0xFF800000#32
      reduces_S100x16x1920_S100x16 (.inl rfl) rfl) shapeCasts_S100x16_S100x16x1) p r z
  exact h''.trans (congrArg Row.scaleOf (h'.trans h))

/-- The quantiser's codes. -/
theorem code_at (X : FVec Ideal S100x16x1920 .f32) (p : Fin 100) (r : Fin 16) (k : Fin 1920) :
    k0_pay7 (F := Ideal) X (ix3 p r k) = Row.code (fun k => X (ix3 p r k)) k := by
  have h := clip_at X (k0_pay6 (F := Ideal) X) p r k
  exact h.trans (congrArg (fun s => Row.clip (Ideal.div (X (ix3 p r k)) s)) (scale_at X p r 0))

/-- The residual after the projection. -/
theorem mid_at (v1 : FVec Ideal S16x1920 .f32) (v17 : FVec Ideal S100x16x1 .f32) (v24 : FVec Ideal S100x16x1920 .fp8e4m3)
    (v27 : FVec Ideal S100x16x1920 .f32) (v28 : Vec Ideal S1920x1920 .fp8e4m3) (v30 : FVec Ideal S1x1920 .f32) (v31 : Vec Ideal S1x1920 .f32)
    (p : Fin 100) (r : Fin 16) (n : Fin 1920) :
    k0_pay10 (F := Ideal) v1 v17 v24 v27 v28 v30 v31 (ix3 p r n)
      = v27 (ix3 p r n) + v1 (ix2 r n) * ((∑ k : Fin 1920, v24 (ix3 p r k) * v28 (ix2 k n)) * v17 (ix3 p r 0) * v30 (ix2 0 n) + v31 (ix2 0 n)) := by
  pointwise [k0_pay10]

/-- The modulated layer norm of the residual. -/
theorem norm_at (v1 v5 v7 : FVec Ideal S16x1920 .f32) (v17 : FVec Ideal S100x16x1 .f32) (v24 : FVec Ideal S100x16x1920 .fp8e4m3)
    (v27 : FVec Ideal S100x16x1920 .f32) (v28 : Vec Ideal S1920x1920 .fp8e4m3) (v30 : FVec Ideal S1x1920 .f32) (v31 : Vec Ideal S1x1920 .f32)
    (p : Fin 100) (r : Fin 16) (k : Fin 1920) :
    k0_pay11 (F := Ideal) v1 v5 v7 v17 v24 v27 v28 v30 v31 (ix3 p r k)
      = Row.norm (fun k => k0_pay10 (F := Ideal) v1 v17 v24 v27 v28 v30 v31 (ix3 p r k)) (fun k => v5 (ix2 r k)) (fun k => v7 (ix2 r k)) k := by
  unfold k0_pay11
  generalize k0_pay10 (F := Ideal) v1 v17 v24 v27 v28 v30 v31 = X
  pointwise
  simp only [Row.norm, Row.mean]

/-- The linear map before the activation. -/
def lin1 (S : FVec Ideal S100x16x1 .f32) (C : FVec Ideal S100x16x1920 .fp8e4m3) (w : Vec Ideal S1920x7680 .fp8e4m3)
    (s b : Vec Ideal S1x7680 .f32) : FVec Ideal S100x16x7680 .f32 :=
  addf (F := Ideal) (mulf (F := Ideal) (mulf (F := Ideal) (shapeCast S100x16x7680 (matmul (F := Ideal) (φ₁ := .fp8e4m3) (φ₂ := .fp8e4m3) dot_S1600x1920_S1920x7680_S1600x7680_1_0_0_1_n_n none
      (shapeCast S1600x1920 C shapeCasts_S100x16x1920_S1600x1920) w (constant S1600x7680 .f32 0x00000000#32)) shapeCasts_S1600x7680_S100x16x7680)
      (broadcastTo S100x16x7680 S broadcasts_S100x16x1_S100x16x7680))
      (broadcastTo S100x16x7680 (shapeCast S1x1x7680 (shapeCast S1x7680 s shapeCasts_S1x7680_S1x7680) shapeCasts_S1x7680_S1x1x7680) broadcasts_S1x1x7680_S100x16x7680))
    (broadcastTo S100x16x7680 (shapeCast S1x1x7680 (shapeCast S1x7680 b shapeCasts_S1x7680_S1x7680) shapeCasts_S1x7680_S1x1x7680) broadcasts_S1x1x7680_S100x16x7680)

/-- The activation. -/
def act (L : FVec Ideal S100x16x7680 .f32) : FVec Ideal S100x16x7680 .f32 :=
  addf (F := Ideal) (mulf (F := Ideal) (broadcast S100x16x7680 (Scalar.ofBits .f32 0x3F000000#32)) L) (mulf (F := Ideal) (mulf (F := Ideal) (broadcast S100x16x7680 (Scalar.ofBits .f32 0x3F000000#32)) L)
    (tanh (F := Ideal) (mulf (F := Ideal) (broadcast S100x16x7680 (Named.named κ "root" 0x3F4C422A#32)) (addf (F := Ideal) L
      (mulf (F := Ideal) (broadcast S100x16x7680 (Named.named κ "cube" 0x3D372713#32)) (mulf (F := Ideal) (mulf (F := Ideal) L L) L))))))

theorem lin1_at (S : FVec Ideal S100x16x1 .f32) (C : FVec Ideal S100x16x1920 .fp8e4m3) (w : Vec Ideal S1920x7680 .fp8e4m3)
    (s b : Vec Ideal S1x7680 .f32) (p : Fin 100) (r : Fin 16) (n : Fin 7680) :
    lin1 S C w s b (ix3 p r n) = (∑ k : Fin 1920, C (ix3 p r k) * w (ix2 k n)) * S (ix3 p r 0) * s (ix2 0 n) + b (ix2 0 n) := by
  pointwise [lin1]

theorem act_at (L : FVec Ideal S100x16x7680 .f32) (p : Fin 100) (r : Fin 16) (n : Fin 7680) : act L (ix3 p r n) = Row.gelu (L (ix3 p r n)) := by
  pointwise [act]
  rw [named_root, named_cube]
  rfl

/-- The hidden activations from the scales and codes they are computed from. -/
theorem hidden_at (v71 : FVec Ideal S100x16x1920 .f32) (v76 : IVec S100x16x1 1) (v78 : FVec Ideal S100x16x1 .f32)
    (v88 : Vec Ideal S1920x7680 .fp8e4m3) (v89 v91 : Vec Ideal S1x7680 .f32)
    (hs : k0_pay15 (F := Ideal) v76 v78 (Scalar.ofBits .f32 0x3F800000#32) = k0_pay6 (F := Ideal) v71)
    (hc : k0_pay16 (F := Ideal) v71 v76 v78 (Scalar.ofBits .f32 0x3F800000#32) = k0_pay7 (F := Ideal) v71)
    (p : Fin 100) (r : Fin 16) (n : Fin 7680) :
    k0_pay17 (F := Ideal) v71 v76 v78 (Scalar.ofBits .f32 0x3F800000#32) v88 v89 v91 (ix3 p r n)
      = Row.hidden (fun k => v71 (ix3 p r k)) (fun k n => v88 (ix2 k n)) (fun n => v89 (ix2 0 n)) (fun n => v91 (ix2 0 n)) n := by
  have e : k0_pay17 (F := Ideal) v71 v76 v78 (Scalar.ofBits .f32 0x3F800000#32) v88 v89 v91
      = act (lin1 (k0_pay15 (F := Ideal) v76 v78 (Scalar.ofBits .f32 0x3F800000#32)) (k0_pay16 (F := Ideal) v71 v76 v78 (Scalar.ofBits .f32 0x3F800000#32)) v88 v89 v91) := rfl
  rw [e, hs, hc, act_at, lin1_at]
  simp only [code_at, scale_at]
  rfl

/-- The hidden scales. -/
theorem hscale_at (X : FVec Ideal S100x16x7680 .f32) (A : FVec Ideal S100x16x1 .f32) (Z : IVec S100x16x1 1)
    (hA : ∀ (p : Fin 100) (r : Fin 16) (z : Fin 1), A (ix3 p r z) = Row.amax fun k => X (ix3 p r k))
    (hZ : Z = cmpf (F := Ideal) .oeq A (broadcast S100x16x1 (Scalar.ofBits .f32 0x00000000#32)))
    (p : Fin 100) (r : Fin 16) (z : Fin 1) :
    k0_pay20 (F := Ideal) A Z (Scalar.ofBits .f32 0x43E00000#32) (ix3 p r z) = Row.scale fun k => X (ix3 p r k) := by
  subst hZ
  pointwise [k0_pay20, hA]
  rfl

/-- The hidden codes. -/
theorem hcode_at (X : FVec Ideal S100x16x7680 .f32) (A : FVec Ideal S100x16x1 .f32) (Z : IVec S100x16x1 1)
    (hA : ∀ (p : Fin 100) (r : Fin 16) (z : Fin 1), A (ix3 p r z) = Row.amax fun k => X (ix3 p r k))
    (hZ : Z = cmpf (F := Ideal) .oeq A (broadcast S100x16x1 (Scalar.ofBits .f32 0x00000000#32)))
    (p : Fin 100) (r : Fin 16) (k : Fin 7680) :
    k0_pay21 (F := Ideal) X A Z (Scalar.ofBits .f32 0x43E00000#32) (ix3 p r k) = Row.code (fun k => X (ix3 p r k)) k := by
  have hs := hscale_at X A Z hA hZ
  unfold k0_pay21
  generalize k0_pay20 (F := Ideal) A Z (Scalar.ofBits .f32 0x43E00000#32) = S at hs ⊢
  pointwise [hs]
  rfl

/-- The result. -/
theorem out_at (v3 : FVec Ideal S16x1920 .f32) (v47 : FVec Ideal S100x16x1920 .f32) (X : FVec Ideal S100x16x7680 .f32)
    (A : FVec Ideal S100x16x1 .f32) (Z : IVec S100x16x1 1)
    (hA : ∀ (p : Fin 100) (r : Fin 16) (z : Fin 1), A (ix3 p r z) = Row.amax fun k => X (ix3 p r k))
    (hZ : Z = cmpf (F := Ideal) .oeq A (broadcast S100x16x1 (Scalar.ofBits .f32 0x00000000#32)))
    (v134 : Vec Ideal S7680x1920 .fp8e4m3) (v135 v137 : Vec Ideal S1x1920 .f32) (p : Fin 100) (r : Fin 16) (n : Fin 1920) :
    k0_pay22 (F := Ideal) v3 v47 X A Z (Scalar.ofBits .f32 0x43E00000#32) v134 v135 v137 (ix3 p r n)
      = Row.out (fun k => v47 (ix3 p r k)) (fun k => X (ix3 p r k)) (fun k => v3 (ix2 r k)) (fun k n => v134 (ix2 k n))
          (fun n => v135 (ix2 0 n)) (fun n => v137 (ix2 0 n)) n := by
  have hs := hscale_at X A Z hA hZ
  have hc := hcode_at X A Z hA hZ
  unfold k0_pay22
  generalize k0_pay20 (F := Ideal) A Z (Scalar.ofBits .f32 0x43E00000#32) = S at hs ⊢
  generalize k0_pay21 (F := Ideal) X A Z (Scalar.ofBits .f32 0x43E00000#32) = C at hc ⊢
  pointwise [hs, hc]
  rfl

/-- The layer norm is quantised as the attention output is. -/
theorem norm_scale_eq (v1 v5 v7 : FVec Ideal S16x1920 .f32) (v17 : FVec Ideal S100x16x1 .f32) (v24 : FVec Ideal S100x16x1920 .fp8e4m3) (v27 : FVec Ideal S100x16x1920 .f32)
    (v28 : Vec Ideal S1920x1920 .fp8e4m3) (v30 : FVec Ideal S1x1920 .f32) (v31 : Vec Ideal S1x1920 .f32) :
    k0_pay15 (F := Ideal) (k0_pay13 v1 v5 v7 v17 v24 v27 v28 v30 v31) (k0_pay14 v1 v5 v7 v17 v24 v27 v28 v30 v31) (Scalar.ofBits .f32 0x3F800000#32) = k0_pay6 (F := Ideal) (k0_pay11 (F := Ideal) v1 v5 v7 v17 v24 v27 v28 v30 v31) := rfl

theorem norm_code_eq (v1 v5 v7 : FVec Ideal S16x1920 .f32) (v17 : FVec Ideal S100x16x1 .f32) (v24 : FVec Ideal S100x16x1920 .fp8e4m3) (v27 : FVec Ideal S100x16x1920 .f32)
    (v28 : Vec Ideal S1920x1920 .fp8e4m3) (v30 : FVec Ideal S1x1920 .f32) (v31 : Vec Ideal S1x1920 .f32) :
    k0_pay16 (F := Ideal) (k0_pay11 v1 v5 v7 v17 v24 v27 v28 v30 v31) (k0_pay13 v1 v5 v7 v17 v24 v27 v28 v30 v31) (k0_pay14 v1 v5 v7 v17 v24 v27 v28 v30 v31) (Scalar.ofBits .f32 0x3F800000#32) = k0_pay7 (F := Ideal) (k0_pay11 (F := Ideal) v1 v5 v7 v17 v24 v27 v28 v30 v31) := rfl

/-- The largest hidden activation of a row. -/
theorem amax_at (X : FVec Ideal S100x16x7680 .f32) (p : Fin 100) (r : Fin 16) (z : Fin 1) :
    shapeCast S100x16x1 (multiReduction (F := Ideal) .maximumf [2] S100x16 (absf X) 0xFF800000#32 reduces_S100x16x7680_S100x16 (.inl rfl) rfl)
      shapeCasts_S100x16_S100x16x1 (ix3 p r z) = Row.amax fun k => X (ix3 p r k) :=
  (column_at (multiReduction (F := Ideal) .maximumf [2] S100x16 (absf X) 0xFF800000#32 reduces_S100x16x7680_S100x16 (.inl rfl) rfl) p r z).trans
    (lastMax (absf X) reduces_S100x16x7680_S100x16 (.inl rfl) rfl p r)

theorem hidden_amax_eq (v71 : FVec Ideal S100x16x1920 .f32) (v76 : IVec S100x16x1 1) (v78 : FVec Ideal S100x16x1 .f32) (v88 : Vec Ideal S1920x7680 .fp8e4m3)
    (v89 v91 : Vec Ideal S1x7680 .f32) (p : Fin 100) (r : Fin 16) (z : Fin 1) :
    k0_pay18 (F := Ideal) v71 v76 v78 (Scalar.ofBits .f32 0x3F800000#32) v88 v89 v91 (ix3 p r z) = Row.amax fun k => k0_pay17 (F := Ideal) v71 v76 v78 (Scalar.ofBits .f32 0x3F800000#32) v88 v89 v91 (ix3 p r k) := by
  have h := amax_at (k0_pay17 (F := Ideal) v71 v76 v78 (Scalar.ofBits .f32 0x3F800000#32) v88 v89 v91) p r z
  unfold k0_pay18
  exact h

theorem hidden_zero_eq (v71 : FVec Ideal S100x16x1920 .f32) (v76 : IVec S100x16x1 1) (v78 : FVec Ideal S100x16x1 .f32) (v88 : Vec Ideal S1920x7680 .fp8e4m3)
    (v89 v91 : Vec Ideal S1x7680 .f32) :
    k0_pay19 (F := Ideal) v71 v76 v78 (Scalar.ofBits .f32 0x3F800000#32) v88 v89 v91 = cmpf (F := Ideal) .oeq (k0_pay18 (F := Ideal) v71 v76 v78 (Scalar.ofBits .f32 0x3F800000#32) v88 v89 v91) (broadcast S100x16x1 (Scalar.ofBits .f32 0x00000000#32)) := rfl

/-- The scales by row. -/
theorem byrow1 (S : FVec Ideal S100x16x1 .f32) (r : Fin 16) (p : Fin 100) : k0_pay1 (F := Ideal) S (ix2 r p) = S (ix3 p r 0) := by
  pointwise [k0_pay1]

theorem byrow23 (S : FVec Ideal S100x16x1 .f32) (r : Fin 16) (p : Fin 100) : k0_pay23 (F := Ideal) S (ix2 r p) = S (ix3 p r 0) := by
  pointwise [k0_pay23]

theorem byrow24 (S : FVec Ideal S100x16x1 .f32) (r : Fin 16) (p : Fin 100) : k0_pay24 (F := Ideal) S (ix2 r p) = S (ix3 p r 0) := by
  pointwise [k0_pay24]

/-- The rows of the modulation. -/
theorem row2 (X : Vec Ideal S1x16x1920 .f32) (r : Fin 16) (k : Fin 1920) : k0_pay2 (F := Ideal) X (ix2 r k) = X (ix3 0 r k) := by
  pointwise [k0_pay2]

theorem row3 (X : Vec Ideal S1x16x1920 .f32) (r : Fin 16) (k : Fin 1920) : k0_pay3 (F := Ideal) X (ix2 r k) = X (ix3 0 r k) := by
  pointwise [k0_pay3]

theorem row4 (X : Vec Ideal S1x16x1920 .f32) (r : Fin 16) (k : Fin 1920) : k0_pay4 (F := Ideal) X (ix2 r k) = X (ix3 0 r k) := by
  pointwise [k0_pay4]

theorem row5 (X : Vec Ideal S1x16x1920 .f32) (r : Fin 16) (k : Fin 1920) : k0_pay5 (F := Ideal) X (ix2 r k) = X (ix3 0 r k) := by
  pointwise [k0_pay5]

theorem ext8 (X : Vec Ideal S100x16x1920 .bf16) (p : Fin 100) (r : Fin 16) (k : Fin 1920) : k0_pay8 (F := Ideal) X (ix3 p r k) = X (ix3 p r k) := by
  pointwise [k0_pay8]

theorem row9 (X : Vec Ideal S1x1920 .f32) (k : Fin 1920) : k0_pay9 (F := Ideal) X (ix2 0 k) = X (ix2 0 k) := by
  pointwise [k0_pay9]

end Cert.FfnRefIdeal.Value
-- ==== Proof.RefArrays.lean ====
module

public import proofs.«01_k».proof.Proof.RefMath
public import Idealize.ShloMosaic.Lib.Pipeline.ValueKit
public import Idealize.ShloMosaic.Lib.Pipeline.ReadBack
public import Idealize.ShloMosaic.Lib.Pointwise

/-!
# The reference's arrays

The reference runs at one point, whose windows are whole arrays; the seven arrays it writes are those of the block's
mathematics at its arguments.
-/

set_option maxRecDepth 65536

@[expose] public section

noncomputable section

open Idealize.ShloMosaic Idealize.ShloMosaic.TcCoe Idealize.SL.Sem

namespace Cert.FfnRefIdeal.Value

open Cert.FfnRefIdeal Cert.FfnRefIdeal.Gen

/-- The blocks `x0 …` hold the arguments `A` of the block. -/
structure Reads (A : Row.Args) (x0 : Vec Ideal S100x16x1920 .f32) (x1 : Vec Ideal S100x16x1920 .bf16) (x2 : Vec Ideal S6x16x1920 .f32)
  (x3 : Vec Ideal S1920x1920 .fp8e4m3) (x4 : Vec Ideal S1x1920 .f32) (x5 : Vec Ideal S1x1920 .f32) (x6 : Vec Ideal S1920x7680 .fp8e4m3)
  (x7 : Vec Ideal S1x7680 .f32) (x8 : Vec Ideal S1x7680 .f32) (x9 : Vec Ideal S7680x1920 .fp8e4m3) (x10 : Vec Ideal S1x1920 .f32)
  (x11 : Vec Ideal S1x1920 .f32) : Prop where
  o : ∀ p r k, x0 (ix3 p r k) = A.o p r k
  x : ∀ p r k, x1 (ix3 p r k) = A.x p r k
  ada : ∀ q r k, x2 (ix3 q r k) = A.ada q r k
  wp : ∀ k n, x3 (ix2 k n) = A.wp k n
  sp : ∀ n, x4 (ix2 0 n) = A.sp n
  bp : ∀ n, x5 (ix2 0 n) = A.bp n
  w1 : ∀ k n, x6 (ix2 k n) = A.w1 k n
  s1 : ∀ n, x7 (ix2 0 n) = A.s1 n
  b1 : ∀ n, x8 (ix2 0 n) = A.b1 n
  w2 : ∀ k n, x9 (ix2 k n) = A.w2 k n
  s2 : ∀ n, x10 (ix2 0 n) = A.s2 n
  b2 : ∀ n, x11 (ix2 0 n) = A.b2 n

/-- Where an index of a box of three-dimensional shape lies in the whole. -/
theorem emb3 {n0 n1 n2 m0 m1 m2 : ℕ} (o0 o1 o2 : ℕ) (inb) (a : Fin m0) (b : Fin m1) (c : Fin m2) (i : Fin n0) (j : Fin n1) (k : Fin n2)
    (hi : i.val = o0 + a) (hj : j.val = o1 + b) (hk : k.val = o2 + c) :
    (Rect.unit (s := (⟨3, ![n0, n1, n2]⟩ : Shape)) ![o0, o1, o2] ![m0, m1, m2] inb).idx (ix3 a b c) = ix3 i j k :=
  funext fun d => Fin.ext <| (Rect.idx_unit_val _ _ inb _ d).trans <| by
    fin_cases d
    · exact hi.symm
    · exact hj.symm
    · exact hk.symm

/-- One of the six rows of modulation, loaded. -/
theorem ld_row (x2 : Vec Ideal S6x16x1920 .f32) (o : ℕ) (ho : o < 6) (inb : ∀ a, ![o, 0, 0] a + S1x16x1920.size a ≤ S6x16x1920.size a) (r : Fin 16) (k : Fin 1920) :
    View.ld (Val := Elt Ideal) (e' := .f32) x2 (Rect.unit (s := S6x16x1920) ![o, 0, 0] S1x16x1920.size inb) (ix3 0 r k) = x2 (ix3 ⟨o, ho⟩ r k) :=
  congrArg x2 (emb3 (n0 := 6) (n1 := 16) (n2 := 1920) o 0 0 inb 0 r k ⟨o, ho⟩ r k rfl (Nat.zero_add _).symm (Nat.zero_add _).symm)

/-- A whole block, loaded. -/
theorem ld_whole3 {n0 n1 n2 : ℕ} {e : EltTy} (x : (⟨3, ![n0, n1, n2]⟩ : Shape).Idx → Elt Ideal e) (inb) (a : Fin n0) (b : Fin n1) (c : Fin n2) :
    View.ld (Val := Elt Ideal) x (Rect.unit (s := ⟨3, ![n0, n1, n2]⟩) ![0, 0, 0] ![n0, n1, n2] inb) (ix3 a b c) = x (ix3 a b c) :=
  congrArg x (emb3 0 0 0 inb a b c a b c (Nat.zero_add _).symm (Nat.zero_add _).symm (Nat.zero_add _).symm)

theorem ld_whole2 {n0 n1 : ℕ} {e : EltTy} (x : (⟨2, ![n0, n1]⟩ : Shape).Idx → Elt Ideal e) (inb) (a : Fin n0) (b : Fin n1) :
    View.ld (Val := Elt Ideal) x (Rect.unit (s := ⟨2, ![n0, n1]⟩) ![0, 0] ![n0, n1] inb) (ix2 a b) = x (ix2 a b) :=
  congrArg x <| funext fun d => Fin.ext <| (Rect.idx_unit_val _ _ inb _ d).trans <| by
    fin_cases d
    · exact Nat.zero_add _
    · exact Nat.zero_add _

/-! ### The stages at the arguments -/

section Stages
variable {A : Row.Args} {x0 : Vec Ideal S100x16x1920 .f32} {x1 : Vec Ideal S100x16x1920 .bf16} {x2 : Vec Ideal S6x16x1920 .f32}
  {x3 : Vec Ideal S1920x1920 .fp8e4m3} {x4 : Vec Ideal S1x1920 .f32} {x5 : Vec Ideal S1x1920 .f32} {x6 : Vec Ideal S1920x7680 .fp8e4m3}
  {x7 : Vec Ideal S1x7680 .f32} {x8 : Vec Ideal S1x7680 .f32} {x9 : Vec Ideal S7680x1920 .fp8e4m3} {x10 : Vec Ideal S1x1920 .f32}
  {x11 : Vec Ideal S1x1920 .f32}

variable (h : Reads A x0 x1 x2 x3 x4 x5 x6 x7 x8 x9 x10 x11)
include h

theorem mid_of (p : Fin 100) (r : Fin 16) (n : Fin 1920) :
    k0_pay10 (F := Ideal) (k0_pay25 x0 x1 x2 x3 x4 x5 x6 x7 x8 x9 x10 x11) (k0_pay28 x0 x1 x2 x3 x4 x5 x6 x7 x8 x9 x10 x11) (k0_pay29 x0 x1 x2 x3 x4 x5 x6 x7 x8 x9 x10 x11) (k0_pay30 x0 x1 x2 x3 x4 x5 x6 x7 x8 x9 x10 x11) (View.ld (Val := Elt Ideal) (e' := .fp8e4m3) x3 r0_5) (k0_pay31 x0 x1 x2 x3 x4 x5 x6 x7 x8 x9 x10 x11) (View.ld (Val := Elt Ideal) (e' := .f32) x5 r0_6) (ix3 p r n) = A.mid p r n := by
  rw [mid_at]
  unfold k0_pay25 k0_pay28 k0_pay29 k0_pay30 k0_pay31
  have e0 : View.ld (Val := Elt Ideal) (e' := .f32) x0 r0_4 = x0 := by
    funext y; idx_vars y; exact ld_whole3 (n0 := 100) (n1 := 16) (n2 := 1920) (e := .f32) x0 inb_S100x16x1920_S100x16x1920_0_0_0 y0 y1 y2
  rw [e0, scale_at, ext8, row2, row9]
  simp only [code_at]
  have a1 := (ld_whole3 (n0 := 100) (n1 := 16) (n2 := 1920) (e := .bf16) x1 inb_S100x16x1920_S100x16x1920_0_0_0 p r n).trans (h.x p r n)
  have a2 := (ld_row x2 0 (by decide) inb_S6x16x1920_S1x16x1920_0_0_0 r n).trans (h.ada _ r n)
  have a3 : ∀ k, View.ld (Val := Elt Ideal) (e' := .fp8e4m3) x3 r0_5 (ix2 k n) = A.wp k n := fun k => (ld_whole2 (n0 := 1920) (n1 := 1920) (e := .fp8e4m3) x3 inb_S1920x1920_S1920x1920_0_0 k n).trans (h.wp k n)
  have a4 := (ld_whole2 (n0 := 1) (n1 := 1920) (e := .f32) x4 inb_S1x1920_S1x1920_0_0 0 n).trans (h.sp n)
  have a5 := (ld_whole2 (n0 := 1) (n1 := 1920) (e := .f32) x5 inb_S1x1920_S1x1920_0_0 0 n).trans (h.bp n)
  have a0 : (fun k => x0 (ix3 p r k)) = A.o p r := funext fun k => h.o p r k
  simp only [a3, a0]
  unfold Row.Args.mid Row.mid Row.linear
  refine congrArg₂ (· + ·) a1 (congrArg₂ (· * ·) a2 (congrArg₂ (· + ·) (congrArg₂ (· * ·) rfl a4) a5))

theorem norm_of (p : Fin 100) (r : Fin 16) (n : Fin 1920) : k0_pay32 (F := Ideal) x0 x1 x2 x3 x4 x5 x6 x7 x8 x9 x10 x11 (ix3 p r n) = A.norm p r n := by
  unfold k0_pay32
  rw [norm_at]
  have a0 : (fun k => k0_pay10 (F := Ideal) (k0_pay25 x0 x1 x2 x3 x4 x5 x6 x7 x8 x9 x10 x11) (k0_pay28 x0 x1 x2 x3 x4 x5 x6 x7 x8 x9 x10 x11) (k0_pay29 x0 x1 x2 x3 x4 x5 x6 x7 x8 x9 x10 x11) (k0_pay30 x0 x1 x2 x3 x4 x5 x6 x7 x8 x9 x10 x11) (View.ld (Val := Elt Ideal) (e' := .fp8e4m3) x3 r0_5) (k0_pay31 x0 x1 x2 x3 x4 x5 x6 x7 x8 x9 x10 x11) (View.ld (Val := Elt Ideal) (e' := .f32) x5 r0_6) (ix3 p r k)) = A.mid p r :=
    funext fun k => mid_of h p r k
  have a1 : (fun k => k0_pay26 (F := Ideal) x0 x1 x2 x3 x4 x5 x6 x7 x8 x9 x10 x11 (ix2 r k)) = A.ada 3 r := funext fun k =>
    (row4 _ r k).trans ((ld_row x2 3 (by decide) inb_S6x16x1920_S1x16x1920_3_0_0 r k).trans (h.ada _ r k))
  have a2 : (fun k => k0_pay27 (F := Ideal) x0 x1 x2 x3 x4 x5 x6 x7 x8 x9 x10 x11 (ix2 r k)) = A.ada 5 r := funext fun k =>
    (row5 _ r k).trans ((ld_row x2 5 (by decide) inb_S6x16x1920_S1x16x1920_5_0_0 r k).trans (h.ada _ r k))
  rw [a0, a1, a2]
  rfl

omit h in
/-- The layer norm is quantised as the attention output is. -/
theorem norm_scales : k0_pay15 (F := Ideal) (k0_pay33 (F := Ideal) x0 x1 x2 x3 x4 x5 x6 x7 x8 x9 x10 x11) (k0_pay34 (F := Ideal) x0 x1 x2 x3 x4 x5 x6 x7 x8 x9 x10 x11) (Scalar.ofBits .f32 0x3F800000#32) = k0_pay6 (F := Ideal) (k0_pay32 (F := Ideal) x0 x1 x2 x3 x4 x5 x6 x7 x8 x9 x10 x11) := norm_scale_eq _ _ _ _ _ _ _ _ _

omit h in
theorem norm_codes : k0_pay16 (F := Ideal) (k0_pay32 (F := Ideal) x0 x1 x2 x3 x4 x5 x6 x7 x8 x9 x10 x11) (k0_pay33 (F := Ideal) x0 x1 x2 x3 x4 x5 x6 x7 x8 x9 x10 x11) (k0_pay34 (F := Ideal) x0 x1 x2 x3 x4 x5 x6 x7 x8 x9 x10 x11) (Scalar.ofBits .f32 0x3F800000#32) = k0_pay7 (F := Ideal) (k0_pay32 (F := Ideal) x0 x1 x2 x3 x4 x5 x6 x7 x8 x9 x10 x11) := norm_code_eq _ _ _ _ _ _ _ _ _

theorem hidden_of (p : Fin 100) (r : Fin 16) (n : Fin 7680) : k0_pay35 (F := Ideal) x0 x1 x2 x3 x4 x5 x6 x7 x8 x9 x10 x11 (ix3 p r n) = A.hidden p r n := by
  unfold k0_pay35
  rw [hidden_at _ _ _ _ _ _ norm_scales norm_codes]
  have a0 : (fun k => k0_pay32 (F := Ideal) x0 x1 x2 x3 x4 x5 x6 x7 x8 x9 x10 x11 (ix3 p r k)) = A.norm p r := funext fun k => norm_of h p r k
  have a1 : (fun k n => View.ld (Val := Elt Ideal) (e' := .fp8e4m3) x6 r0_7 (ix2 k n)) = A.w1 := funext fun k => funext fun n =>
    (ld_whole2 (n0 := 1920) (n1 := 7680) (e := .fp8e4m3) x6 inb_S1920x7680_S1920x7680_0_0 k n).trans (h.w1 k n)
  have a2 : (fun n => View.ld (Val := Elt Ideal) (e' := .f32) x7 r0_8 (ix2 0 n)) = A.s1 := funext fun n =>
    (ld_whole2 (n0 := 1) (n1 := 7680) (e := .f32) x7 inb_S1x7680_S1x7680_0_0 0 n).trans (h.s1 n)
  have a3 : (fun n => View.ld (Val := Elt Ideal) (e' := .f32) x8 r0_8 (ix2 0 n)) = A.b1 := funext fun n =>
    (ld_whole2 (n0 := 1) (n1 := 7680) (e := .f32) x8 inb_S1x7680_S1x7680_0_0 0 n).trans (h.b1 n)
  rw [a0, a1, a2, a3]
  rfl

omit h in
theorem hidden_amax (p : Fin 100) (r : Fin 16) (z : Fin 1) :
    k0_pay36 (F := Ideal) x0 x1 x2 x3 x4 x5 x6 x7 x8 x9 x10 x11 (ix3 p r z) = Row.amax fun k => k0_pay35 (F := Ideal) x0 x1 x2 x3 x4 x5 x6 x7 x8 x9 x10 x11 (ix3 p r k) :=
  hidden_amax_eq _ _ _ _ _ _ p r z

omit h in
theorem hidden_zero : k0_pay37 (F := Ideal) x0 x1 x2 x3 x4 x5 x6 x7 x8 x9 x10 x11 = cmpf (F := Ideal) .oeq (k0_pay36 (F := Ideal) x0 x1 x2 x3 x4 x5 x6 x7 x8 x9 x10 x11) (broadcast S100x16x1 (Scalar.ofBits .f32 0x00000000#32)) := hidden_zero_eq _ _ _ _ _ _

/-! ### The windows -/

theorem w12 (p : Fin 100) (r : Fin 16) (n : Fin 1920) : out0_12 (F := Ideal) x0 x1 x2 x3 x4 x5 x6 x7 x8 x9 x10 x11 (ix3 p r n) = A.out p r n := by
  unfold out0_12
  refine (congrFun (View.canon_cons_unit_lit' (by decide) _ [] (by decide)) _).trans ?_
  rw [out_at _ _ _ _ _ hidden_amax hidden_zero]
  have a0 : (fun k => k0_pay10 (F := Ideal) (k0_pay25 x0 x1 x2 x3 x4 x5 x6 x7 x8 x9 x10 x11) (k0_pay28 x0 x1 x2 x3 x4 x5 x6 x7 x8 x9 x10 x11) (k0_pay29 x0 x1 x2 x3 x4 x5 x6 x7 x8 x9 x10 x11) (k0_pay30 x0 x1 x2 x3 x4 x5 x6 x7 x8 x9 x10 x11) (View.ld (Val := Elt Ideal) (e' := .fp8e4m3) x3 r0_5) (k0_pay31 x0 x1 x2 x3 x4 x5 x6 x7 x8 x9 x10 x11) (View.ld (Val := Elt Ideal) (e' := .f32) x5 r0_6) (ix3 p r k)) = A.mid p r :=
    funext fun k => mid_of h p r k
  have a1 : (fun k => k0_pay35 (F := Ideal) x0 x1 x2 x3 x4 x5 x6 x7 x8 x9 x10 x11 (ix3 p r k)) = A.hidden p r := funext fun k => hidden_of h p r k
  have a2 : (fun k => k0_pay3 (F := Ideal) (View.ld (Val := Elt Ideal) (e' := .f32) x2 r0_1) (ix2 r k)) = A.ada 1 r := funext fun k =>
    (row3 _ r k).trans ((ld_row x2 1 (by decide) inb_S6x16x1920_S1x16x1920_1_0_0 r k).trans (h.ada _ r k))
  have a3 : (fun k n => View.ld (Val := Elt Ideal) (e' := .fp8e4m3) x9 r0_9 (ix2 k n)) = A.w2 := funext fun k => funext fun n =>
    (ld_whole2 (n0 := 7680) (n1 := 1920) (e := .fp8e4m3) x9 inb_S7680x1920_S7680x1920_0_0 k n).trans (h.w2 k n)
  have a4 : (fun n => View.ld (Val := Elt Ideal) (e' := .f32) x10 r0_6 (ix2 0 n)) = A.s2 := funext fun n =>
    (ld_whole2 (n0 := 1) (n1 := 1920) (e := .f32) x10 inb_S1x1920_S1x1920_0_0 0 n).trans (h.s2 n)
  have a5 : (fun n => View.ld (Val := Elt Ideal) (e' := .f32) x11 r0_6 (ix2 0 n)) = A.b2 := funext fun n =>
    (ld_whole2 (n0 := 1) (n1 := 1920) (e := .f32) x11 inb_S1x1920_S1x1920_0_0 0 n).trans (h.b2 n)
  rw [a0, a1, a2, a3, a4, a5]
  rfl

theorem w13 (p : Fin 100) (r : Fin 16) (n : Fin 1920) : out0_13 (F := Ideal) x0 x1 x2 x3 x4 x5 x6 x7 x8 x9 x10 x11 (ix3 p r n) = Row.code (A.o p r) n := by
  unfold out0_13 k0_pay29
  refine (congrFun (View.canon_cons_unit_lit' (by decide) _ [] (by decide)) _).trans ?_
  rw [code_at]
  exact congrArg (fun v => Row.code v n) (funext fun k => (ld_whole3 (n0 := 100) (n1 := 16) (n2 := 1920) (e := .f32) x0 inb_S100x16x1920_S100x16x1920_0_0_0 p r k).trans (h.o p r k))

theorem w14 (r : Fin 16) (p : Fin 100) : out0_14 (F := Ideal) x0 x1 x2 x3 x4 x5 x6 x7 x8 x9 x10 x11 (ix2 r p) = Row.scale (A.o p r) := by
  unfold out0_14 k0_pay28
  refine (congrFun (View.canon_cons_unit_lit' (by decide) _ [] (by decide)) _).trans ?_
  rw [byrow23, scale_at]
  exact congrArg (fun v => Row.scale v) (funext fun k => (ld_whole3 (n0 := 100) (n1 := 16) (n2 := 1920) (e := .f32) x0 inb_S100x16x1920_S100x16x1920_0_0_0 p r k).trans (h.o p r k))

theorem w15 (p : Fin 100) (r : Fin 16) (n : Fin 1920) : out0_15 (F := Ideal) x0 x1 x2 x3 x4 x5 x6 x7 x8 x9 x10 x11 (ix3 p r n) = Row.code (A.norm p r) n := by
  unfold out0_15
  refine (congrFun (View.canon_cons_unit_lit' (by decide) _ [] (by decide)) _).trans ?_
  rw [norm_codes, code_at]
  exact congrArg (fun v => Row.code v n) (funext fun k => norm_of h p r k)

theorem w16 (r : Fin 16) (p : Fin 100) : out0_16 (F := Ideal) x0 x1 x2 x3 x4 x5 x6 x7 x8 x9 x10 x11 (ix2 r p) = Row.scale (A.norm p r) := by
  unfold out0_16
  refine (congrFun (View.canon_cons_unit_lit' (by decide) _ [] (by decide)) _).trans ?_
  rw [byrow24, norm_scales, scale_at]
  exact congrArg (fun v => Row.scale v) (funext fun k => norm_of h p r k)

theorem w17 (p : Fin 100) (r : Fin 16) (n : Fin 7680) : out0_17 (F := Ideal) x0 x1 x2 x3 x4 x5 x6 x7 x8 x9 x10 x11 (ix3 p r n) = Row.code (A.hidden p r) n := by
  unfold out0_17
  refine (congrFun (View.canon_cons_unit_lit' (by decide) _ [] (by decide)) _).trans ?_
  rw [hcode_at _ _ _ hidden_amax hidden_zero]
  exact congrArg (fun v => Row.code v n) (funext fun k => hidden_of h p r k)

theorem w18 (r : Fin 16) (p : Fin 100) : out0_18 (F := Ideal) x0 x1 x2 x3 x4 x5 x6 x7 x8 x9 x10 x11 (ix2 r p) = Row.scale (A.hidden p r) := by
  unfold out0_18
  refine (congrFun (View.canon_cons_unit_lit' (by decide) _ [] (by decide)) _).trans ?_
  rw [byrow1, hscale_at _ _ _ hidden_amax hidden_zero]
  exact congrArg (fun v => Row.scale v) (funext fun k => hidden_of h p r k)

end Stages

/-! ### The arguments -/

variable (m : (ℓ : Loc nD τ sig) → Buf (Elt Ideal) ℓ) (c : Dev nD)

/-- The arguments of the block, read from the kernel's arguments. -/
def argsOf : Row.Args where
  o p r k := m ((c : Thread nD τ).loc main_arg0) (ix3 p r k)
  x p r k := m ((c : Thread nD τ).loc main_arg1) (ix3 r p k)
  ada q r k := m ((c : Thread nD τ).loc main_arg2) (ix3 r q k)
  wp k n := m ((c : Thread nD τ).loc main_arg3) (ix2 k n)
  sp n := m ((c : Thread nD τ).loc main_arg4) (ix1 n)
  bp n := m ((c : Thread nD τ).loc main_arg5) (ix1 n)
  w1 k n := m ((c : Thread nD τ).loc main_arg6) (ix2 k n)
  s1 n := m ((c : Thread nD τ).loc main_arg7) (ix1 n)
  b1 n := m ((c : Thread nD τ).loc main_arg8) (ix1 n)
  w2 k n := m ((c : Thread nD τ).loc main_arg9) (ix2 k n)
  s2 n := m ((c : Thread nD τ).loc main_arg10) (ix1 n)
  b2 n := m ((c : Thread nD τ).loc main_arg11) (ix1 n)

theorem idx : ∀ t : Fin cfg0.N, win0_0.index t = ![0, 0, 0] ∧ win0_1.index t = ![0, 0, 0] ∧ win0_2.index t = ![0, 0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0, 0] ∧ win0_13.index t = ![0, 0, 0] ∧ win0_14.index t = ![0, 0] ∧ win0_15.index t = ![0, 0, 0]
    ∧ win0_16.index t = ![0, 0] ∧ win0_17.index t = ![0, 0, 0] ∧ win0_18.index t = ![0, 0] ∧ t.val = 0 :=
  (by decide +kernel : ∀ t : Fin grid0.N, _)

theorem blk0 (t : Fin cfg0.N) (p : Fin 100) (r : Fin 16) (k : Fin 1920) : iblk m c 0 t (ix3 p r k) = (argsOf m c).o p r k := by
  unfold argsOf; blk_ext [iblk, V, idx t]

theorem blk1 (t : Fin cfg0.N) (p : Fin 100) (r : Fin 16) (k : Fin 1920) : iblk m c 1 t (ix3 p r k) = (argsOf m c).x p r k := by
  unfold argsOf
  blk_simp [iblk, idx t]
  entry_read
  pointwise
  blk_ext [idx t]

theorem blk2 (t : Fin cfg0.N) (p : Fin 6) (r : Fin 16) (k : Fin 1920) : iblk m c 2 t (ix3 p r k) = (argsOf m c).ada p r k := by
  unfold argsOf
  blk_simp [iblk, idx t]
  entry_read
  pointwise
  blk_ext [idx t]

theorem blk3 (t : Fin cfg0.N) (k : Fin 1920) (n : Fin 1920) : iblk m c 3 t (ix2 k n) = (argsOf m c).wp k n := by
  unfold argsOf; blk_ext [iblk, V, idx t]

theorem blk6 (t : Fin cfg0.N) (k : Fin 1920) (n : Fin 7680) : iblk m c 6 t (ix2 k n) = (argsOf m c).w1 k n := by
  unfold argsOf; blk_ext [iblk, V, idx t]

theorem blk9 (t : Fin cfg0.N) (k : Fin 7680) (n : Fin 1920) : iblk m c 9 t (ix2 k n) = (argsOf m c).w2 k n := by
  unfold argsOf; blk_ext [iblk, V, idx t]

theorem blk4 (t : Fin cfg0.N) (n : Fin 1920) : iblk m c 4 t (ix2 0 n) = (argsOf m c).sp n := by
  unfold argsOf
  blk_simp [iblk, idx t]
  entry_read
  pointwise
  blk_ext [idx t]

theorem blk5 (t : Fin cfg0.N) (n : Fin 1920) : iblk m c 5 t (ix2 0 n) = (argsOf m c).bp n := by
  unfold argsOf
  blk_simp [iblk, idx t]
  entry_read
  pointwise
  blk_ext [idx t]

theorem blk7 (t : Fin cfg0.N) (n : Fin 7680) : iblk m c 7 t (ix2 0 n) = (argsOf m c).s1 n := by
  unfold argsOf
  blk_simp [iblk, idx t]
  entry_read
  pointwise
  blk_ext [idx t]

theorem blk8 (t : Fin cfg0.N) (n : Fin 7680) : iblk m c 8 t (ix2 0 n) = (argsOf m c).b1 n := by
  unfold argsOf
  blk_simp [iblk, idx t]
  entry_read
  pointwise
  blk_ext [idx t]

theorem blk10 (t : Fin cfg0.N) (n : Fin 1920) : iblk m c 10 t (ix2 0 n) = (argsOf m c).s2 n := by
  unfold argsOf
  blk_simp [iblk, idx t]
  entry_read
  pointwise
  blk_ext [idx t]

theorem blk11 (t : Fin cfg0.N) (n : Fin 1920) : iblk m c 11 t (ix2 0 n) = (argsOf m c).b2 n := by
  unfold argsOf
  blk_simp [iblk, idx t]
  entry_read
  pointwise
  blk_ext [idx t]

theorem reads (t : Fin cfg0.N) : Reads (argsOf m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) :=
  ⟨blk0 m c t, blk1 m c t, blk2 m c t, blk3 m c t, blk4 m c t, blk5 m c t, blk6 m c t, blk7 m c t, blk8 m c t, blk9 m c t, blk10 m c t, blk11 m c t⟩

theorem arr12 : (dats m 0 c).arrAt 12 cfg0.N = (argsOf m c).outA := by
  refine (dats m 0 c).arrAt_eq_of_after_last 12 t0_0 (by decide +kernel) _ fun j => ?_
  blk_simp
  rw [after0_12]
  idx_vars j
  exact (w12 (reads m c t0_0) j0 j1 j2).trans rfl

theorem arr13 : (dats m 0 c).arrAt 13 cfg0.N = (argsOf m c).oCodes := by
  refine (dats m 0 c).arrAt_eq_of_after_last 13 t0_0 (by decide +kernel) _ fun j => ?_
  blk_simp
  rw [after0_13]
  idx_vars j
  exact (w13 (reads m c t0_0) j0 j1 j2).trans rfl

theorem arr14 : (dats m 0 c).arrAt 14 cfg0.N = (argsOf m c).oScales := by
  refine (dats m 0 c).arrAt_eq_of_after_last 14 t0_0 (by decide +kernel) _ fun j => ?_
  blk_simp
  rw [after0_14]
  idx_vars j
  exact (w14 (reads m c t0_0) j0 j1).trans rfl

theorem arr15 : (dats m 0 c).arrAt 15 cfg0.N = (argsOf m c).normCodes := by
  refine (dats m 0 c).arrAt_eq_of_after_last 15 t0_0 (by decide +kernel) _ fun j => ?_
  blk_simp
  rw [after0_15]
  idx_vars j
  exact (w15 (reads m c t0_0) j0 j1 j2).trans rfl

theorem arr16 : (dats m 0 c).arrAt 16 cfg0.N = (argsOf m c).normScales := by
  refine (dats m 0 c).arrAt_eq_of_after_last 16 t0_0 (by decide +kernel) _ fun j => ?_
  blk_simp
  rw [after0_16]
  idx_vars j
  exact (w16 (reads m c t0_0) j0 j1).trans rfl

theorem arr17 : (dats m 0 c).arrAt 17 cfg0.N = (argsOf m c).hiddenCodes := by
  refine (dats m 0 c).arrAt_eq_of_after_last 17 t0_0 (by decide +kernel) _ fun j => ?_
  blk_simp
  rw [after0_17]
  idx_vars j
  exact (w17 (reads m c t0_0) j0 j1 j2).trans rfl

theorem arr18 : (dats m 0 c).arrAt 18 cfg0.N = (argsOf m c).hiddenScales := by
  refine (dats m 0 c).arrAt_eq_of_after_last 18 t0_0 (by decide +kernel) _ fun j => ?_
  blk_simp
  rw [after0_18]
  idx_vars j
  exact (w18 (reads m c t0_0) j0 j1).trans rfl

end Cert.FfnRefIdeal.Value
-- ==== Proof.Algebraic.lean ====
module

public import proofs.«01_k».proof.Defs
public import proofs.«01_k».proof.Proof.Tables
public import proofs.«01_k».proof.Proof.RefArrays

/-!
# The kernel and the reference leave the same seven arrays

Both runs are known to leave the arrays of the shared specification at their own arguments, so equal arguments give equal
arrays.
-/

set_option maxRecDepth 65536

@[expose] public section

noncomputable section

open Idealize.ShloMosaic Idealize.ShloMosaic.TcCoe Idealize.SL.Sem

namespace Cert.Both

/-- Equal fields make equal arguments. -/
theorem _root_.Cert.Row.args_congr {A B : Row.Args} (h0 : A.o = B.o) (h1 : A.x = B.x) (h2 : A.ada = B.ada) (h3 : A.wp = B.wp)
    (h4 : A.sp = B.sp) (h5 : A.bp = B.bp) (h6 : A.w1 = B.w1) (h7 : A.s1 = B.s1) (h8 : A.b1 = B.b1) (h9 : A.w2 = B.w2)
    (h10 : A.s2 = B.s2) (h11 : A.b2 = B.b2) : A = B := by
  cases A
  cases B
  simp_all

/-- Equal argument arrays are read as the same rows. -/
theorem args_eq (m : (ℓ : Loc FfnIdeal.nD FfnIdeal.τ FfnIdeal.sig) → Buf (Elt Ideal) ℓ)
    (m' : (ℓ : Loc FfnRefIdeal.nD FfnRefIdeal.τ FfnRefIdeal.sig) → Buf (Elt Ideal) ℓ) (c : Dev FfnIdeal.nD)
    (h : m' ((c.tc : Thread FfnRefIdeal.nD FfnRefIdeal.τ).loc FfnRefIdeal.main_arg0) = m ((c.tc : Thread FfnIdeal.nD FfnIdeal.τ).loc FfnIdeal.main_arg0)
      ∧ m' ((c.tc : Thread FfnRefIdeal.nD FfnRefIdeal.τ).loc FfnRefIdeal.main_arg1) = m ((c.tc : Thread FfnIdeal.nD FfnIdeal.τ).loc FfnIdeal.main_arg1)
      ∧ m' ((c.tc : Thread FfnRefIdeal.nD FfnRefIdeal.τ).loc FfnRefIdeal.main_arg2) = m ((c.tc : Thread FfnIdeal.nD FfnIdeal.τ).loc FfnIdeal.main_arg2)
      ∧ m' ((c.tc : Thread FfnRefIdeal.nD FfnRefIdeal.τ).loc FfnRefIdeal.main_arg3) = m ((c.tc : Thread FfnIdeal.nD FfnIdeal.τ).loc FfnIdeal.main_arg3)
      ∧ m' ((c.tc : Thread FfnRefIdeal.nD FfnRefIdeal.τ).loc FfnRefIdeal.main_arg4) = m ((c.tc : Thread FfnIdeal.nD FfnIdeal.τ).loc FfnIdeal.main_arg4)
      ∧ m' ((c.tc : Thread FfnRefIdeal.nD FfnRefIdeal.τ).loc FfnRefIdeal.main_arg5) = m ((c.tc : Thread FfnIdeal.nD FfnIdeal.τ).loc FfnIdeal.main_arg5)
      ∧ m' ((c.tc : Thread FfnRefIdeal.nD FfnRefIdeal.τ).loc FfnRefIdeal.main_arg6) = m ((c.tc : Thread FfnIdeal.nD FfnIdeal.τ).loc FfnIdeal.main_arg6)
      ∧ m' ((c.tc : Thread FfnRefIdeal.nD FfnRefIdeal.τ).loc FfnRefIdeal.main_arg7) = m ((c.tc : Thread FfnIdeal.nD FfnIdeal.τ).loc FfnIdeal.main_arg7)
      ∧ m' ((c.tc : Thread FfnRefIdeal.nD FfnRefIdeal.τ).loc FfnRefIdeal.main_arg8) = m ((c.tc : Thread FfnIdeal.nD FfnIdeal.τ).loc FfnIdeal.main_arg8)
      ∧ m' ((c.tc : Thread FfnRefIdeal.nD FfnRefIdeal.τ).loc FfnRefIdeal.main_arg9) = m ((c.tc : Thread FfnIdeal.nD FfnIdeal.τ).loc FfnIdeal.main_arg9)
      ∧ m' ((c.tc : Thread FfnRefIdeal.nD FfnRefIdeal.τ).loc FfnRefIdeal.main_arg10) = m ((c.tc : Thread FfnIdeal.nD FfnIdeal.τ).loc FfnIdeal.main_arg10)
      ∧ m' ((c.tc : Thread FfnRefIdeal.nD FfnRefIdeal.τ).loc FfnRefIdeal.main_arg11) = m ((c.tc : Thread FfnIdeal.nD FfnIdeal.τ).loc FfnIdeal.main_arg11)) :
    FfnRefIdeal.Value.argsOf m' c = FfnIdeal.Value.argsOf m c := by
  obtain ⟨h0, h1, h2, h3, h4, h5, h6, h7, h8, h9, h10, h11⟩ := h
  exact Row.args_congr
    (funext fun p => (funext fun r => (funext fun k => congrFun h0 (ix3 p r k))))
    (funext fun p => (funext fun r => (funext fun k => congrFun h1 (ix3 r p k))))
    (funext fun q => (funext fun r => (funext fun k => congrFun h2 (ix3 r q k))))
    (funext fun k => (funext fun n => congrFun h3 (ix2 k n)))
    (funext fun n => congrFun h4 (ix1 n))
    (funext fun n => congrFun h5 (ix1 n))
    (funext fun k => (funext fun n => congrFun h6 (ix2 k n)))
    (funext fun n => congrFun h7 (ix1 n))
    (funext fun n => congrFun h8 (ix1 n))
    (funext fun k => (funext fun n => congrFun h9 (ix2 k n)))
    (funext fun n => congrFun h10 (ix1 n))
    (funext fun n => congrFun h11 (ix1 n))

/-- The algebraic claim. -/
theorem algebraic : algebraic_FfnIdeal_FfnRefIdeal (hFfnIdeal := FfnIdeal.Gen.facts) (hFfnRefIdeal := FfnRefIdeal.Gen.facts) := by
  intro m g m' g' _ h
  refine ⟨fun c => (FfnIdeal.Value.argsOf m c).outA, fun c => (FfnIdeal.Value.argsOf m c).oCodes, fun c => (FfnIdeal.Value.argsOf m c).oScales,
    fun c => (FfnIdeal.Value.argsOf m c).normCodes, fun c => (FfnIdeal.Value.argsOf m c).normScales,
    fun c => (FfnIdeal.Value.argsOf m c).hiddenCodes, fun c => (FfnIdeal.Value.argsOf m c).hiddenScales, ?_, ?_⟩
  · refine (θ_run _ _ _).mono (fun r hr c => ?_) (FfnIdeal.Value.run_blocks (F := Ideal) m g)
    obtain ⟨a0, a1, a2, a3, a4, a5, a6, rest⟩ := hr c
    exact ⟨a0.trans (FfnIdeal.Value.arr12 m c), a1.trans (FfnIdeal.Value.arr13 m c), a2.trans (FfnIdeal.Value.arr14 m c),
      a3.trans (FfnIdeal.Value.arr15 m c), a4.trans (FfnIdeal.Value.arr16 m c), a5.trans (FfnIdeal.Value.arr17 m c),
      a6.trans (FfnIdeal.Value.arr18 m c), rest⟩
  · refine (θ_run _ _ _).mono (fun r hr c => ?_) (FfnRefIdeal.Value.run_blocks (F := Ideal) m' g')
    obtain ⟨a0, a1, a2, a3, a4, a5, a6, rest⟩ := hr c
    have e := args_eq m m' c (h c)
    exact ⟨(a0.trans (FfnRefIdeal.Value.arr12 m' c)).trans (congrArg Row.Args.outA e),
      (a1.trans (FfnRefIdeal.Value.arr13 m' c)).trans (congrArg Row.Args.oCodes e),
      (a2.trans (FfnRefIdeal.Value.arr14 m' c)).trans (congrArg Row.Args.oScales e),
      (a3.trans (FfnRefIdeal.Value.arr15 m' c)).trans (congrArg Row.Args.normCodes e),
      (a4.trans (FfnRefIdeal.Value.arr16 m' c)).trans (congrArg Row.Args.normScales e),
      (a5.trans (FfnRefIdeal.Value.arr17 m' c)).trans (congrArg Row.Args.hiddenCodes e),
      (a6.trans (FfnRefIdeal.Value.arr18 m' c)).trans (congrArg Row.Args.hiddenScales e), rest⟩

end Cert.Both
-- ==== Proof.LnSpec.lean ====
module

public import proofs.«01_k».proof.Proof.RowMath

/-!
# The first layer norm, written once

The four arrays of the first call, from its two arguments read at (position, batch row, channel): the codes of the
modulated layer norm in two layouts, and its scales in two layouts.
-/

set_option maxRecDepth 16384

@[expose] public section

noncomputable section

open Idealize.ShloMosaic

namespace Cert.Row

/-- The arguments of the first layer norm, over the extended reals. -/
structure LnArgs where
  /-- The residual stream, read at (position, batch row, channel). -/
  x : Fin 100 → Fin 16 → Fin 1920 → EReal
  /-- The six modulation rows of each batch row. -/
  ada : Fin 6 → Fin 16 → Fin 1920 → EReal

/-- The modulated layer norm of one token. -/
def LnArgs.norm (A : LnArgs) (p : Fin 100) (r : Fin 16) : Fin 1920 → EReal := Row.norm (A.x p r) (A.ada 2 r) (A.ada 4 r)

/-- The position and the batch row of a token counted row by row. -/
def posOf (q : Fin 1600) : Fin 100 := ⟨q / 16, by omega⟩
def rowOf (q : Fin 1600) : Fin 16 := ⟨q % 16, by omega⟩

/-- The codes, at (position, batch row, channel). -/
def LnArgs.codes (A : LnArgs) : Shape.Idx ⟨3, ![100, 16, 1920]⟩ → EReal := fun y => code (A.norm (y 0) (y 1)) (y 2)

/-- The codes, the tokens in one row of 1600. -/
def LnArgs.flatCodes (A : LnArgs) : Shape.Idx ⟨2, ![1600, 1920]⟩ → EReal := fun y => code (A.norm (posOf (y 0)) (rowOf (y 0))) (y 1)

/-- The scales, one row per batch row. -/
def LnArgs.scales (A : LnArgs) : Shape.Idx ⟨2, ![16, 100]⟩ → EReal := fun y => scale (A.norm (y 1) (y 0))

/-- The scales, one row per token, repeated along 128 lanes. -/
def LnArgs.laneScales (A : LnArgs) : Shape.Idx ⟨2, ![1600, 128]⟩ → EReal := fun y => scale (A.norm (posOf (y 0)) (rowOf (y 0)))

end Cert.Row
-- ==== Proof.LnCodes.lean ====
module

public import proofs.«01_k».proof.Proof.Gen.Ln1Ideal.Value
public import proofs.«01_k».proof.Proof.LnSpec
public import Idealize.ShloMosaic.Lib.Pipeline.ValueKit
public import Idealize.ShloMosaic.Lib.Pipeline.ReadBack
public import Idealize.ShloMosaic.Lib.Pointwise

/-!
# The codes of a block

Two token groups at a time, from the block the kernel loads: the layer norm, its codes and its scales.
-/

set_option maxRecDepth 65536

@[expose] public section

noncomputable section

open Idealize.ShloMosaic Idealize.ShloMosaic.TcCoe Idealize.SL.Sem

namespace Cert.Ln1Ideal.Value

open Cert.Ln1Ideal Cert.Ln1Ideal.Gen

/-- The named reciprocal of 448 at the reals. -/
theorem named_inv448 : Named.named (F := Ideal) (φ := .f32) κ "inv448" 0x3B124925#32 = ((1 / 448 : ℝ) : EReal) := by
  simp [Named.named, κ]

/-- A load from a buffer whose stores all hold the values of `G` and together reach every index reads `G`. -/
theorem readCov_of_pieces {κ' : Kind} {sp : Space} {s : Shape} {e : EltTy} (v : View sig κ' sp s e)
    (L : List (View.Piece (Elt Ideal) s e)) (r : Rect s) (G : s.Idx → Elt Ideal e) (h : View.PiecesOf G L)
    (hc : ∀ y, ∃ p ∈ L, y ∈ p.1.set) (x : r.shape.Idx) :
    v.readCov L r.toLoadRect x = G (r.idx x) := by
  rw [View.readCov_eq_canon']
  exact View.canon_apply_of_pieces G L h.mem _ (hc _)

/-- The scale of each token of a chunk. -/
theorem chunk_scale (X : FVec Ideal S2x16x1920 .f32) (p : Fin 2) (r : Fin 16) (z : Fin 1) :
    k0_pay21 (F := Ideal) X (ix3 p r z) = Row.scale fun k => X (ix3 p r k) := by
  pointwise [k0_pay21]
  rw [named_inv448, Row.mul_inv448]
  rfl

/-- The codes of a chunk. -/
theorem chunk_code (X : FVec Ideal S2x16x1920 .f32) (p : Fin 2) (r : Fin 16) (k : Fin 1920) :
    k0_pay22 (F := Ideal) X (ix3 p r k) = Row.code (fun k => X (ix3 p r k)) k := by
  pointwise [k0_pay22, chunk_scale]
  rw [Row.mul_one_div (Row.scale_ne_zero _)]
  rfl

/-- The codes of a chunk, its two token groups laid out as 32 rows. -/
theorem chunk_code32 (X : FVec Ideal S2x16x1920 .f32) (q : Fin 32) (k : Fin 1920) :
    k0_pay23 (F := Ideal) X (ix2 q k) = Row.code (fun k => X (ix3 (⟨q / 16, by omega⟩ : Fin 2) (⟨q % 16, by omega⟩ : Fin 16) k)) k := by
  pointwise [k0_pay23, chunk_code]

/-- The scales of a chunk, one row per token, repeated along the lanes. -/
theorem chunk_scale32 (X : FVec Ideal S2x16x1920 .f32) (q : Fin 32) (l : Fin 128) :
    k0_pay24 (F := Ideal) X (ix2 q l) = Row.scale fun k => X (ix3 (⟨q / 16, by omega⟩ : Fin 2) (⟨q % 16, by omega⟩ : Fin 16) k) := by
  pointwise [k0_pay24, chunk_scale]

/-- The codes of every token of the block `X`. -/
def codes3 (X : FVec Ideal S20x16x1920 .f32) : S20x16x1920.Idx → EReal :=
  fun y => Row.code (fun k => X (ix3 (y 0) (y 1) k)) (y 2)

/-- The same, the tokens laid out as 320 rows. -/
def codes2 (X : FVec Ideal S20x16x1920 .f32) : S320x1920.Idx → EReal :=
  fun y => Row.code (fun k => X (ix3 (⟨(y 0).val / 16, by have := (y 0).isLt; change _ < 320 at this; omega⟩ : Fin 20) (⟨(y 0).val % 16, by omega⟩ : Fin 16) k)) (y 1)

/-- The scale of every token, one row per token, repeated along the lanes. -/
def scales2 (X : FVec Ideal S20x16x1920 .f32) : S320x128.Idx → EReal :=
  fun y => Row.scale fun k => X (ix3 (⟨(y 0).val / 16, by have := (y 0).isLt; change _ < 320 at this; omega⟩ : Fin 20) (⟨(y 0).val % 16, by omega⟩ : Fin 16) k)

/-- `X` holds the two token groups of the block `B` from group `o` on. -/
def Chunk (o : ℕ) (B : FVec Ideal S20x16x1920 .f32) (X : FVec Ideal S2x16x1920 .f32) : Prop :=
  ∀ (p : Fin 2) (r : Fin 16) (k : Fin 1920) (h : o + p < 20), X (ix3 p r k) = B (ix3 ⟨o + p, h⟩ r k)

/-- Where an index of a box of three-dimensional shape lies in the whole. -/
theorem emb3 {n0 n1 n2 m0 m1 m2 : ℕ} (o0 o1 o2 : ℕ) (inb) (a : Fin m0) (b : Fin m1) (c : Fin m2) (i : Fin n0) (j : Fin n1) (k : Fin n2)
    (hi : i.val = o0 + a) (hj : j.val = o1 + b) (hk : k.val = o2 + c) :
    (Rect.unit (s := (⟨3, ![n0, n1, n2]⟩ : Shape)) ![o0, o1, o2] ![m0, m1, m2] inb).idx (ix3 a b c) = ix3 i j k :=
  funext fun d => Fin.ext <| (Rect.idx_unit_val _ _ inb _ d).trans <| by
    fin_cases d
    · exact hi.symm
    · exact hj.symm
    · exact hk.symm

/-- Where an index of a box of two-dimensional shape lies in the whole. -/
theorem emb2 {n0 n1 m0 m1 : ℕ} (o0 o1 : ℕ) (inb) (a : Fin m0) (b : Fin m1) (i : Fin n0) (j : Fin n1)
    (hi : i.val = o0 + a) (hj : j.val = o1 + b) :
    (Rect.unit (s := (⟨2, ![n0, n1]⟩ : Shape)) ![o0, o1] ![m0, m1] inb).idx (ix2 a b) = ix2 i j :=
  funext fun d => Fin.ext <| (Rect.idx_unit_val _ _ inb _ d).trans <| by
    fin_cases d
    · exact hi.symm
    · exact hj.symm

theorem Chunk.code3 {o : ℕ} {B : FVec Ideal S20x16x1920 .f32} {X : FVec Ideal S2x16x1920 .f32} {P : FVec Ideal S2x16x1920 .fp8e4m3} (h : Chunk o B X)
    (hP : P = k0_pay22 (F := Ideal) X) (ho : o + 2 ≤ 20)
    (inb) (x : S2x16x1920.Idx) :
    P x = codes3 B ((Rect.unit (s := S20x16x1920) ![o, 0, 0] S2x16x1920.size inb).emb x) := by
  subst hP
  idx_vars x
  rw [chunk_code]
  have e := emb3 (n0 := 20) (n1 := 16) (n2 := 1920) o 0 0 inb x0 x1 x2 ⟨o + x0, by omega⟩ x1 x2 rfl (Nat.zero_add _).symm (Nat.zero_add _).symm
  refine Eq.trans ?_ (congrArg (codes3 B) e).symm
  unfold codes3
  simp only [h _ _ _ (show o + x0.val < 20 by omega)]
  rfl

theorem Chunk.code2 {o o' : ℕ} {B : FVec Ideal S20x16x1920 .f32} {X : FVec Ideal S2x16x1920 .f32} {P : FVec Ideal S32x1920 .fp8e4m3} (h : Chunk o B X)
    (hP : P = k0_pay23 (F := Ideal) X) (ho : o + 2 ≤ 20)
    (ho' : o' = 16 * o) (inb) (x : S32x1920.Idx) :
    P x = codes2 B ((Rect.unit (s := S320x1920) ![o', 0] S32x1920.size inb).emb x) := by
  subst hP
  idx_vars x
  rw [chunk_code32]
  have e := emb2 (n0 := 320) (n1 := 1920) o' 0 inb x0 x1 ⟨o' + x0, by omega⟩ x1 rfl (Nat.zero_add _).symm
  refine Eq.trans ?_ (congrArg (codes2 B) e).symm
  simp only [h _ _ _ (show o + (⟨x0 / 16, by omega⟩ : Fin 2).val < 20 by simp only []; omega)]
  subst ho'
  exact congrArg (fun f => Row.code f x1) (funext fun l =>
    congrArg₂ (fun a b => B (ix3 a b l)) (Fin.ext (show o + x0.val / 16 = (16 * o + x0.val) / 16 by omega))
      (Fin.ext (show x0.val % 16 = (16 * o + x0.val) % 16 by omega)))

theorem Chunk.scale2 {o o' : ℕ} {B : FVec Ideal S20x16x1920 .f32} {X : FVec Ideal S2x16x1920 .f32} {P : FVec Ideal S32x128 .f32} (h : Chunk o B X)
    (hP : P = k0_pay24 (F := Ideal) X) (ho : o + 2 ≤ 20)
    (ho' : o' = 16 * o) (inb) (x : S32x128.Idx) :
    P x = scales2 B ((Rect.unit (s := S320x128) ![o', 0] S32x128.size inb).emb x) := by
  subst hP
  idx_vars x
  rw [chunk_scale32]
  have e := emb2 (n0 := 320) (n1 := 128) o' 0 inb x0 x1 ⟨o' + x0, by omega⟩ x1 rfl (Nat.zero_add _).symm
  refine Eq.trans ?_ (congrArg (scales2 B) e).symm
  simp only [h _ _ _ (show o + (⟨x0 / 16, by omega⟩ : Fin 2).val < 20 by simp only []; omega)]
  subst ho'
  exact congrArg Row.scale (funext fun l =>
    congrArg₂ (fun a b => B (ix3 a b l)) (Fin.ext (show o + x0.val / 16 = (16 * o + x0.val) / 16 by omega))
      (Fin.ext (show x0.val % 16 = (16 * o + x0.val) % 16 by omega)))

/-- The named reciprocal of 1920 at the reals. -/
theorem named_inv1920 : Named.named (F := Ideal) (φ := .f32) κ "inv1920" 0x3A088889#32 = ((1 / 1920 : ℝ) : EReal) := by
  simp [Named.named, κ]

/-- The layer norm of two token groups. -/
theorem norm_at (gain shift : FVec Ideal S1x16x1920 .f32) (X : FVec Ideal S2x16x1920 .bf16) (p : Fin 2) (r : Fin 16) (k : Fin 1920) :
    k0_pay4 (F := Ideal) gain shift X (ix3 p r k)
      = Row.norm (fun k => X (ix3 p r k)) (fun k => gain (ix3 0 r k)) (fun k => shift (ix3 0 r k)) k := by
  pointwise [k0_pay4, k0_pay2, k0_pay3]
  simp only [named_inv1920, Row.mul_inv1920]
  have h := Row.mul_one_div (Row.sqrt_ne_zero fun k => X (ix3 p r k))
  unfold Row.norm
  rw [← h]
  rfl

/-- The layer norm of a block of twenty positions. -/
def normB (x0 : FVec Ideal S20x16x1920 .bf16) (x1 : FVec Ideal S6x16x1920 .f32) : S20x16x1920.Idx → EReal := fun y =>
  Row.norm (fun k => x0 (ix3 (y 0) (y 1) k)) (fun k => x1 (ix3 2 (y 1) k)) (fun k => x1 (ix3 4 (y 1) k)) (y 2)

variable {c : Dev nD} {arg1 : Memref sig .tc .vmem S20x16x1920 .bf16} {harg1 : arg1.IsWhole} {arg2 : Memref sig .tc .vmem
  S6x16x1920 .f32} {harg2 : arg2.IsWhole} {x0 : FVec Ideal S20x16x1920 .bf16} {x1 : FVec Ideal S6x16x1920 .f32}

/-- A load of a whole window. -/
theorem load_whole {S : Shape} {e : EltTy} (a : Memref sig .tc .vmem S e) (ha : a.IsWhole) (X : S.Idx → Elt Ideal e) (off : Fin S.rank → ℕ)
    (h : ∀ d, off d = 0) (inb) :
    View.readAt (Elt Ideal) a.view (Rect.unit (s := S) off S.size inb).toLoadRect (ha.unread X) = X := by
  funext j
  rw [View.readAt_eq_ld, ha.read_unread]
  exact View.ld_unit_apply_of X off S.size inb j j fun d => by rw [h d, Nat.zero_add]

/-- One of the six rows of modulation, loaded. -/
theorem load_row (o : ℕ) (ho : o < 6) (inb : ∀ a, ![o, 0, 0] a + S1x16x1920.size a ≤ S6x16x1920.size a) (r : Fin 16) (k : Fin 1920) :
    View.readAt (Elt Ideal) arg2.view (Rect.unit (s := S6x16x1920) ![o, 0, 0] S1x16x1920.size inb).toLoadRect (harg2.unread x1) (ix3 0 r k) = x1 (ix3 ⟨o, ho⟩ r k) := by
  rw [View.readAt_eq_ld, harg2.read_unread]
  exact congrArg x1 (emb3 (n0 := 6) (n1 := 16) (n2 := 1920) o 0 0 inb 0 r k ⟨o, ho⟩ r k rfl (Nat.zero_add _).symm (Nat.zero_add _).symm)

/-- The layer norm of the two token groups from group `o` on. -/
theorem chunk_norm (o : ℕ) (inb : ∀ a, ![o, 0, 0] a + S2x16x1920.size a ≤ S20x16x1920.size a) :
    Chunk o (normB x0 x1) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![o, 0, 0] S2x16x1920.size inb).toLoadRect (harg1.unread x0))) := by
  intro p r k h
  rw [norm_at]
  simp only [load_row 2 (by decide), load_row 4 (by decide)]
  have e : ∀ k, View.readAt (Elt Ideal) arg1.view (Rect.unit (s := S20x16x1920) ![o, 0, 0] S2x16x1920.size inb).toLoadRect (harg1.unread x0) (ix3 p r k) = x0 (ix3 ⟨o + p, h⟩ r k) := by
    intro k
    rw [View.readAt_eq_ld, harg1.read_unread]
    exact congrArg x0 (emb3 (n0 := 20) (n1 := 16) (n2 := 1920) o 0 0 inb p r k ⟨o + p, h⟩ r k rfl (Nat.zero_add _).symm (Nat.zero_add _).symm)
  simp only [e]
  rfl

end Cert.Ln1Ideal.Value
-- ==== Proof.LnScales.lean ====
module

public import proofs.«01_k».proof.Proof.LnCodes
public import Idealize.ShloMosaic.Lib.Pipeline.ValueKit
public import Idealize.ShloMosaic.Lib.Pipeline.ReadBack
public import Idealize.ShloMosaic.Lib.Pointwise

/-!
# The table of scales

Each point of the grid writes its twenty columns of the table and keeps every other column as it finds it.
-/

set_option maxRecDepth 65536

@[expose] public section

noncomputable section

open Idealize.ShloMosaic Idealize.ShloMosaic.TcCoe Idealize.SL.Sem

namespace Cert.Ln1Ideal.Value

open Cert.Ln1Ideal Cert.Ln1Ideal.Gen

/-- `X` is the table `old` with the `n` columns from column `20·a` on replaced by `f`. -/
def Upto (n a : ℕ) (f : Fin 20 → Fin 16 → EReal) (old X : FVec Ideal S16x100 .f32) : Prop :=
  ∀ (r : Fin 16) (l : Fin 100), (∀ p : Fin 20, p.val < n → l.val = 20 * a + p → X (ix2 r l) = f p r)
    ∧ ((l.val < 20 * a ∨ 20 * a + n ≤ l.val) → X (ix2 r l) = old (ix2 r l))

theorem Upto.nil {a : ℕ} {f : Fin 20 → Fin 16 → EReal} {old X : FVec Ideal S16x100 .f32} (h : X = old) : Upto 0 a f old X :=
  fun _ _ => ⟨fun _ hp => absurd hp (Nat.not_lt_zero _), fun _ => h ▸ rfl⟩

/-- Writing one column: where the column number meets the lane number. -/
theorem column_at (w : BitVec 32) (s : FVec Ideal S1x16x1 .f32) (X : FVec Ideal S16x100 .f32) (r : Fin 16) (l : Fin 100) :
    k0_pay79 (F := Ideal) w (shapeCast S16x1 s shapeCasts_S1x16x1_S16x1) X (ix2 r l) = if BitVec.ofNat 32 l = w then s (ix3 0 r 0) else X (ix2 r l) := by
  pointwise [k0_pay79]
  by_cases h : BitVec.ofNat 32 l.val = w
  · simp [Scalar.select, IntOp.cmpi, h]
  · rw [if_neg h]
    simp only [Scalar.select, IntOp.cmpi, beq_eq_false_iff_ne.2 h]
    rfl

theorem Upto.store {n a : ℕ} {f : Fin 20 → Fin 16 → EReal} {old X : FVec Ideal S16x100 .f32} (h : Upto n a f old X) (ha : a < 5) (hn : n < 20)
    (w : BitVec 32) (hw : w = BitVec.ofNat 32 (20 * a + n)) (s : FVec Ideal S1x16x1 .f32) (hs : ∀ r : Fin 16, s (ix3 0 r 0) = f ⟨n, hn⟩ r) :
    Upto (n + 1) a f old (k0_pay79 (F := Ideal) w (shapeCast S16x1 s shapeCasts_S1x16x1_S16x1) X) := by
  intro r l
  have hc : (BitVec.ofNat 32 l.val = w) ↔ l.val = 20 * a + n := by
    subst hw
    constructor
    · intro e
      have := congrArg BitVec.toNat e
      simp only [BitVec.toNat_ofNat] at this
      omega
    · intro e; rw [e]
  obtain ⟨h1, h2⟩ := h r l
  rw [column_at]
  refine ⟨fun p hp hl => ?_, fun hl => ?_⟩
  · by_cases hpn : p.val = n
    · rw [if_pos (hc.2 (by omega)), hs]
      exact congrArg (fun p => f p r) (Fin.ext hpn.symm)
    · rw [if_neg (fun e => by have := hc.1 e; omega)]
      exact h1 p (by omega) hl
  · rw [if_neg (fun e => by have := hc.1 e; omega)]
    exact h2 (by omega)

/-- Reading the table back after a store. -/
theorem Upto.load {n a : ℕ} {f : Fin 20 → Fin 16 → EReal} {old W : FVec Ideal S16x100 .f32} (h : Upto n a f old W)
    {M : Memref sig .tc .vmem S16x100 .f32} {W' : FVec Ideal S16x100 .f32} {L : List (View.Piece (Elt Ideal) S16x100 .f32)} {inb inb'} (hW : W' = W) :
    Upto n a f old (M.view.readCov (⟨Rect.unit (s := S16x100) ![0, 0] S16x100.size inb, W'⟩ :: L) (Rect.unit (s := S16x100) ![0, 0] S16x100.size inb').toLoadRect) := by
  subst hW
  exact (View.readCov_cons_unit_lit' M.view inb inb' W' L (by decide) (by decide)).symm ▸ h

/-- What the stores leave in the table. -/
theorem Upto.out {n a : ℕ} {f : Fin 20 → Fin 16 → EReal} {old W : FVec Ideal S16x100 .f32} (h : Upto n a f old W)
    {v : View sig .tc .vmem S16x100 .f32} {W' : FVec Ideal S16x100 .f32} {L : List (View.Piece (Elt Ideal) S16x100 .f32)} {inb} (hW : W' = W) :
    Upto n a f old (v.read (Elt Ideal) (v.writes (Elt Ideal) v.junk (⟨Rect.unit (s := S16x100) ![0, 0] S16x100.size inb, W'⟩ :: L))) := by
  subst hW
  rw [View.read_writes_junk_eq_canon]
  exact (View.canon_cons_unit_lit' inb W' L (by decide)).symm ▸ h

theorem word2 (a o d : ℕ) : Scalar.addi (Scalar.addi (Scalar.muli (BitVec.ofNat 32 a) (BitVec.ofNat 32 20)) (BitVec.ofNat 32 o)) (BitVec.ofNat 32 d)
    = BitVec.ofNat 32 (20 * a + (o + d)) := by
  simp only [Scalar.addi, Scalar.muli, IntOp.addi, IntOp.muli, ← BitVec.ofNat_add, ← BitVec.ofNat_mul]
  congr 1; omega

theorem Chunk.row0 {o : ℕ} {B : FVec Ideal S20x16x1920 .f32} {X : FVec Ideal S2x16x1920 .f32} (h : Chunk o B X) (ho : o < 20) (r : Fin 16) :
    extractStridedSlice S1x16x1 ![0, 0, 0] (k0_pay21 (F := Ideal) X) slices_S2x16x1_o0_0_0_S1x16x1 (ix3 0 r 0) = Row.scale fun k => B (ix3 ⟨o, ho⟩ r k) := by
  pointwise [chunk_scale]
  exact congrArg Row.scale (funext fun k => h 0 r k ho)

theorem Chunk.row1 {o : ℕ} {B : FVec Ideal S20x16x1920 .f32} {X : FVec Ideal S2x16x1920 .f32} (h : Chunk o B X) (ho : o + 1 < 20) (r : Fin 16) :
    extractStridedSlice S1x16x1 ![1, 0, 0] (k0_pay21 (F := Ideal) X) slices_S2x16x1_o1_0_0_S1x16x1 (ix3 0 r 0) = Row.scale fun k => B (ix3 ⟨o + 1, ho⟩ r k) := by
  pointwise [chunk_scale]
  exact congrArg Row.scale (funext fun k => h 1 r k ho)

/-- The scales of the rows of a block. -/
def rowScales (B : S20x16x1920.Idx → EReal) (p : Fin 20) (r : Fin 16) : EReal := Row.scale fun k => B (ix3 p r k)

variable {i : grid0.Coords} {arg3 : Memref sig .tc .vmem S20x16x1920 .fp8e4m3} {harg3 : arg3.IsWhole} {arg4 : Memref
  sig .tc .vmem S320x1920 .fp8e4m3} {harg4 : arg4.IsWhole} {arg5 : Memref sig .tc .vmem S16x100 .f32} {harg5 : arg5.IsWhole}
  {arg6 : Memref sig .tc .vmem S320x128 .f32} {harg6 : arg6.IsWhole} {xo4 : FVec Ideal S16x100 .f32}
variable {c : Dev nD} {arg1 : Memref sig .tc .vmem S20x16x1920 .bf16} {harg1 : arg1.IsWhole} {arg2 : Memref sig .tc .vmem
  S6x16x1920 .f32} {harg2 : arg2.IsWhole} {x0 : FVec Ideal S20x16x1920 .bf16} {x1 : FVec Ideal S6x16x1920 .f32}

theorem row_0 (r : Fin 16) : (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![0, 0, 0] S2x16x1920.size (by decide)).toLoadRect (harg1.unread x0)))) slices_S2x16x1_o0_0_0_S1x16x1) (ix3 0 r 0) = rowScales (normB x0 x1) ⟨0, by decide⟩ r :=
  Chunk.row0 (o := 0) (B := normB x0 x1) (chunk_norm 0 (by decide)) (by decide) r

theorem row_1 (r : Fin 16) : (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![0, 0, 0] S2x16x1920.size (by decide)).toLoadRect (harg1.unread x0)))) slices_S2x16x1_o1_0_0_S1x16x1) (ix3 0 r 0) = rowScales (normB x0 x1) ⟨1, by decide⟩ r :=
  Chunk.row1 (o := 0) (B := normB x0 x1) (chunk_norm 0 (by decide)) (by decide) r

theorem row_2 (r : Fin 16) : (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![2, 0, 0] S2x16x1920.size (by decide)).toLoadRect (harg1.unread x0)))) slices_S2x16x1_o0_0_0_S1x16x1) (ix3 0 r 0) = rowScales (normB x0 x1) ⟨2, by decide⟩ r :=
  Chunk.row0 (o := 2) (B := normB x0 x1) (chunk_norm 2 (by decide)) (by decide) r

theorem row_3 (r : Fin 16) : (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![2, 0, 0] S2x16x1920.size (by decide)).toLoadRect (harg1.unread x0)))) slices_S2x16x1_o1_0_0_S1x16x1) (ix3 0 r 0) = rowScales (normB x0 x1) ⟨3, by decide⟩ r :=
  Chunk.row1 (o := 2) (B := normB x0 x1) (chunk_norm 2 (by decide)) (by decide) r

theorem row_4 (r : Fin 16) : (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![4, 0, 0] S2x16x1920.size (by decide)).toLoadRect (harg1.unread x0)))) slices_S2x16x1_o0_0_0_S1x16x1) (ix3 0 r 0) = rowScales (normB x0 x1) ⟨4, by decide⟩ r :=
  Chunk.row0 (o := 4) (B := normB x0 x1) (chunk_norm 4 (by decide)) (by decide) r

theorem row_5 (r : Fin 16) : (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![4, 0, 0] S2x16x1920.size (by decide)).toLoadRect (harg1.unread x0)))) slices_S2x16x1_o1_0_0_S1x16x1) (ix3 0 r 0) = rowScales (normB x0 x1) ⟨5, by decide⟩ r :=
  Chunk.row1 (o := 4) (B := normB x0 x1) (chunk_norm 4 (by decide)) (by decide) r

theorem row_6 (r : Fin 16) : (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![6, 0, 0] S2x16x1920.size (by decide)).toLoadRect (harg1.unread x0)))) slices_S2x16x1_o0_0_0_S1x16x1) (ix3 0 r 0) = rowScales (normB x0 x1) ⟨6, by decide⟩ r :=
  Chunk.row0 (o := 6) (B := normB x0 x1) (chunk_norm 6 (by decide)) (by decide) r

theorem row_7 (r : Fin 16) : (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![6, 0, 0] S2x16x1920.size (by decide)).toLoadRect (harg1.unread x0)))) slices_S2x16x1_o1_0_0_S1x16x1) (ix3 0 r 0) = rowScales (normB x0 x1) ⟨7, by decide⟩ r :=
  Chunk.row1 (o := 6) (B := normB x0 x1) (chunk_norm 6 (by decide)) (by decide) r

theorem row_8 (r : Fin 16) : (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![8, 0, 0] S2x16x1920.size (by decide)).toLoadRect (harg1.unread x0)))) slices_S2x16x1_o0_0_0_S1x16x1) (ix3 0 r 0) = rowScales (normB x0 x1) ⟨8, by decide⟩ r :=
  Chunk.row0 (o := 8) (B := normB x0 x1) (chunk_norm 8 (by decide)) (by decide) r

theorem row_9 (r : Fin 16) : (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![8, 0, 0] S2x16x1920.size (by decide)).toLoadRect (harg1.unread x0)))) slices_S2x16x1_o1_0_0_S1x16x1) (ix3 0 r 0) = rowScales (normB x0 x1) ⟨9, by decide⟩ r :=
  Chunk.row1 (o := 8) (B := normB x0 x1) (chunk_norm 8 (by decide)) (by decide) r

theorem row_10 (r : Fin 16) : (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![10, 0, 0] S2x16x1920.size (by decide)).toLoadRect (harg1.unread x0)))) slices_S2x16x1_o0_0_0_S1x16x1) (ix3 0 r 0) = rowScales (normB x0 x1) ⟨10, by decide⟩ r :=
  Chunk.row0 (o := 10) (B := normB x0 x1) (chunk_norm 10 (by decide)) (by decide) r

theorem row_11 (r : Fin 16) : (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![10, 0, 0] S2x16x1920.size (by decide)).toLoadRect (harg1.unread x0)))) slices_S2x16x1_o1_0_0_S1x16x1) (ix3 0 r 0) = rowScales (normB x0 x1) ⟨11, by decide⟩ r :=
  Chunk.row1 (o := 10) (B := normB x0 x1) (chunk_norm 10 (by decide)) (by decide) r

theorem row_12 (r : Fin 16) : (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![12, 0, 0] S2x16x1920.size (by decide)).toLoadRect (harg1.unread x0)))) slices_S2x16x1_o0_0_0_S1x16x1) (ix3 0 r 0) = rowScales (normB x0 x1) ⟨12, by decide⟩ r :=
  Chunk.row0 (o := 12) (B := normB x0 x1) (chunk_norm 12 (by decide)) (by decide) r

theorem row_13 (r : Fin 16) : (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![12, 0, 0] S2x16x1920.size (by decide)).toLoadRect (harg1.unread x0)))) slices_S2x16x1_o1_0_0_S1x16x1) (ix3 0 r 0) = rowScales (normB x0 x1) ⟨13, by decide⟩ r :=
  Chunk.row1 (o := 12) (B := normB x0 x1) (chunk_norm 12 (by decide)) (by decide) r

theorem row_14 (r : Fin 16) : (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![14, 0, 0] S2x16x1920.size (by decide)).toLoadRect (harg1.unread x0)))) slices_S2x16x1_o0_0_0_S1x16x1) (ix3 0 r 0) = rowScales (normB x0 x1) ⟨14, by decide⟩ r :=
  Chunk.row0 (o := 14) (B := normB x0 x1) (chunk_norm 14 (by decide)) (by decide) r

theorem row_15 (r : Fin 16) : (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![14, 0, 0] S2x16x1920.size (by decide)).toLoadRect (harg1.unread x0)))) slices_S2x16x1_o1_0_0_S1x16x1) (ix3 0 r 0) = rowScales (normB x0 x1) ⟨15, by decide⟩ r :=
  Chunk.row1 (o := 14) (B := normB x0 x1) (chunk_norm 14 (by decide)) (by decide) r

theorem row_16 (r : Fin 16) : (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![16, 0, 0] S2x16x1920.size (by decide)).toLoadRect (harg1.unread x0)))) slices_S2x16x1_o0_0_0_S1x16x1) (ix3 0 r 0) = rowScales (normB x0 x1) ⟨16, by decide⟩ r :=
  Chunk.row0 (o := 16) (B := normB x0 x1) (chunk_norm 16 (by decide)) (by decide) r

theorem row_17 (r : Fin 16) : (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![16, 0, 0] S2x16x1920.size (by decide)).toLoadRect (harg1.unread x0)))) slices_S2x16x1_o1_0_0_S1x16x1) (ix3 0 r 0) = rowScales (normB x0 x1) ⟨17, by decide⟩ r :=
  Chunk.row1 (o := 16) (B := normB x0 x1) (chunk_norm 16 (by decide)) (by decide) r

theorem row_18 (r : Fin 16) : (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![18, 0, 0] S2x16x1920.size (by decide)).toLoadRect (harg1.unread x0)))) slices_S2x16x1_o0_0_0_S1x16x1) (ix3 0 r 0) = rowScales (normB x0 x1) ⟨18, by decide⟩ r :=
  Chunk.row0 (o := 18) (B := normB x0 x1) (chunk_norm 18 (by decide)) (by decide) r

theorem row_19 (r : Fin 16) : (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![18, 0, 0] S2x16x1920.size (by decide)).toLoadRect (harg1.unread x0)))) slices_S2x16x1_o1_0_0_S1x16x1) (ix3 0 r 0) = rowScales (normB x0 x1) ⟨19, by decide⟩ r :=
  Chunk.row1 (o := 18) (B := normB x0 x1) (chunk_norm 18 (by decide)) (by decide) r

/-- The table of scales after one point, at the first. -/
theorem table_A (hc0 : cond0_0 i) (hi : (i 0).val < 5) :
    Upto 20 (i 0).val (rowScales (normB x0 x1)) (k0_pay1 (F := Ideal)) (out0_A_4 (F := Ideal) c i arg1 harg1 arg2 harg2 arg3 harg3 arg4 harg4 arg5 harg5 arg6 harg6 hc0 x0 x1) := by
  have h0 : Upto 0 (i 0).val (rowScales (normB x0 x1)) (k0_pay1 (F := Ideal)) (kernelRun0_A.sl.v69 (F := Ideal) c arg5) :=
    Upto.load (Upto.nil rfl) rfl
  have h1 : Upto 1 (i 0).val (rowScales (normB x0 x1)) (k0_pay1 (F := Ideal)) (kernelRun0_A.sl.v83 (F := Ideal) c i arg1 harg1 arg2 harg2 arg5 x0 x1) :=
    by
    have a := h0.store hi (by decide) (Scalar.addi (Scalar.addi (Scalar.muli (BitVec.ofNat 32 (i 0).val) (BitVec.ofNat 32 20)) (BitVec.ofNat 32 0)) (BitVec.ofNat 32 0)) (word2 _ _ _) (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![0, 0, 0] S2x16x1920.size (by decide)).toLoadRect (harg1.unread x0)))) slices_S2x16x1_o0_0_0_S1x16x1)
    have a := a row_0
    refine Upto.load a ?_
    rfl
  have h2 : Upto 2 (i 0).val (rowScales (normB x0 x1)) (k0_pay1 (F := Ideal)) (kernelRun0_A.sl.v149 (F := Ideal) c i arg1 harg1 arg2 harg2 arg5 x0 x1) :=
    by
    have a := h1.store hi (by decide) (Scalar.addi (Scalar.addi (Scalar.muli (BitVec.ofNat 32 (i 0).val) (BitVec.ofNat 32 20)) (BitVec.ofNat 32 0)) (BitVec.ofNat 32 1)) (word2 _ _ _) (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![0, 0, 0] S2x16x1920.size (by decide)).toLoadRect (harg1.unread x0)))) slices_S2x16x1_o1_0_0_S1x16x1)
    have a := a row_1
    refine Upto.load a ?_
    rfl
  have h3 : Upto 3 (i 0).val (rowScales (normB x0 x1)) (k0_pay1 (F := Ideal)) (kernelRun0_A.sl.v163 (F := Ideal) c i arg1 harg1 arg2 harg2 arg5 x0 x1) :=
    by
    have a := h2.store hi (by decide) (Scalar.addi (Scalar.addi (Scalar.muli (BitVec.ofNat 32 (i 0).val) (BitVec.ofNat 32 20)) (BitVec.ofNat 32 2)) (BitVec.ofNat 32 0)) (word2 _ _ _) (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![2, 0, 0] S2x16x1920.size (by decide)).toLoadRect (harg1.unread x0)))) slices_S2x16x1_o0_0_0_S1x16x1)
    have a := a row_2
    refine Upto.load a ?_
    rfl
  have h4 : Upto 4 (i 0).val (rowScales (normB x0 x1)) (k0_pay1 (F := Ideal)) (kernelRun0_A.sl.v229 (F := Ideal) c i arg1 harg1 arg2 harg2 arg5 x0 x1) :=
    by
    have a := h3.store hi (by decide) (Scalar.addi (Scalar.addi (Scalar.muli (BitVec.ofNat 32 (i 0).val) (BitVec.ofNat 32 20)) (BitVec.ofNat 32 2)) (BitVec.ofNat 32 1)) (word2 _ _ _) (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![2, 0, 0] S2x16x1920.size (by decide)).toLoadRect (harg1.unread x0)))) slices_S2x16x1_o1_0_0_S1x16x1)
    have a := a row_3
    refine Upto.load a ?_
    rfl
  have h5 : Upto 5 (i 0).val (rowScales (normB x0 x1)) (k0_pay1 (F := Ideal)) (kernelRun0_A.sl.v243 (F := Ideal) c i arg1 harg1 arg2 harg2 arg5 x0 x1) :=
    by
    have a := h4.store hi (by decide) (Scalar.addi (Scalar.addi (Scalar.muli (BitVec.ofNat 32 (i 0).val) (BitVec.ofNat 32 20)) (BitVec.ofNat 32 4)) (BitVec.ofNat 32 0)) (word2 _ _ _) (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![4, 0, 0] S2x16x1920.size (by decide)).toLoadRect (harg1.unread x0)))) slices_S2x16x1_o0_0_0_S1x16x1)
    have a := a row_4
    refine Upto.load a ?_
    rfl
  have h6 : Upto 6 (i 0).val (rowScales (normB x0 x1)) (k0_pay1 (F := Ideal)) (kernelRun0_A.sl.v309 (F := Ideal) c i arg1 harg1 arg2 harg2 arg5 x0 x1) :=
    by
    have a := h5.store hi (by decide) (Scalar.addi (Scalar.addi (Scalar.muli (BitVec.ofNat 32 (i 0).val) (BitVec.ofNat 32 20)) (BitVec.ofNat 32 4)) (BitVec.ofNat 32 1)) (word2 _ _ _) (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![4, 0, 0] S2x16x1920.size (by decide)).toLoadRect (harg1.unread x0)))) slices_S2x16x1_o1_0_0_S1x16x1)
    have a := a row_5
    refine Upto.load a ?_
    rfl
  have h7 : Upto 7 (i 0).val (rowScales (normB x0 x1)) (k0_pay1 (F := Ideal)) (kernelRun0_A.sl.v323 (F := Ideal) c i arg1 harg1 arg2 harg2 arg5 x0 x1) :=
    by
    have a := h6.store hi (by decide) (Scalar.addi (Scalar.addi (Scalar.muli (BitVec.ofNat 32 (i 0).val) (BitVec.ofNat 32 20)) (BitVec.ofNat 32 6)) (BitVec.ofNat 32 0)) (word2 _ _ _) (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![6, 0, 0] S2x16x1920.size (by decide)).toLoadRect (harg1.unread x0)))) slices_S2x16x1_o0_0_0_S1x16x1)
    have a := a row_6
    refine Upto.load a ?_
    rfl
  have h8 : Upto 8 (i 0).val (rowScales (normB x0 x1)) (k0_pay1 (F := Ideal)) (kernelRun0_A.sl.v389 (F := Ideal) c i arg1 harg1 arg2 harg2 arg5 x0 x1) :=
    by
    have a := h7.store hi (by decide) (Scalar.addi (Scalar.addi (Scalar.muli (BitVec.ofNat 32 (i 0).val) (BitVec.ofNat 32 20)) (BitVec.ofNat 32 6)) (BitVec.ofNat 32 1)) (word2 _ _ _) (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![6, 0, 0] S2x16x1920.size (by decide)).toLoadRect (harg1.unread x0)))) slices_S2x16x1_o1_0_0_S1x16x1)
    have a := a row_7
    refine Upto.load a ?_
    rfl
  have h9 : Upto 9 (i 0).val (rowScales (normB x0 x1)) (k0_pay1 (F := Ideal)) (kernelRun0_A.sl.v403 (F := Ideal) c i arg1 harg1 arg2 harg2 arg5 x0 x1) :=
    by
    have a := h8.store hi (by decide) (Scalar.addi (Scalar.addi (Scalar.muli (BitVec.ofNat 32 (i 0).val) (BitVec.ofNat 32 20)) (BitVec.ofNat 32 8)) (BitVec.ofNat 32 0)) (word2 _ _ _) (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![8, 0, 0] S2x16x1920.size (by decide)).toLoadRect (harg1.unread x0)))) slices_S2x16x1_o0_0_0_S1x16x1)
    have a := a row_8
    refine Upto.load a ?_
    rfl
  have h10 : Upto 10 (i 0).val (rowScales (normB x0 x1)) (k0_pay1 (F := Ideal)) (kernelRun0_A.sl.v469 (F := Ideal) c i arg1 harg1 arg2 harg2 arg5 x0 x1) :=
    by
    have a := h9.store hi (by decide) (Scalar.addi (Scalar.addi (Scalar.muli (BitVec.ofNat 32 (i 0).val) (BitVec.ofNat 32 20)) (BitVec.ofNat 32 8)) (BitVec.ofNat 32 1)) (word2 _ _ _) (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![8, 0, 0] S2x16x1920.size (by decide)).toLoadRect (harg1.unread x0)))) slices_S2x16x1_o1_0_0_S1x16x1)
    have a := a row_9
    refine Upto.load a ?_
    rfl
  have h11 : Upto 11 (i 0).val (rowScales (normB x0 x1)) (k0_pay1 (F := Ideal)) (kernelRun0_A.sl.v483 (F := Ideal) c i arg1 harg1 arg2 harg2 arg5 x0 x1) :=
    by
    have a := h10.store hi (by decide) (Scalar.addi (Scalar.addi (Scalar.muli (BitVec.ofNat 32 (i 0).val) (BitVec.ofNat 32 20)) (BitVec.ofNat 32 10)) (BitVec.ofNat 32 0)) (word2 _ _ _) (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![10, 0, 0] S2x16x1920.size (by decide)).toLoadRect (harg1.unread x0)))) slices_S2x16x1_o0_0_0_S1x16x1)
    have a := a row_10
    refine Upto.load a ?_
    rfl
  have h12 : Upto 12 (i 0).val (rowScales (normB x0 x1)) (k0_pay1 (F := Ideal)) (kernelRun0_A.sl.v549 (F := Ideal) c i arg1 harg1 arg2 harg2 arg5 x0 x1) :=
    by
    have a := h11.store hi (by decide) (Scalar.addi (Scalar.addi (Scalar.muli (BitVec.ofNat 32 (i 0).val) (BitVec.ofNat 32 20)) (BitVec.ofNat 32 10)) (BitVec.ofNat 32 1)) (word2 _ _ _) (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![10, 0, 0] S2x16x1920.size (by decide)).toLoadRect (harg1.unread x0)))) slices_S2x16x1_o1_0_0_S1x16x1)
    have a := a row_11
    refine Upto.load a ?_
    rfl
  have h13 : Upto 13 (i 0).val (rowScales (normB x0 x1)) (k0_pay1 (F := Ideal)) (kernelRun0_A.sl.v563 (F := Ideal) c i arg1 harg1 arg2 harg2 arg5 x0 x1) :=
    by
    have a := h12.store hi (by decide) (Scalar.addi (Scalar.addi (Scalar.muli (BitVec.ofNat 32 (i 0).val) (BitVec.ofNat 32 20)) (BitVec.ofNat 32 12)) (BitVec.ofNat 32 0)) (word2 _ _ _) (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![12, 0, 0] S2x16x1920.size (by decide)).toLoadRect (harg1.unread x0)))) slices_S2x16x1_o0_0_0_S1x16x1)
    have a := a row_12
    refine Upto.load a ?_
    rfl
  have h14 : Upto 14 (i 0).val (rowScales (normB x0 x1)) (k0_pay1 (F := Ideal)) (kernelRun0_A.sl.v629 (F := Ideal) c i arg1 harg1 arg2 harg2 arg5 x0 x1) :=
    by
    have a := h13.store hi (by decide) (Scalar.addi (Scalar.addi (Scalar.muli (BitVec.ofNat 32 (i 0).val) (BitVec.ofNat 32 20)) (BitVec.ofNat 32 12)) (BitVec.ofNat 32 1)) (word2 _ _ _) (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![12, 0, 0] S2x16x1920.size (by decide)).toLoadRect (harg1.unread x0)))) slices_S2x16x1_o1_0_0_S1x16x1)
    have a := a row_13
    refine Upto.load a ?_
    rfl
  have h15 : Upto 15 (i 0).val (rowScales (normB x0 x1)) (k0_pay1 (F := Ideal)) (kernelRun0_A.sl.v643 (F := Ideal) c i arg1 harg1 arg2 harg2 arg5 x0 x1) :=
    by
    have a := h14.store hi (by decide) (Scalar.addi (Scalar.addi (Scalar.muli (BitVec.ofNat 32 (i 0).val) (BitVec.ofNat 32 20)) (BitVec.ofNat 32 14)) (BitVec.ofNat 32 0)) (word2 _ _ _) (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![14, 0, 0] S2x16x1920.size (by decide)).toLoadRect (harg1.unread x0)))) slices_S2x16x1_o0_0_0_S1x16x1)
    have a := a row_14
    refine Upto.load a ?_
    rfl
  have h16 : Upto 16 (i 0).val (rowScales (normB x0 x1)) (k0_pay1 (F := Ideal)) (kernelRun0_A.sl.v709 (F := Ideal) c i arg1 harg1 arg2 harg2 arg5 x0 x1) :=
    by
    have a := h15.store hi (by decide) (Scalar.addi (Scalar.addi (Scalar.muli (BitVec.ofNat 32 (i 0).val) (BitVec.ofNat 32 20)) (BitVec.ofNat 32 14)) (BitVec.ofNat 32 1)) (word2 _ _ _) (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![14, 0, 0] S2x16x1920.size (by decide)).toLoadRect (harg1.unread x0)))) slices_S2x16x1_o1_0_0_S1x16x1)
    have a := a row_15
    refine Upto.load a ?_
    rfl
  have h17 : Upto 17 (i 0).val (rowScales (normB x0 x1)) (k0_pay1 (F := Ideal)) (kernelRun0_A.sl.v723 (F := Ideal) c i arg1 harg1 arg2 harg2 arg5 x0 x1) :=
    by
    have a := h16.store hi (by decide) (Scalar.addi (Scalar.addi (Scalar.muli (BitVec.ofNat 32 (i 0).val) (BitVec.ofNat 32 20)) (BitVec.ofNat 32 16)) (BitVec.ofNat 32 0)) (word2 _ _ _) (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![16, 0, 0] S2x16x1920.size (by decide)).toLoadRect (harg1.unread x0)))) slices_S2x16x1_o0_0_0_S1x16x1)
    have a := a row_16
    refine Upto.load a ?_
    rfl
  have h18 : Upto 18 (i 0).val (rowScales (normB x0 x1)) (k0_pay1 (F := Ideal)) (kernelRun0_A.sl.v789 (F := Ideal) c i arg1 harg1 arg2 harg2 arg5 x0 x1) :=
    by
    have a := h17.store hi (by decide) (Scalar.addi (Scalar.addi (Scalar.muli (BitVec.ofNat 32 (i 0).val) (BitVec.ofNat 32 20)) (BitVec.ofNat 32 16)) (BitVec.ofNat 32 1)) (word2 _ _ _) (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![16, 0, 0] S2x16x1920.size (by decide)).toLoadRect (harg1.unread x0)))) slices_S2x16x1_o1_0_0_S1x16x1)
    have a := a row_17
    refine Upto.load a ?_
    rfl
  have h19 : Upto 19 (i 0).val (rowScales (normB x0 x1)) (k0_pay1 (F := Ideal)) (kernelRun0_A.sl.v803 (F := Ideal) c i arg1 harg1 arg2 harg2 arg5 x0 x1) :=
    by
    have a := h18.store hi (by decide) (Scalar.addi (Scalar.addi (Scalar.muli (BitVec.ofNat 32 (i 0).val) (BitVec.ofNat 32 20)) (BitVec.ofNat 32 18)) (BitVec.ofNat 32 0)) (word2 _ _ _) (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![18, 0, 0] S2x16x1920.size (by decide)).toLoadRect (harg1.unread x0)))) slices_S2x16x1_o0_0_0_S1x16x1)
    have a := a row_18
    refine Upto.load a ?_
    rfl
  have a := h19.store hi (by decide) (Scalar.addi (Scalar.addi (Scalar.muli (BitVec.ofNat 32 (i 0).val) (BitVec.ofNat 32 20)) (BitVec.ofNat 32 18)) (BitVec.ofNat 32 1)) (word2 _ _ _) (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![18, 0, 0] S2x16x1920.size (by decide)).toLoadRect (harg1.unread x0)))) slices_S2x16x1_o1_0_0_S1x16x1)
  have a := a row_19
  refine Upto.out a ?_
  rfl

/-- The table of scales after one point. -/
theorem table_B (hc0 : ¬cond0_0 i) (hi : (i 0).val < 5) :
    Upto 20 (i 0).val (rowScales (normB x0 x1)) xo4 (out0_B_4 (F := Ideal) c i arg1 harg1 arg2 harg2 arg3 harg3 arg4 harg4 arg5 harg5 arg6 harg6 hc0 x0 x1 xo4) := by
  have h0 : Upto 0 (i 0).val (rowScales (normB x0 x1)) xo4 (View.readAt (Elt Ideal) arg5.view (Rect.unit (s := S16x100) ![0, 0] S16x100.size (by decide)).toLoadRect (harg5.unread xo4)) :=
    Upto.nil (load_whole arg5 harg5 xo4 _ (by decide) _)
  have h1 : Upto 1 (i 0).val (rowScales (normB x0 x1)) xo4 (kernelRun0_B.sl.v83 (F := Ideal) c i arg1 harg1 arg2 harg2 arg5 harg5 x0 x1 xo4) :=
    by
    have a := h0.store hi (by decide) (Scalar.addi (Scalar.addi (Scalar.muli (BitVec.ofNat 32 (i 0).val) (BitVec.ofNat 32 20)) (BitVec.ofNat 32 0)) (BitVec.ofNat 32 0)) (word2 _ _ _) (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![0, 0, 0] S2x16x1920.size (by decide)).toLoadRect (harg1.unread x0)))) slices_S2x16x1_o0_0_0_S1x16x1)
    have a := a row_0
    refine Upto.load a ?_
    rfl
  have h2 : Upto 2 (i 0).val (rowScales (normB x0 x1)) xo4 (kernelRun0_B.sl.v149 (F := Ideal) c i arg1 harg1 arg2 harg2 arg5 harg5 x0 x1 xo4) :=
    by
    have a := h1.store hi (by decide) (Scalar.addi (Scalar.addi (Scalar.muli (BitVec.ofNat 32 (i 0).val) (BitVec.ofNat 32 20)) (BitVec.ofNat 32 0)) (BitVec.ofNat 32 1)) (word2 _ _ _) (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![0, 0, 0] S2x16x1920.size (by decide)).toLoadRect (harg1.unread x0)))) slices_S2x16x1_o1_0_0_S1x16x1)
    have a := a row_1
    refine Upto.load a ?_
    rfl
  have h3 : Upto 3 (i 0).val (rowScales (normB x0 x1)) xo4 (kernelRun0_B.sl.v163 (F := Ideal) c i arg1 harg1 arg2 harg2 arg5 harg5 x0 x1 xo4) :=
    by
    have a := h2.store hi (by decide) (Scalar.addi (Scalar.addi (Scalar.muli (BitVec.ofNat 32 (i 0).val) (BitVec.ofNat 32 20)) (BitVec.ofNat 32 2)) (BitVec.ofNat 32 0)) (word2 _ _ _) (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![2, 0, 0] S2x16x1920.size (by decide)).toLoadRect (harg1.unread x0)))) slices_S2x16x1_o0_0_0_S1x16x1)
    have a := a row_2
    refine Upto.load a ?_
    rfl
  have h4 : Upto 4 (i 0).val (rowScales (normB x0 x1)) xo4 (kernelRun0_B.sl.v229 (F := Ideal) c i arg1 harg1 arg2 harg2 arg5 harg5 x0 x1 xo4) :=
    by
    have a := h3.store hi (by decide) (Scalar.addi (Scalar.addi (Scalar.muli (BitVec.ofNat 32 (i 0).val) (BitVec.ofNat 32 20)) (BitVec.ofNat 32 2)) (BitVec.ofNat 32 1)) (word2 _ _ _) (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![2, 0, 0] S2x16x1920.size (by decide)).toLoadRect (harg1.unread x0)))) slices_S2x16x1_o1_0_0_S1x16x1)
    have a := a row_3
    refine Upto.load a ?_
    rfl
  have h5 : Upto 5 (i 0).val (rowScales (normB x0 x1)) xo4 (kernelRun0_B.sl.v243 (F := Ideal) c i arg1 harg1 arg2 harg2 arg5 harg5 x0 x1 xo4) :=
    by
    have a := h4.store hi (by decide) (Scalar.addi (Scalar.addi (Scalar.muli (BitVec.ofNat 32 (i 0).val) (BitVec.ofNat 32 20)) (BitVec.ofNat 32 4)) (BitVec.ofNat 32 0)) (word2 _ _ _) (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![4, 0, 0] S2x16x1920.size (by decide)).toLoadRect (harg1.unread x0)))) slices_S2x16x1_o0_0_0_S1x16x1)
    have a := a row_4
    refine Upto.load a ?_
    rfl
  have h6 : Upto 6 (i 0).val (rowScales (normB x0 x1)) xo4 (kernelRun0_B.sl.v309 (F := Ideal) c i arg1 harg1 arg2 harg2 arg5 harg5 x0 x1 xo4) :=
    by
    have a := h5.store hi (by decide) (Scalar.addi (Scalar.addi (Scalar.muli (BitVec.ofNat 32 (i 0).val) (BitVec.ofNat 32 20)) (BitVec.ofNat 32 4)) (BitVec.ofNat 32 1)) (word2 _ _ _) (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![4, 0, 0] S2x16x1920.size (by decide)).toLoadRect (harg1.unread x0)))) slices_S2x16x1_o1_0_0_S1x16x1)
    have a := a row_5
    refine Upto.load a ?_
    rfl
  have h7 : Upto 7 (i 0).val (rowScales (normB x0 x1)) xo4 (kernelRun0_B.sl.v323 (F := Ideal) c i arg1 harg1 arg2 harg2 arg5 harg5 x0 x1 xo4) :=
    by
    have a := h6.store hi (by decide) (Scalar.addi (Scalar.addi (Scalar.muli (BitVec.ofNat 32 (i 0).val) (BitVec.ofNat 32 20)) (BitVec.ofNat 32 6)) (BitVec.ofNat 32 0)) (word2 _ _ _) (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![6, 0, 0] S2x16x1920.size (by decide)).toLoadRect (harg1.unread x0)))) slices_S2x16x1_o0_0_0_S1x16x1)
    have a := a row_6
    refine Upto.load a ?_
    rfl
  have h8 : Upto 8 (i 0).val (rowScales (normB x0 x1)) xo4 (kernelRun0_B.sl.v389 (F := Ideal) c i arg1 harg1 arg2 harg2 arg5 harg5 x0 x1 xo4) :=
    by
    have a := h7.store hi (by decide) (Scalar.addi (Scalar.addi (Scalar.muli (BitVec.ofNat 32 (i 0).val) (BitVec.ofNat 32 20)) (BitVec.ofNat 32 6)) (BitVec.ofNat 32 1)) (word2 _ _ _) (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![6, 0, 0] S2x16x1920.size (by decide)).toLoadRect (harg1.unread x0)))) slices_S2x16x1_o1_0_0_S1x16x1)
    have a := a row_7
    refine Upto.load a ?_
    rfl
  have h9 : Upto 9 (i 0).val (rowScales (normB x0 x1)) xo4 (kernelRun0_B.sl.v403 (F := Ideal) c i arg1 harg1 arg2 harg2 arg5 harg5 x0 x1 xo4) :=
    by
    have a := h8.store hi (by decide) (Scalar.addi (Scalar.addi (Scalar.muli (BitVec.ofNat 32 (i 0).val) (BitVec.ofNat 32 20)) (BitVec.ofNat 32 8)) (BitVec.ofNat 32 0)) (word2 _ _ _) (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![8, 0, 0] S2x16x1920.size (by decide)).toLoadRect (harg1.unread x0)))) slices_S2x16x1_o0_0_0_S1x16x1)
    have a := a row_8
    refine Upto.load a ?_
    rfl
  have h10 : Upto 10 (i 0).val (rowScales (normB x0 x1)) xo4 (kernelRun0_B.sl.v469 (F := Ideal) c i arg1 harg1 arg2 harg2 arg5 harg5 x0 x1 xo4) :=
    by
    have a := h9.store hi (by decide) (Scalar.addi (Scalar.addi (Scalar.muli (BitVec.ofNat 32 (i 0).val) (BitVec.ofNat 32 20)) (BitVec.ofNat 32 8)) (BitVec.ofNat 32 1)) (word2 _ _ _) (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![8, 0, 0] S2x16x1920.size (by decide)).toLoadRect (harg1.unread x0)))) slices_S2x16x1_o1_0_0_S1x16x1)
    have a := a row_9
    refine Upto.load a ?_
    rfl
  have h11 : Upto 11 (i 0).val (rowScales (normB x0 x1)) xo4 (kernelRun0_B.sl.v483 (F := Ideal) c i arg1 harg1 arg2 harg2 arg5 harg5 x0 x1 xo4) :=
    by
    have a := h10.store hi (by decide) (Scalar.addi (Scalar.addi (Scalar.muli (BitVec.ofNat 32 (i 0).val) (BitVec.ofNat 32 20)) (BitVec.ofNat 32 10)) (BitVec.ofNat 32 0)) (word2 _ _ _) (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![10, 0, 0] S2x16x1920.size (by decide)).toLoadRect (harg1.unread x0)))) slices_S2x16x1_o0_0_0_S1x16x1)
    have a := a row_10
    refine Upto.load a ?_
    rfl
  have h12 : Upto 12 (i 0).val (rowScales (normB x0 x1)) xo4 (kernelRun0_B.sl.v549 (F := Ideal) c i arg1 harg1 arg2 harg2 arg5 harg5 x0 x1 xo4) :=
    by
    have a := h11.store hi (by decide) (Scalar.addi (Scalar.addi (Scalar.muli (BitVec.ofNat 32 (i 0).val) (BitVec.ofNat 32 20)) (BitVec.ofNat 32 10)) (BitVec.ofNat 32 1)) (word2 _ _ _) (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![10, 0, 0] S2x16x1920.size (by decide)).toLoadRect (harg1.unread x0)))) slices_S2x16x1_o1_0_0_S1x16x1)
    have a := a row_11
    refine Upto.load a ?_
    rfl
  have h13 : Upto 13 (i 0).val (rowScales (normB x0 x1)) xo4 (kernelRun0_B.sl.v563 (F := Ideal) c i arg1 harg1 arg2 harg2 arg5 harg5 x0 x1 xo4) :=
    by
    have a := h12.store hi (by decide) (Scalar.addi (Scalar.addi (Scalar.muli (BitVec.ofNat 32 (i 0).val) (BitVec.ofNat 32 20)) (BitVec.ofNat 32 12)) (BitVec.ofNat 32 0)) (word2 _ _ _) (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![12, 0, 0] S2x16x1920.size (by decide)).toLoadRect (harg1.unread x0)))) slices_S2x16x1_o0_0_0_S1x16x1)
    have a := a row_12
    refine Upto.load a ?_
    rfl
  have h14 : Upto 14 (i 0).val (rowScales (normB x0 x1)) xo4 (kernelRun0_B.sl.v629 (F := Ideal) c i arg1 harg1 arg2 harg2 arg5 harg5 x0 x1 xo4) :=
    by
    have a := h13.store hi (by decide) (Scalar.addi (Scalar.addi (Scalar.muli (BitVec.ofNat 32 (i 0).val) (BitVec.ofNat 32 20)) (BitVec.ofNat 32 12)) (BitVec.ofNat 32 1)) (word2 _ _ _) (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![12, 0, 0] S2x16x1920.size (by decide)).toLoadRect (harg1.unread x0)))) slices_S2x16x1_o1_0_0_S1x16x1)
    have a := a row_13
    refine Upto.load a ?_
    rfl
  have h15 : Upto 15 (i 0).val (rowScales (normB x0 x1)) xo4 (kernelRun0_B.sl.v643 (F := Ideal) c i arg1 harg1 arg2 harg2 arg5 harg5 x0 x1 xo4) :=
    by
    have a := h14.store hi (by decide) (Scalar.addi (Scalar.addi (Scalar.muli (BitVec.ofNat 32 (i 0).val) (BitVec.ofNat 32 20)) (BitVec.ofNat 32 14)) (BitVec.ofNat 32 0)) (word2 _ _ _) (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![14, 0, 0] S2x16x1920.size (by decide)).toLoadRect (harg1.unread x0)))) slices_S2x16x1_o0_0_0_S1x16x1)
    have a := a row_14
    refine Upto.load a ?_
    rfl
  have h16 : Upto 16 (i 0).val (rowScales (normB x0 x1)) xo4 (kernelRun0_B.sl.v709 (F := Ideal) c i arg1 harg1 arg2 harg2 arg5 harg5 x0 x1 xo4) :=
    by
    have a := h15.store hi (by decide) (Scalar.addi (Scalar.addi (Scalar.muli (BitVec.ofNat 32 (i 0).val) (BitVec.ofNat 32 20)) (BitVec.ofNat 32 14)) (BitVec.ofNat 32 1)) (word2 _ _ _) (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![14, 0, 0] S2x16x1920.size (by decide)).toLoadRect (harg1.unread x0)))) slices_S2x16x1_o1_0_0_S1x16x1)
    have a := a row_15
    refine Upto.load a ?_
    rfl
  have h17 : Upto 17 (i 0).val (rowScales (normB x0 x1)) xo4 (kernelRun0_B.sl.v723 (F := Ideal) c i arg1 harg1 arg2 harg2 arg5 harg5 x0 x1 xo4) :=
    by
    have a := h16.store hi (by decide) (Scalar.addi (Scalar.addi (Scalar.muli (BitVec.ofNat 32 (i 0).val) (BitVec.ofNat 32 20)) (BitVec.ofNat 32 16)) (BitVec.ofNat 32 0)) (word2 _ _ _) (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![16, 0, 0] S2x16x1920.size (by decide)).toLoadRect (harg1.unread x0)))) slices_S2x16x1_o0_0_0_S1x16x1)
    have a := a row_16
    refine Upto.load a ?_
    rfl
  have h18 : Upto 18 (i 0).val (rowScales (normB x0 x1)) xo4 (kernelRun0_B.sl.v789 (F := Ideal) c i arg1 harg1 arg2 harg2 arg5 harg5 x0 x1 xo4) :=
    by
    have a := h17.store hi (by decide) (Scalar.addi (Scalar.addi (Scalar.muli (BitVec.ofNat 32 (i 0).val) (BitVec.ofNat 32 20)) (BitVec.ofNat 32 16)) (BitVec.ofNat 32 1)) (word2 _ _ _) (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![16, 0, 0] S2x16x1920.size (by decide)).toLoadRect (harg1.unread x0)))) slices_S2x16x1_o1_0_0_S1x16x1)
    have a := a row_17
    refine Upto.load a ?_
    rfl
  have h19 : Upto 19 (i 0).val (rowScales (normB x0 x1)) xo4 (kernelRun0_B.sl.v803 (F := Ideal) c i arg1 harg1 arg2 harg2 arg5 harg5 x0 x1 xo4) :=
    by
    have a := h18.store hi (by decide) (Scalar.addi (Scalar.addi (Scalar.muli (BitVec.ofNat 32 (i 0).val) (BitVec.ofNat 32 20)) (BitVec.ofNat 32 18)) (BitVec.ofNat 32 0)) (word2 _ _ _) (extractStridedSlice S1x16x1 ![0, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![18, 0, 0] S2x16x1920.size (by decide)).toLoadRect (harg1.unread x0)))) slices_S2x16x1_o0_0_0_S1x16x1)
    have a := a row_18
    refine Upto.load a ?_
    rfl
  have a := h19.store hi (by decide) (Scalar.addi (Scalar.addi (Scalar.muli (BitVec.ofNat 32 (i 0).val) (BitVec.ofNat 32 20)) (BitVec.ofNat 32 18)) (BitVec.ofNat 32 1)) (word2 _ _ _) (extractStridedSlice S1x16x1 ![1, 0, 0] (k0_pay21 (F := Ideal) (k0_pay4 (F := Ideal) (View.readAt (Elt Ideal) arg2.view (Rect.unit (s := S6x16x1920) ![2, 0, 0] S1x16x1920.size (by decide)).toLoadRect (harg2.unread x1)) (View.readAt (Elt Ideal) arg2.view (Rect.unit (s := S6x16x1920) ![4, 0, 0] S1x16x1920.size (by decide)).toLoadRect (harg2.unread x1)) (View.readAt (Elt Ideal) arg1.view (Rect.unit (s := S20x16x1920) ![18, 0, 0] S2x16x1920.size (by decide)).toLoadRect (harg1.unread x0)))) slices_S2x16x1_o1_0_0_S1x16x1)
  have a := a row_19
  refine Upto.out a ?_
  rfl

end Cert.Ln1Ideal.Value
-- ==== Proof.LnWindows.lean ====
module

public import proofs.«01_k».proof.Proof.LnCodes
public import Idealize.ShloMosaic.Lib.Pipeline.ValueKit
public import Idealize.ShloMosaic.Lib.Pipeline.ReadBack
public import Idealize.ShloMosaic.Lib.Pointwise

/-!
# What one point of the grid leaves in each window
-/

set_option maxRecDepth 65536

@[expose] public section

noncomputable section

open Idealize.ShloMosaic Idealize.ShloMosaic.TcCoe Idealize.SL.Sem

namespace Cert.Ln1Ideal.Value

open Cert.Ln1Ideal Cert.Ln1Ideal.Gen

variable {i : grid0.Coords} {arg3 : Memref sig .tc .vmem S20x16x1920 .fp8e4m3} {harg3 : arg3.IsWhole} {arg4 : Memref
  sig .tc .vmem S320x1920 .fp8e4m3} {harg4 : arg4.IsWhole} {arg5 : Memref sig .tc .vmem S16x100 .f32} {harg5 : arg5.IsWhole}
  {arg6 : Memref sig .tc .vmem S320x128 .f32} {harg6 : arg6.IsWhole} {xo4 : FVec Ideal S16x100 .f32}
variable {c : Dev nD} {arg1 : Memref sig .tc .vmem S20x16x1920 .bf16} {harg1 : arg1.IsWhole} {arg2 : Memref sig .tc .vmem
  S6x16x1920 .f32} {harg2 : arg2.IsWhole} {x0 : FVec Ideal S20x16x1920 .bf16} {x1 : FVec Ideal S6x16x1920 .f32}

/-- The codes, by position (first point). -/
theorem pieces2_A (hc0 : cond0_0 i) :
    View.PiecesOf (Val := Elt Ideal) (e := .fp8e4m3) (codes3 (normB x0 x1)) (kernelRun0_A (F := Ideal) c i arg1 harg1 arg2 harg2 arg3 harg3 arg4 harg4 arg5 harg5 arg6 harg6 hc0 x0 x1).1 :=
  ⟨(chunk_norm 18 (by decide)).code3 rfl (by decide) (by decide),
    (chunk_norm 16 (by decide)).code3 rfl (by decide) (by decide),
    (chunk_norm 14 (by decide)).code3 rfl (by decide) (by decide),
    (chunk_norm 12 (by decide)).code3 rfl (by decide) (by decide),
    (chunk_norm 10 (by decide)).code3 rfl (by decide) (by decide),
    (chunk_norm 8 (by decide)).code3 rfl (by decide) (by decide),
    (chunk_norm 6 (by decide)).code3 rfl (by decide) (by decide),
    (chunk_norm 4 (by decide)).code3 rfl (by decide) (by decide),
    (chunk_norm 2 (by decide)).code3 rfl (by decide) (by decide),
    (chunk_norm 0 (by decide)).code3 rfl (by decide) (by decide), trivial⟩

theorem out2_A (hc0 : cond0_0 i) : out0_A_2 (F := Ideal) c i arg1 harg1 arg2 harg2 arg3 harg3 arg4 harg4 arg5 harg5 arg6 harg6 hc0 x0 x1 = codes3 (normB x0 x1) := by
  funext y
  unfold out0_A_2
  rw [View.read_writes_junk_eq_canon]
  exact View.canon_apply_of_pieces (codes3 (normB x0 x1)) _ (View.PiecesOf.mem (pieces2_A hc0)) y (cover0_A_2 (F := Ideal) c i arg1 harg1 arg2 harg2 arg3 harg3 arg4 harg4 arg5 harg5 arg6 harg6 hc0 x0 x1 y)

/-- The codes, as 320 rows (first point). -/
theorem pieces3_A (hc0 : cond0_0 i) :
    View.PiecesOf (Val := Elt Ideal) (e := .fp8e4m3) (codes2 (normB x0 x1)) (kernelRun0_A (F := Ideal) c i arg1 harg1 arg2 harg2 arg3 harg3 arg4 harg4 arg5 harg5 arg6 harg6 hc0 x0 x1).2.1 :=
  ⟨(chunk_norm 18 (by decide)).code2 (o' := 288) rfl (by decide) rfl (by decide),
    (chunk_norm 16 (by decide)).code2 (o' := 256) rfl (by decide) rfl (by decide),
    (chunk_norm 14 (by decide)).code2 (o' := 224) rfl (by decide) rfl (by decide),
    (chunk_norm 12 (by decide)).code2 (o' := 192) rfl (by decide) rfl (by decide),
    (chunk_norm 10 (by decide)).code2 (o' := 160) rfl (by decide) rfl (by decide),
    (chunk_norm 8 (by decide)).code2 (o' := 128) rfl (by decide) rfl (by decide),
    (chunk_norm 6 (by decide)).code2 (o' := 96) rfl (by decide) rfl (by decide),
    (chunk_norm 4 (by decide)).code2 (o' := 64) rfl (by decide) rfl (by decide),
    (chunk_norm 2 (by decide)).code2 (o' := 32) rfl (by decide) rfl (by decide),
    (chunk_norm 0 (by decide)).code2 (o' := 0) rfl (by decide) rfl (by decide), trivial⟩

theorem out3_A (hc0 : cond0_0 i) : out0_A_3 (F := Ideal) c i arg1 harg1 arg2 harg2 arg3 harg3 arg4 harg4 arg5 harg5 arg6 harg6 hc0 x0 x1 = codes2 (normB x0 x1) := by
  funext y
  unfold out0_A_3
  rw [View.read_writes_junk_eq_canon]
  exact View.canon_apply_of_pieces (codes2 (normB x0 x1)) _ (View.PiecesOf.mem (pieces3_A hc0)) y (cover0_A_3 (F := Ideal) c i arg1 harg1 arg2 harg2 arg3 harg3 arg4 harg4 arg5 harg5 arg6 harg6 hc0 x0 x1 y)

/-- The scales, as 320 rows (first point). -/
theorem pieces5_A (hc0 : cond0_0 i) :
    View.PiecesOf (Val := Elt Ideal) (e := .f32) (scales2 (normB x0 x1)) (kernelRun0_A (F := Ideal) c i arg1 harg1 arg2 harg2 arg3 harg3 arg4 harg4 arg5 harg5 arg6 harg6 hc0 x0 x1).2.2.2 :=
  ⟨(chunk_norm 18 (by decide)).scale2 (o' := 288) rfl (by decide) rfl (by decide),
    (chunk_norm 16 (by decide)).scale2 (o' := 256) rfl (by decide) rfl (by decide),
    (chunk_norm 14 (by decide)).scale2 (o' := 224) rfl (by decide) rfl (by decide),
    (chunk_norm 12 (by decide)).scale2 (o' := 192) rfl (by decide) rfl (by decide),
    (chunk_norm 10 (by decide)).scale2 (o' := 160) rfl (by decide) rfl (by decide),
    (chunk_norm 8 (by decide)).scale2 (o' := 128) rfl (by decide) rfl (by decide),
    (chunk_norm 6 (by decide)).scale2 (o' := 96) rfl (by decide) rfl (by decide),
    (chunk_norm 4 (by decide)).scale2 (o' := 64) rfl (by decide) rfl (by decide),
    (chunk_norm 2 (by decide)).scale2 (o' := 32) rfl (by decide) rfl (by decide),
    (chunk_norm 0 (by decide)).scale2 (o' := 0) rfl (by decide) rfl (by decide), trivial⟩

theorem out5_A (hc0 : cond0_0 i) : out0_A_5 (F := Ideal) c i arg1 harg1 arg2 harg2 arg3 harg3 arg4 harg4 arg5 harg5 arg6 harg6 hc0 x0 x1 = scales2 (normB x0 x1) := by
  funext y
  unfold out0_A_5
  rw [View.read_writes_junk_eq_canon]
  exact View.canon_apply_of_pieces (scales2 (normB x0 x1)) _ (View.PiecesOf.mem (pieces5_A hc0)) y (cover0_A_5 (F := Ideal) c i arg1 harg1 arg2 harg2 arg3 harg3 arg4 harg4 arg5 harg5 arg6 harg6 hc0 x0 x1 y)

/-- The codes, by position. -/
theorem pieces2_B (hc0 : ¬cond0_0 i) :
    View.PiecesOf (Val := Elt Ideal) (e := .fp8e4m3) (codes3 (normB x0 x1)) (kernelRun0_B (F := Ideal) c i arg1 harg1 arg2 harg2 arg3 harg3 arg4 harg4 arg5 harg5 arg6 harg6 hc0 x0 x1 xo4).1 :=
  ⟨(chunk_norm 18 (by decide)).code3 rfl (by decide) (by decide),
    (chunk_norm 16 (by decide)).code3 rfl (by decide) (by decide),
    (chunk_norm 14 (by decide)).code3 rfl (by decide) (by decide),
    (chunk_norm 12 (by decide)).code3 rfl (by decide) (by decide),
    (chunk_norm 10 (by decide)).code3 rfl (by decide) (by decide),
    (chunk_norm 8 (by decide)).code3 rfl (by decide) (by decide),
    (chunk_norm 6 (by decide)).code3 rfl (by decide) (by decide),
    (chunk_norm 4 (by decide)).code3 rfl (by decide) (by decide),
    (chunk_norm 2 (by decide)).code3 rfl (by decide) (by decide),
    (chunk_norm 0 (by decide)).code3 rfl (by decide) (by decide), trivial⟩

theorem out2_B (hc0 : ¬cond0_0 i) : out0_B_2 (F := Ideal) c i arg1 harg1 arg2 harg2 arg3 harg3 arg4 harg4 arg5 harg5 arg6 harg6 hc0 x0 x1 xo4 = codes3 (normB x0 x1) := by
  funext y
  unfold out0_B_2
  rw [View.read_writes_junk_eq_canon]
  exact View.canon_apply_of_pieces (codes3 (normB x0 x1)) _ (View.PiecesOf.mem (pieces2_B hc0)) y (cover0_B_2 (F := Ideal) c i arg1 harg1 arg2 harg2 arg3 harg3 arg4 harg4 arg5 harg5 arg6 harg6 hc0 x0 x1 xo4 y)

/-- The codes, as 320 rows. -/
theorem pieces3_B (hc0 : ¬cond0_0 i) :
    View.PiecesOf (Val := Elt Ideal) (e := .fp8e4m3) (codes2 (normB x0 x1)) (kernelRun0_B (F := Ideal) c i arg1 harg1 arg2 harg2 arg3 harg3 arg4 harg4 arg5 harg5 arg6 harg6 hc0 x0 x1 xo4).2.1 :=
  ⟨(chunk_norm 18 (by decide)).code2 (o' := 288) rfl (by decide) rfl (by decide),
    (chunk_norm 16 (by decide)).code2 (o' := 256) rfl (by decide) rfl (by decide),
    (chunk_norm 14 (by decide)).code2 (o' := 224) rfl (by decide) rfl (by decide),
    (chunk_norm 12 (by decide)).code2 (o' := 192) rfl (by decide) rfl (by decide),
    (chunk_norm 10 (by decide)).code2 (o' := 160) rfl (by decide) rfl (by decide),
    (chunk_norm 8 (by decide)).code2 (o' := 128) rfl (by decide) rfl (by decide),
    (chunk_norm 6 (by decide)).code2 (o' := 96) rfl (by decide) rfl (by decide),
    (chunk_norm 4 (by decide)).code2 (o' := 64) rfl (by decide) rfl (by decide),
    (chunk_norm 2 (by decide)).code2 (o' := 32) rfl (by decide) rfl (by decide),
    (chunk_norm 0 (by decide)).code2 (o' := 0) rfl (by decide) rfl (by decide), trivial⟩

theorem out3_B (hc0 : ¬cond0_0 i) : out0_B_3 (F := Ideal) c i arg1 harg1 arg2 harg2 arg3 harg3 arg4 harg4 arg5 harg5 arg6 harg6 hc0 x0 x1 xo4 = codes2 (normB x0 x1) := by
  funext y
  unfold out0_B_3
  rw [View.read_writes_junk_eq_canon]
  exact View.canon_apply_of_pieces (codes2 (normB x0 x1)) _ (View.PiecesOf.mem (pieces3_B hc0)) y (cover0_B_3 (F := Ideal) c i arg1 harg1 arg2 harg2 arg3 harg3 arg4 harg4 arg5 harg5 arg6 harg6 hc0 x0 x1 xo4 y)

/-- The scales, as 320 rows. -/
theorem pieces5_B (hc0 : ¬cond0_0 i) :
    View.PiecesOf (Val := Elt Ideal) (e := .f32) (scales2 (normB x0 x1)) (kernelRun0_B (F := Ideal) c i arg1 harg1 arg2 harg2 arg3 harg3 arg4 harg4 arg5 harg5 arg6 harg6 hc0 x0 x1 xo4).2.2.2 :=
  ⟨(chunk_norm 18 (by decide)).scale2 (o' := 288) rfl (by decide) rfl (by decide),
    (chunk_norm 16 (by decide)).scale2 (o' := 256) rfl (by decide) rfl (by decide),
    (chunk_norm 14 (by decide)).scale2 (o' := 224) rfl (by decide) rfl (by decide),
    (chunk_norm 12 (by decide)).scale2 (o' := 192) rfl (by decide) rfl (by decide),
    (chunk_norm 10 (by decide)).scale2 (o' := 160) rfl (by decide) rfl (by decide),
    (chunk_norm 8 (by decide)).scale2 (o' := 128) rfl (by decide) rfl (by decide),
    (chunk_norm 6 (by decide)).scale2 (o' := 96) rfl (by decide) rfl (by decide),
    (chunk_norm 4 (by decide)).scale2 (o' := 64) rfl (by decide) rfl (by decide),
    (chunk_norm 2 (by decide)).scale2 (o' := 32) rfl (by decide) rfl (by decide),
    (chunk_norm 0 (by decide)).scale2 (o' := 0) rfl (by decide) rfl (by decide), trivial⟩

theorem out5_B (hc0 : ¬cond0_0 i) : out0_B_5 (F := Ideal) c i arg1 harg1 arg2 harg2 arg3 harg3 arg4 harg4 arg5 harg5 arg6 harg6 hc0 x0 x1 xo4 = scales2 (normB x0 x1) := by
  funext y
  unfold out0_B_5
  rw [View.read_writes_junk_eq_canon]
  exact View.canon_apply_of_pieces (scales2 (normB x0 x1)) _ (View.PiecesOf.mem (pieces5_B hc0)) y (cover0_B_5 (F := Ideal) c i arg1 harg1 arg2 harg2 arg3 harg3 arg4 harg4 arg5 harg5 arg6 harg6 hc0 x0 x1 xo4 y)

end Cert.Ln1Ideal.Value
-- ==== Proof.LnArrays.lean ====
module

public import proofs.«01_k».proof.Proof.LnScales
public import proofs.«01_k».proof.Proof.LnWindows
public import Idealize.ShloMosaic.Lib.Pipeline.ValueKit
public import Idealize.ShloMosaic.Lib.Pipeline.ReadBack
public import Idealize.ShloMosaic.Lib.Pointwise

/-!
# The first layer norm's arrays after the run

The block of every point is read from the arguments; what the points leave in the windows, written back, makes up the
arrays. The table of scales is carried from point to point: after point `t` its first `20·(t + 1)` columns hold the scales
of the tokens at these positions.
-/

set_option maxRecDepth 65536

@[expose] public section

noncomputable section

open Idealize.ShloMosaic Idealize.ShloMosaic.TcCoe Idealize.SL.Sem

namespace Cert.Ln1Ideal.Value

open Cert.Ln1Ideal Cert.Ln1Ideal.Gen

variable (m : (ℓ : Loc nD τ sig) → Buf (Elt Ideal) ℓ) (c : Dev nD)

/-- The arguments, read from the kernel's. -/
def argsOf : Row.LnArgs where
  x p r k := m ((c : Thread nD τ).loc main_arg0) (ix3 r p k)
  ada q r k := m ((c : Thread nD τ).loc main_arg1) (ix3 r q k)

theorem idx : ∀ t : Fin cfg0.N, win0_0.index t = ![t.val, 0, 0] ∧ win0_1.index t = ![0, 0, 0] ∧ win0_2.index t = ![t.val, 0, 0]
    ∧ win0_3.index t = ![t.val, 0] ∧ win0_4.index t = ![0, 0] ∧ win0_5.index t = ![t.val, 0] ∧ (grid0.coords t 0).val = t.val ∧ t.val < 5 :=
  (by decide +kernel : ∀ t : Fin grid0.N, _)

/-- The position of the `p`-th of the twenty positions of point `t`. -/
def tok (t : Fin cfg0.N) (p : Fin 20) : Fin 100 := ⟨t.val * 20 + p.val, by have := t.isLt; change _ < 5 at this; omega⟩

/-- The number of the `q`-th of the 320 tokens of point `t`. -/
def flat (t : Fin cfg0.N) (q : Fin 320) : Fin 1600 := ⟨t.val * 320 + q.val, by have := t.isLt; change _ < 5 at this; omega⟩

theorem blk0 (t : Fin cfg0.N) (p : Fin 20) (r : Fin 16) (k : Fin 1920) : iblk m c 0 t (ix3 p r k) = (argsOf m c).x (tok t p) r k := by
  unfold argsOf tok
  blk_simp [iblk, idx t]
  entry_read
  pointwise
  blk_ext [idx t]

theorem blk1 (t : Fin cfg0.N) (p : Fin 6) (r : Fin 16) (k : Fin 1920) : iblk m c 1 t (ix3 p r k) = (argsOf m c).ada p r k := by
  unfold argsOf
  blk_simp [iblk, idx t]
  entry_read
  pointwise
  blk_ext [idx t]

theorem norm_blk (t : Fin cfg0.N) (p : Fin 20) (r : Fin 16) (k : Fin 1920) :
    normB (iblk m c 0 t) (iblk m c 1 t) (ix3 p r k) = (argsOf m c).norm (tok t p) r k := by
  unfold normB Row.LnArgs.norm
  simp only [ix3_0, ix3_1, ix3_2]
  have a0 : (fun k => iblk m c 0 t (ix3 p r k)) = (argsOf m c).x (tok t p) r := funext fun k => blk0 m c t p r k
  have a1 : (fun k => iblk m c 1 t (ix3 2 r k)) = (argsOf m c).ada 2 r := funext fun k => blk1 m c t 2 r k
  have a2 : (fun k => iblk m c 1 t (ix3 4 r k)) = (argsOf m c).ada 4 r := funext fun k => blk1 m c t 4 r k
  exact congrFun (congr (congr (congrArg Row.norm a0) a1) a2) k

theorem outs2 (t : Fin cfg0.N) : (outsAt0 m c t.val t.isLt).1 = codes3 (normB (iblk m c 0 t) (iblk m c 1 t)) := by
  by_cases h : t.val % 5 = 0
  · rw [outsAt0_A m c t h]; dsimp only; rw [out2_A]
  · rw [outsAt0_B m c t h]; dsimp only; rw [out2_B]

theorem outs3 (t : Fin cfg0.N) : (outsAt0 m c t.val t.isLt).2.1 = codes2 (normB (iblk m c 0 t) (iblk m c 1 t)) := by
  by_cases h : t.val % 5 = 0
  · rw [outsAt0_A m c t h]; dsimp only; rw [out3_A]
  · rw [outsAt0_B m c t h]; dsimp only; rw [out3_B]

theorem outs5 (t : Fin cfg0.N) : (outsAt0 m c t.val t.isLt).2.2.2 = scales2 (normB (iblk m c 0 t) (iblk m c 1 t)) := by
  by_cases h : t.val % 5 = 0
  · rw [outsAt0_A m c t h]; dsimp only; rw [out5_A]
  · rw [outsAt0_B m c t h]; dsimp only; rw [out5_B]

theorem at2 (t : Fin cfg0.N) (p : Fin 20) (r : Fin 16) (n : Fin 1920) : codes3 (normB (iblk m c 0 t) (iblk m c 1 t)) (ix3 p r n) = (argsOf m c).codes (ix3 (tok t p) r n) := by
  unfold codes3 Row.LnArgs.codes
  simp only [ix3_0, ix3_1, ix3_2]
  exact congrArg (fun v => Row.code v n) (funext fun k => norm_blk m c t p r k)

theorem emb2' (t : Fin cfg0.N) (p : Fin 20) (r : Fin 16) (n : Fin 1920) : ((cfg0.win 2).blk t).view.emb (ix3 p r n) = (ix3 (tok t p) r n : S100x16x1920.Idx) := by
  unfold tok
  blk_ext [idx t]

theorem arr2 : (dats m 0 c).arrAt 2 cfg0.N = (argsOf m c).codes := by
  refine (dats m 0 c).arrAt_eq_of_covers 2 _ (by decide +kernel) fun t hf y => ?_
  blk_simp
  rw [after0_2, outs2]
  idx_vars y
  rw [at2]
  exact congrArg (argsOf m c).codes (emb2' t y0 y1 y2).symm

/-- The layer norm of the `q`-th token of a point. -/
theorem norm_flat (t : Fin cfg0.N) (q : Fin 320) (h1 h2) (k : Fin 1920) :
    normB (iblk m c 0 t) (iblk m c 1 t) (ix3 (⟨q / 16, h1⟩ : Fin 20) (⟨q % 16, h2⟩ : Fin 16) k) = (argsOf m c).norm (Row.posOf (flat t q)) (Row.rowOf (flat t q)) k := by
  rw [norm_blk]
  refine congrArg₂ (fun p r => (argsOf m c).norm p r k) (Fin.ext ?_) (Fin.ext ?_)
  · change t.val * 20 + q.val / 16 = (t.val * 320 + q.val) / 16
    omega
  · change q.val % 16 = (t.val * 320 + q.val) % 16
    omega

theorem at3 (t : Fin cfg0.N) (q : Fin 320) (n : Fin 1920) : codes2 (normB (iblk m c 0 t) (iblk m c 1 t)) (ix2 q n) = (argsOf m c).flatCodes (ix2 (flat t q) n) := by
  unfold codes2 Row.LnArgs.flatCodes
  simp only [ix2_0, ix2_1]
  exact congrArg (fun v => Row.code v n) (funext fun k => norm_flat m c t q _ _ k)

theorem emb3' (t : Fin cfg0.N) (q : Fin 320) (n : Fin 1920) : ((cfg0.win 3).blk t).view.emb (ix2 q n) = (ix2 (flat t q) n : S1600x1920.Idx) := by
  unfold flat
  blk_ext [idx t]

theorem arr3 : (dats m 0 c).arrAt 3 cfg0.N = (argsOf m c).flatCodes := by
  refine (dats m 0 c).arrAt_eq_of_covers 3 _ (by decide +kernel) fun t hf y => ?_
  blk_simp
  rw [after0_3, outs3]
  idx_vars y
  rw [at3]
  exact congrArg (argsOf m c).flatCodes (emb3' t y0 y1).symm

theorem at5 (t : Fin cfg0.N) (q : Fin 320) (l : Fin 128) : scales2 (normB (iblk m c 0 t) (iblk m c 1 t)) (ix2 q l) = (argsOf m c).laneScales (ix2 (flat t q) l) := by
  unfold scales2 Row.LnArgs.laneScales
  simp only [ix2_0, ix2_1]
  exact congrArg Row.scale (funext fun k => norm_flat m c t q _ _ k)

theorem emb5' (t : Fin cfg0.N) (q : Fin 320) (l : Fin 128) : ((cfg0.win 5).blk t).view.emb (ix2 q l) = (ix2 (flat t q) l : S1600x128.Idx) := by
  unfold flat
  blk_ext [idx t]

theorem arr5 : (dats m 0 c).arrAt 5 cfg0.N = (argsOf m c).laneScales := by
  refine (dats m 0 c).arrAt_eq_of_covers 5 _ (by decide +kernel) fun t hf y => ?_
  blk_simp
  rw [after0_5, outs5]
  idx_vars y
  rw [at5]
  exact congrArg (argsOf m c).laneScales (emb5' t y0 y1).symm

/-! ### The table of scales -/

/-- What each point adds to the table makes up the table. -/
theorem table_all (X : ∀ n, n < cfg0.N → FVec Ideal S16x100 .f32) (g : Fin 100 → Fin 16 → EReal) (f : Fin cfg0.N → Fin 20 → Fin 16 → EReal)
    (hf : ∀ t p r, f t p r = g (tok t p) r) (old : FVec Ideal S16x100 .f32)
    (hA : ∀ t : Fin cfg0.N, t.val % 5 = 0 → Upto 20 (grid0.coords t 0).val (f t) old (X t.val t.isLt))
    (hB : ∀ t : Fin cfg0.N, ¬t.val % 5 = 0 → Upto 20 (grid0.coords t 0).val (f t) (X (t.val - 1) (Nat.lt_of_le_of_lt (Nat.sub_le _ _) t.isLt)) (X t.val t.isLt)) :
    ∀ (n : ℕ) (h : n < cfg0.N) (r : Fin 16) (l : Fin 100), l.val < 20 * (n + 1) → X n h (ix2 r l) = g l r := by
  intro n
  induction n with
  | zero =>
    intro h r l hl
    have ht := (idx ⟨0, h⟩).2.2.2.2.2.2.1
    refine ((hA ⟨0, h⟩ rfl r l).1 ⟨l.val, by omega⟩ (by show l.val < 20; omega) (by rw [ht]; show l.val = 20 * 0 + l.val; omega)).trans ?_
    rw [hf]
    exact congrArg (fun l => g l r) (Fin.ext (show 0 * 20 + l.val = l.val by omega))
  | succ n ih =>
    intro h r l hl
    have hN : n + 1 < 5 := h
    have ht := (idx ⟨n + 1, h⟩).2.2.2.2.2.2.1
    have hb := hB ⟨n + 1, h⟩ (show ¬(n + 1) % 5 = 0 by omega) r l
    rw [ht] at hb
    by_cases hc : l.val < 20 * (n + 1)
    · exact (hb.2 (Or.inl hc)).trans (ih _ r l hc)
    · refine (hb.1 ⟨l.val - 20 * (n + 1), by omega⟩ (by show l.val - 20 * (n + 1) < 20; omega) (by show l.val = 20 * (n + 1) + (l.val - 20 * (n + 1)); omega)).trans ?_
      rw [hf]
      exact congrArg (fun l => g l r) (Fin.ext (show (n + 1) * 20 + (l.val - 20 * (n + 1)) = l.val by omega))

theorem all4 : ∀ (n : ℕ) (h : n < cfg0.N) (r : Fin 16) (l : Fin 100), l.val < 20 * (n + 1) → (outsAt0 m c n h).2.2.1 (ix2 r l) = Row.scale ((argsOf m c).norm l r) := by
  refine table_all (fun n h => (outsAt0 m c n h).2.2.1) (fun l r => Row.scale ((argsOf m c).norm l r)) (fun t => rowScales (normB (iblk m c 0 t) (iblk m c 1 t))) (fun t p r => ?_) (k0_pay1 (F := Ideal)) (fun t h => ?_) (fun t h => ?_)
  · exact congrArg Row.scale (funext fun k => norm_blk m c t p r k)
  · have hi := (idx t).2.2.2.2.2.2
    rw [outsAt0_A m c t h]
    dsimp only
    exact table_A _ (by rw [hi.1]; exact hi.2)
  · have hi := (idx t).2.2.2.2.2.2
    rw [outsAt0_B m c t h]
    dsimp only
    exact table_B _ (by rw [hi.1]; exact hi.2)

theorem arr4 : (dats m 0 c).arrAt 4 cfg0.N = (argsOf m c).scales := by
  refine (dats m 0 c).arrAt_eq_of_after_last 4 t0_4 (by decide +kernel) _ fun j => ?_
  blk_simp
  rw [after0_4]
  idx_vars j
  exact (all4 m c 4 _ j0 j1 (by omega)).trans rfl

end Cert.Ln1Ideal.Value
-- ==== Proof.LnRef.lean ====
module

public import proofs.«01_k».proof.Proof.Gen.Ln1RefIdeal.Value
public import proofs.«01_k».proof.Proof.LnSpec
public import Idealize.ShloMosaic.Lib.Pipeline.ValueKit
public import Idealize.ShloMosaic.Lib.Pipeline.ReadBack
public import Idealize.ShloMosaic.Lib.Pointwise

/-!
# The reference's first layer norm

The reference computes it in one piece; here each stage is read at an index, and the arrays after the run are named.
-/

set_option maxRecDepth 65536

@[expose] public section

noncomputable section

open Idealize.ShloMosaic Idealize.ShloMosaic.TcCoe Idealize.SL.Sem

namespace Cert.Ln1RefIdeal.Value

open Cert.Ln1RefIdeal Cert.Ln1RefIdeal.Gen

/-- The maximum along the last axis of a rank-three array. -/
theorem lastMax {n0 n1 n2 : ℕ} (v : FVec Ideal ⟨3, ![n0, n1, n2]⟩ .f32) (h : Shape.Reduces ⟨3, ![n0, n1, n2]⟩ [2] ⟨2, ![n0, n1]⟩)
    (hφ : FKind.Formats .f32) (hacc : 0xFF800000#32 = FKind.maximumf.neutral .f32 hφ) (p : Fin n0) (r : Fin n1) :
    multiReduction (F := Ideal) (φ := .f32) .maximumf [2] ⟨2, ![n0, n1]⟩ v 0xFF800000#32 h hφ hacc (ix2 p r)
      = Finset.univ.fold max (Ideal.ofBits .f32 0xFF800000#32) fun k : Fin n2 => v (ix3 p r k) := by
  simp only [pointwise]

/-- A row's scale from its largest absolute value. -/
theorem scaleOf_at (A : FVec Ideal S100x16x1 .f32) (p : Fin 100) (r : Fin 16) (z : Fin 1) :
    select (cmpf (F := Ideal) .oeq A (broadcast S100x16x1 (Scalar.ofBits .f32 0x00000000#32))) (broadcast S100x16x1 (Scalar.ofBits (F := Ideal) .f32 0x3F800000#32))
      (divf (F := Ideal) A (broadcast S100x16x1 (Scalar.ofBits .f32 0x43E00000#32))) (ix3 p r z) = Row.scaleOf (A (ix3 p r z)) := by
  pointwise
  rfl

/-- A column of row values. -/
theorem column_at (M : FVec Ideal S100x16 .f32) (p : Fin 100) (r : Fin 16) (z : Fin 1) :
    shapeCast S100x16x1 M shapeCasts_S100x16_S100x16x1 (ix3 p r z) = M (ix2 p r) := by
  pointwise

/-- The modulated layer norm. -/
theorem norm_at (gain shift : Vec Ideal S1x16x1920 .f32) (X : Vec Ideal S100x16x1920 .bf16) (p : Fin 100) (r : Fin 16) (k : Fin 1920) :
    k0_pay5 (F := Ideal) gain shift X (ix3 p r k)
      = Row.norm (fun k => X (ix3 p r k)) (fun k => gain (ix3 0 r k)) (fun k => shift (ix3 0 r k)) k := by
  pointwise [k0_pay5]
  simp only [Row.norm, Row.mean]

/-- Its scales. -/
theorem scale_at (gain shift : Vec Ideal S1x16x1920 .f32) (X : Vec Ideal S100x16x1920 .bf16) (p : Fin 100) (r : Fin 16) (z : Fin 1) :
    k0_pay6 (F := Ideal) gain shift X (ix3 p r z) = Row.scale fun k => k0_pay5 (F := Ideal) gain shift X (ix3 p r k) := by
  unfold k0_pay6
  generalize k0_pay5 (F := Ideal) gain shift X = V
  have h := lastMax (absf V) reduces_S100x16x1920_S100x16 (.inl rfl) rfl p r
  have h' := column_at (multiReduction (F := Ideal) .maximumf [2] S100x16 (absf V) 0xFF800000#32 reduces_S100x16x1920_S100x16 (.inl rfl) rfl) p r z
  have h'' := scaleOf_at (shapeCast S100x16x1 (multiReduction (F := Ideal) .maximumf [2] S100x16 (absf V) 0xFF800000#32
      reduces_S100x16x1920_S100x16 (.inl rfl) rfl) shapeCasts_S100x16_S100x16x1) p r z
  exact h''.trans (congrArg Row.scaleOf (h'.trans h))

theorem wide_at (gain shift : Vec Ideal S1x16x1920 .f32) (X : Vec Ideal S100x16x1920 .bf16) (p : Fin 100) (r : Fin 16) (k : Fin 1920) :
    k0_pay7 (F := Ideal) gain shift X (ix3 p r k) = k0_pay6 (F := Ideal) gain shift X (ix3 p r 0) := by
  unfold k0_pay7
  generalize k0_pay6 (F := Ideal) gain shift X = S
  pointwise

/-- Its codes, from the values and the scales. -/
theorem code_at (V S : FVec Ideal S100x16x1920 .f32) (p : Fin 100) (r : Fin 16) (k : Fin 1920) :
    k0_pay1 (F := Ideal) V S (ix3 p r k) = Row.clip (Ideal.div (V (ix3 p r k)) (S (ix3 p r k))) := by
  pointwise [k0_pay1]
  rfl

theorem flat_at (V S : FVec Ideal S100x16x1920 .f32) (q : Fin 1600) (k : Fin 1920) :
    k0_pay2 (F := Ideal) V S (ix2 q k) = k0_pay1 (F := Ideal) V S (ix3 (Row.posOf q) (Row.rowOf q) k) := by
  unfold k0_pay2 Row.posOf Row.rowOf
  generalize k0_pay1 (F := Ideal) V S = C
  pointwise

theorem byrow_at (S : FVec Ideal S100x16x1 .f32) (r : Fin 16) (p : Fin 100) : k0_pay3 (F := Ideal) S (ix2 r p) = S (ix3 p r 0) := by
  pointwise [k0_pay3]

theorem lanes_at (S : FVec Ideal S100x16x1 .f32) (q : Fin 1600) (l : Fin 128) : k0_pay4 (F := Ideal) S (ix2 q l) = S (ix3 (Row.posOf q) (Row.rowOf q) 0) := by
  unfold Row.posOf Row.rowOf
  pointwise [k0_pay4]

/-- Where an index of a box of three-dimensional shape lies in the whole. -/
theorem emb3 {n0 n1 n2 m0 m1 m2 : ℕ} (o0 o1 o2 : ℕ) (inb) (a : Fin m0) (b : Fin m1) (c : Fin m2) (i : Fin n0) (j : Fin n1) (k : Fin n2)
    (hi : i.val = o0 + a) (hj : j.val = o1 + b) (hk : k.val = o2 + c) :
    (Rect.unit (s := (⟨3, ![n0, n1, n2]⟩ : Shape)) ![o0, o1, o2] ![m0, m1, m2] inb).idx (ix3 a b c) = ix3 i j k :=
  funext fun d => Fin.ext <| (Rect.idx_unit_val _ _ inb _ d).trans <| by
    fin_cases d
    · exact hi.symm
    · exact hj.symm
    · exact hk.symm

/-- One of the six rows of modulation, loaded. -/
theorem ld_row (x2 : Vec Ideal S6x16x1920 .f32) (o : ℕ) (ho : o < 6) (inb : ∀ a, ![o, 0, 0] a + S1x16x1920.size a ≤ S6x16x1920.size a) (r : Fin 16) (k : Fin 1920) :
    View.ld (Val := Elt Ideal) (e' := .f32) x2 (Rect.unit (s := S6x16x1920) ![o, 0, 0] S1x16x1920.size inb) (ix3 0 r k) = x2 (ix3 ⟨o, ho⟩ r k) :=
  congrArg x2 (emb3 (n0 := 6) (n1 := 16) (n2 := 1920) o 0 0 inb 0 r k ⟨o, ho⟩ r k rfl (Nat.zero_add _).symm (Nat.zero_add _).symm)

/-- A whole block, loaded. -/
theorem ld_whole3 {n0 n1 n2 : ℕ} {e : EltTy} (x : (⟨3, ![n0, n1, n2]⟩ : Shape).Idx → Elt Ideal e) (inb) (a : Fin n0) (b : Fin n1) (c : Fin n2) :
    View.ld (Val := Elt Ideal) x (Rect.unit (s := ⟨3, ![n0, n1, n2]⟩) ![0, 0, 0] ![n0, n1, n2] inb) (ix3 a b c) = x (ix3 a b c) :=
  congrArg x (emb3 0 0 0 inb a b c a b c (Nat.zero_add _).symm (Nat.zero_add _).symm (Nat.zero_add _).symm)

/-! ### The arrays after the run -/

variable (m : (ℓ : Loc nD τ sig) → Buf (Elt Ideal) ℓ) (c : Dev nD)

/-- The arguments, read from the reference's. -/
def argsOf : Row.LnArgs where
  x p r k := m ((c : Thread nD τ).loc main_arg0) (ix3 r p k)
  ada q r k := m ((c : Thread nD τ).loc main_arg1) (ix3 r q k)

theorem idx : ∀ t : Fin cfg0.N, win0_0.index t = ![0, 0, 0] ∧ win0_1.index t = ![0, 0, 0] ∧ win0_2.index t = ![0, 0, 0]
    ∧ win0_3.index t = ![0, 0] ∧ win0_4.index t = ![0, 0] ∧ win0_5.index t = ![0, 0] ∧ t.val = 0 :=
  (by decide +kernel : ∀ t : Fin grid0.N, _)

theorem blk0 (t : Fin cfg0.N) (p : Fin 100) (r : Fin 16) (k : Fin 1920) : iblk m c 0 t (ix3 p r k) = (argsOf m c).x p r k := by
  unfold argsOf
  blk_simp [iblk, idx t]
  entry_read
  pointwise
  blk_ext [idx t]

theorem blk1 (t : Fin cfg0.N) (p : Fin 6) (r : Fin 16) (k : Fin 1920) : iblk m c 1 t (ix3 p r k) = (argsOf m c).ada p r k := by
  unfold argsOf
  blk_simp [iblk, idx t]
  entry_read
  pointwise
  blk_ext [idx t]

theorem norm_of (t : Fin cfg0.N) (p : Fin 100) (r : Fin 16) (k : Fin 1920) :
    k0_pay8 (F := Ideal) (iblk m c 0 t) (iblk m c 1 t) (ix3 p r k) = (argsOf m c).norm p r k := by
  unfold k0_pay8
  rw [norm_at]
  have a0 := funext fun k => (ld_whole3 (n0 := 100) (n1 := 16) (n2 := 1920) (e := .bf16) (iblk m c 0 t) inb_S100x16x1920_S100x16x1920_0_0_0 p r k).trans (blk0 m c t p r k)
  have a1 := funext fun k => (ld_row (iblk m c 1 t) 2 (by decide) inb_S6x16x1920_S1x16x1920_2_0_0 r k).trans (blk1 m c t 2 r k)
  have a2 := funext fun k => (ld_row (iblk m c 1 t) 4 (by decide) inb_S6x16x1920_S1x16x1920_4_0_0 r k).trans (blk1 m c t 4 r k)
  exact congrFun (congr (congr (congrArg Row.norm a0) a1) a2) k

theorem scale_of (t : Fin cfg0.N) (p : Fin 100) (r : Fin 16) (z : Fin 1) :
    k0_pay9 (F := Ideal) (iblk m c 0 t) (iblk m c 1 t) (ix3 p r z) = Row.scale ((argsOf m c).norm p r) := by
  unfold k0_pay9
  rw [scale_at]
  exact congrArg Row.scale (funext fun k => norm_of m c t p r k)

theorem code_of (t : Fin cfg0.N) (p : Fin 100) (r : Fin 16) (k : Fin 1920) :
    k0_pay1 (F := Ideal) (k0_pay8 (F := Ideal) (iblk m c 0 t) (iblk m c 1 t)) (k0_pay10 (F := Ideal) (iblk m c 0 t) (iblk m c 1 t)) (ix3 p r k)
      = Row.code ((argsOf m c).norm p r) k := by
  have h : k0_pay10 (F := Ideal) (iblk m c 0 t) (iblk m c 1 t) (ix3 p r k) = Row.scale ((argsOf m c).norm p r) := by
    unfold k0_pay10
    rw [wide_at]
    exact scale_of m c t p r 0
  rw [code_at, norm_of, h]
  rfl

theorem arr2 : (dats m 0 c).arrAt 2 cfg0.N = (argsOf m c).codes := by
  refine (dats m 0 c).arrAt_eq_of_after_last 2 t0_0 (by decide +kernel) _ fun j => ?_
  blk_simp
  rw [after0_2]
  unfold out0_2 r0_2
  refine (congrFun (View.canon_cons_unit_lit' (by decide) _ [] (by decide)) _).trans ?_
  idx_vars j
  exact code_of m c t0_0 j0 j1 j2

theorem arr3 : (dats m 0 c).arrAt 3 cfg0.N = (argsOf m c).flatCodes := by
  refine (dats m 0 c).arrAt_eq_of_after_last 3 t0_0 (by decide +kernel) _ fun j => ?_
  blk_simp
  rw [after0_3]
  unfold out0_3 r0_3
  refine (congrFun (View.canon_cons_unit_lit' (by decide) _ [] (by decide)) _).trans ?_
  idx_vars j
  exact (flat_at _ _ j0 j1).trans (code_of m c t0_0 _ _ j1)

theorem arr4 : (dats m 0 c).arrAt 4 cfg0.N = (argsOf m c).scales := by
  refine (dats m 0 c).arrAt_eq_of_after_last 4 t0_0 (by decide +kernel) _ fun j => ?_
  blk_simp
  rw [after0_4]
  unfold out0_4 r0_4
  refine (congrFun (View.canon_cons_unit_lit' (by decide) _ [] (by decide)) _).trans ?_
  idx_vars j
  exact (byrow_at _ j0 j1).trans (scale_of m c t0_0 _ _ 0)

theorem arr5 : (dats m 0 c).arrAt 5 cfg0.N = (argsOf m c).laneScales := by
  refine (dats m 0 c).arrAt_eq_of_after_last 5 t0_0 (by decide +kernel) _ fun j => ?_
  blk_simp
  rw [after0_5]
  unfold out0_5 r0_5
  refine (congrFun (View.canon_cons_unit_lit' (by decide) _ [] (by decide)) _).trans ?_
  idx_vars j
  exact (lanes_at _ j0 j1).trans (scale_of m c t0_0 _ _ 0)

end Cert.Ln1RefIdeal.Value
-- ==== Proof.LnAlgebraic.lean ====
module

public import proofs.«01_k».proof.Proof.LnArrays
public import proofs.«01_k».proof.Proof.LnRef
public import proofs.«01_k».proof.Defs

/-!
# The two programs' first layer norms agree

Both leave the same four arrays, named from the arguments, in their results.
-/

set_option maxRecDepth 65536

@[expose] public section

noncomputable section

open Idealize.ShloMosaic Idealize.ShloMosaic.TcCoe Idealize.SL.Sem

namespace Cert.LnBoth

/-- Equal argument arrays are read as the same rows. -/
theorem args_eq (m : (ℓ : Loc Ln1Ideal.nD Ln1Ideal.τ Ln1Ideal.sig) → Buf (Elt Ideal) ℓ)
    (m' : (ℓ : Loc Ln1RefIdeal.nD Ln1RefIdeal.τ Ln1RefIdeal.sig) → Buf (Elt Ideal) ℓ) (c : Dev Ln1Ideal.nD)
    (h : m' ((c.tc : Thread Ln1RefIdeal.nD Ln1RefIdeal.τ).loc Ln1RefIdeal.main_arg0) = m ((c.tc : Thread Ln1Ideal.nD Ln1Ideal.τ).loc Ln1Ideal.main_arg0)
      ∧ m' ((c.tc : Thread Ln1RefIdeal.nD Ln1RefIdeal.τ).loc Ln1RefIdeal.main_arg1) = m ((c.tc : Thread Ln1Ideal.nD Ln1Ideal.τ).loc Ln1Ideal.main_arg1)) :
    Ln1RefIdeal.Value.argsOf m' c = Ln1Ideal.Value.argsOf m c :=
  congrArg₂ Row.LnArgs.mk
    (funext fun p => (funext fun r => (funext fun k => congrFun h.1 (ix3 r p k))))
    (funext fun q => (funext fun r => (funext fun k => congrFun h.2 (ix3 r q k))))

/-- The algebraic claim. -/
theorem algebraic : algebraic_Ln1Ideal_Ln1RefIdeal (hLn1Ideal := Ln1Ideal.Gen.facts) (hLn1RefIdeal := Ln1RefIdeal.Gen.facts) := by
  intro m g m' g' _ h
  refine ⟨fun c => (Ln1Ideal.Value.argsOf m c).codes, fun c => (Ln1Ideal.Value.argsOf m c).flatCodes, fun c => (Ln1Ideal.Value.argsOf m c).scales,
    fun c => (Ln1Ideal.Value.argsOf m c).laneScales, ?_, ?_⟩
  · refine (θ_run _ _ _).mono (fun r hr c => ?_) (Ln1Ideal.Value.run_blocks (F := Ideal) m g)
    obtain ⟨a0, a1, a2, a3, rest⟩ := hr c
    exact ⟨a0.trans (Ln1Ideal.Value.arr2 m c), a1.trans (Ln1Ideal.Value.arr3 m c), a2.trans (Ln1Ideal.Value.arr4 m c),
      a3.trans (Ln1Ideal.Value.arr5 m c), rest⟩
  · refine (θ_run _ _ _).mono (fun r hr c => ?_) (Ln1RefIdeal.Value.run_blocks (F := Ideal) m' g')
    obtain ⟨a0, a1, a2, a3, rest⟩ := hr c
    have e := args_eq m m' c (h c)
    exact ⟨(a0.trans (Ln1RefIdeal.Value.arr2 m' c)).trans (congrArg Row.LnArgs.codes e),
      (a1.trans (Ln1RefIdeal.Value.arr3 m' c)).trans (congrArg Row.LnArgs.flatCodes e),
      (a2.trans (Ln1RefIdeal.Value.arr4 m' c)).trans (congrArg Row.LnArgs.scales e),
      (a3.trans (Ln1RefIdeal.Value.arr5 m' c)).trans (congrArg Row.LnArgs.laneScales e), rest⟩

end Cert.LnBoth
-- ==== Proof.lean ====
/- The proof of the certificate: the frames come from the generated frame theorems, the named constants by the rule that
   reads them, the algebraic claims from Proof/Algebraic and Proof/LnAlgebraic. -/
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Skeleton
public import proofs.«01_k».proof.Proof.Gen.FfnRefIdeal.Launch
public import proofs.«01_k».proof.Proof.Gen.FfnRefIdeal.Points
public import proofs.«01_k».proof.Proof.Gen.FfnRefIdeal.Frame
public import proofs.«01_k».proof.Proof.Gen.FfnRef
public import proofs.«01_k».proof.Proof.Gen.FfnRef.Skeleton
public import proofs.«01_k».proof.Proof.Gen.FfnRef.Launch
public import proofs.«01_k».proof.Proof.Gen.FfnRef.Points
public import proofs.«01_k».proof.Proof.Gen.FfnRef.Frame
public import proofs.«01_k».proof.Proof.Gen.Ln1
public import proofs.«01_k».proof.Proof.Gen.Ln1.Skeleton
public import proofs.«01_k».proof.Proof.Gen.Ln1.Launch
public import proofs.«01_k».proof.Proof.Gen.Ln1.Points
public import proofs.«01_k».proof.Proof.Gen.Ln1.Frame
public import proofs.«01_k».proof.Proof.Gen.Ln1Ideal
public import proofs.«01_k».proof.Proof.Gen.Ln1Ideal.Skeleton
public import proofs.«01_k».proof.Proof.Gen.Ln1Ideal.Launch
public import proofs.«01_k».proof.Proof.Gen.Ln1Ideal.Points
public import proofs.«01_k».proof.Proof.Gen.Ln1Ideal.Frame
public import proofs.«01_k».proof.Proof.Gen.Ln1RefIdeal
public import proofs.«01_k».proof.Proof.Gen.Ln1RefIdeal.Skeleton
public import proofs.«01_k».proof.Proof.Gen.Ln1RefIdeal.Launch
public import proofs.«01_k».proof.Proof.Gen.Ln1RefIdeal.Points
public import proofs.«01_k».proof.Proof.Gen.Ln1RefIdeal.Frame
public import proofs.«01_k».proof.Proof.Gen.Ln1Ref
public import proofs.«01_k».proof.Proof.Gen.Ln1Ref.Skeleton
public import proofs.«01_k».proof.Proof.Gen.Ln1Ref.Launch
public import proofs.«01_k».proof.Proof.Gen.Ln1Ref.Points
public import proofs.«01_k».proof.Proof.Gen.Ln1Ref.Frame
public import proofs.«01_k».proof.Proof.Algebraic
public import proofs.«01_k».proof.Proof.LnAlgebraic
public import Idealize.ShloMosaic.Adequacy
public import Idealize.ShloMosaic.Init

@[expose] public section

noncomputable section

namespace Cert.Proof

open Idealize.ShloMosaic Idealize.SL.Sem Cert.Ffn

/-- Each named constant of the kernel is the exact value its name stands for, its bits that value rounded. -/
theorem kernel_consts : preserves_Ffn_FfnIdeal :=
  ⟨IdealRules.named_const.statement Cert.FfnIdeal.κ "inv448" .f32 0x3B124925#32 ((1 / 448 : ℝ) : EReal) rfl,
    IdealRules.named_const.statement Cert.FfnIdeal.κ "inv1920" .f32 0x3A088889#32 ((1 / 1920 : ℝ) : EReal) rfl,
    IdealRules.named_const.statement Cert.FfnIdeal.κ "rcube" .f32 0x3D122279#32 (((Real.sqrt (2 * Real.pi⁻¹)) * (8943 / 200000) : ℝ) : EReal) rfl,
    IdealRules.named_const.statement Cert.FfnIdeal.κ "root" .f32 0x3F4C422A#32 ((Real.sqrt (2 * Real.pi⁻¹) : ℝ) : EReal) rfl⟩

/-- The same of the reference's. -/
theorem ref_consts : preserves_FfnRef_FfnRefIdeal :=
  ⟨IdealRules.named_const.statement Cert.FfnRefIdeal.κ "cube" .f32 0x3D372713#32 ((8943 / 200000 : ℝ) : EReal) rfl,
    IdealRules.named_const.statement Cert.FfnRefIdeal.κ "root" .f32 0x3F4C422A#32 ((Real.sqrt (2 * Real.pi⁻¹) : ℝ) : EReal) rfl⟩

/-- The named constants of the first layer norm's kernel. Its reference has none. -/
theorem ln_consts : preserves_Ln1_Ln1Ideal :=
  ⟨IdealRules.named_const.statement Cert.Ln1Ideal.κ "inv1920" .f32 0x3A088889#32 ((1 / 1920 : ℝ) : EReal) rfl,
    IdealRules.named_const.statement Cert.Ln1Ideal.κ "inv448" .f32 0x3B124925#32 ((1 / 448 : ℝ) : EReal) rfl⟩

theorem claim : Cert.Claim := ⟨Cert.Ffn.Gen.facts, Cert.FfnIdeal.Gen.facts, Cert.FfnRefIdeal.Gen.facts, Cert.FfnRef.Gen.facts,
  Cert.Ln1.Gen.facts, Cert.Ln1Ideal.Gen.facts, Cert.Ln1RefIdeal.Gen.facts, Cert.Ln1Ref.Gen.facts,
  fun m g _ => Cert.Ffn.Gen.frame (F := Bits) m g, fun m g _ => Cert.FfnIdeal.Gen.frame (F := Ideal) m g,
  fun m g _ => Cert.FfnRefIdeal.Gen.frame (F := Ideal) m g, fun m g _ => Cert.FfnRef.Gen.frame (F := Bits) m g,
  fun m g _ => Cert.Ln1.Gen.frame (F := Bits) m g, fun m g _ => Cert.Ln1Ideal.Gen.frame (F := Ideal) m g,
  fun m g _ => Cert.Ln1RefIdeal.Gen.frame (F := Ideal) m g, fun m g _ => Cert.Ln1Ref.Gen.frame (F := Bits) m g,
  kernel_consts, ref_consts, Cert.Both.algebraic, ln_consts, trivial, Cert.LnBoth.algebraic⟩

end Cert.Proof

end
